-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 256]⟩ ⟨2, ![8192, 256]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 512]⟩ ⟨2, ![256, 16384]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 256]⟩ ⟨2, ![16384, 256]⟩ 0 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![256, 512]⟩ ⟨2, ![256, 16384]⟩ 1 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 256]⟩ ⟨2, ![16384, 256]⟩ 0 32 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![256, 512]⟩ ⟨2, ![256, 16384]⟩ 1 32 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![512, 256]⟩ ⟨2, ![16384, 256]⟩ 0 32 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v18) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x256 : Shape := ⟨2, ![256, 256]⟩
abbrev S256x512 : Shape := ⟨2, ![256, 512]⟩
abbrev S512x256 : Shape := ⟨2, ![512, 256]⟩
abbrev S32 : Shape := ⟨1, ![32]⟩
abbrev S8192x256 : Shape := ⟨2, ![8192, 256]⟩
abbrev S2 : Shape := ⟨1, ![2]⟩
abbrev S_ : Shape := ⟨0, ![]⟩
abbrev S1 : Shape := ⟨1, ![1]⟩
abbrev S1024x256 : Shape := ⟨2, ![1024, 256]⟩
abbrev S1024x512 : Shape := ⟨2, ![1024, 512]⟩

abbrev nBuf : Space → Nat
  | .hbm => 10
  | .vmem => 14
  | .smem => 2
  | _ => 0

abbrev bufTy : (tb : Table) → Fin (tcTables nBuf tb) → BufTy
  | .hbm, ⟨0, _⟩ => ⟨S256x256, .bf16⟩
  | .hbm, ⟨1, _⟩ => ⟨S256x512, .bf16⟩
  | .hbm, ⟨2, _⟩ => ⟨S512x256, .bf16⟩
  | .hbm, ⟨3, _⟩ => ⟨S256x512, .bf16⟩
  | .hbm, ⟨4, _⟩ => ⟨S512x256, .bf16⟩
  | .hbm, ⟨5, _⟩ => ⟨S256x512, .bf16⟩
  | .hbm, ⟨6, _⟩ => ⟨S512x256, .bf16⟩
  | .hbm, ⟨7, _⟩ => ⟨S32, .i32⟩
  | .hbm, ⟨8, _⟩ => ⟨S32, .i32⟩
  | .hbm, ⟨9, _⟩ => ⟨S8192x256, .f32⟩
  | .local _ .vmem, ⟨0, _⟩ => ⟨S256x256, .bf16⟩
  | .local _ .vmem, ⟨1, _⟩ => ⟨S256x512, .bf16⟩
  | .local _ .vmem, ⟨2, _⟩ => ⟨S512x256, .bf16⟩
  | .local _ .vmem, ⟨3, _⟩ => ⟨S256x512, .bf16⟩
  | .local _ .vmem, ⟨4, _⟩ => ⟨S512x256, .bf16⟩
  | .local _ .vmem, ⟨5, _⟩ => ⟨S256x512, .bf16⟩
  | .local _ .vmem, ⟨6, _⟩ => ⟨S512x256, .bf16⟩
  | .local _ .vmem, ⟨7, _⟩ => ⟨S8192x256, .f32⟩
  | .local _ .vmem, ⟨8, _⟩ => ⟨S8192x256, .bf16⟩
  | .local _ .vmem, ⟨9, _⟩ => ⟨S8192x256, .f32⟩
  | .local _ .vmem, ⟨10, _⟩ => ⟨S512x256, .f32⟩
  | .local _ .vmem, ⟨11, _⟩ => ⟨S512x256, .f32⟩
  | .local _ .vmem, ⟨12, _⟩ => ⟨S512x256, .bf16⟩
  | .local _ .vmem, ⟨13, _⟩ => ⟨S512x256, .bf16⟩
  | .local _ .smem, ⟨0, _⟩ => ⟨S32, .i32⟩
  | .local _ .smem, ⟨1, _⟩ => ⟨S32, .i32⟩
  | _, _ => ⟨S256x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | .smem, ⟨1, _⟩ => true
  | _, _ => false

abbrev semScoped : Fin 3 → Bool
  | ⟨0, _⟩ => true
  | ⟨1, _⟩ => true
  | ⟨2, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 3 18 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_v1 : Ref sig .tc := ⟨.hbm, 9, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg6_0 : Ref sig .tc := ⟨.vmem, 4, rfl⟩
abbrev cc0_stg7_0 : Ref sig .tc := ⟨.vmem, 5, rfl⟩
abbrev cc0_stg8_0 : Ref sig .tc := ⟨.vmem, 6, rfl⟩
abbrev cc0_stg9_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev barrier0 : Sem sig := 2

abbrev nD : Nat := 32
abbrev τ : Topo := Topo.v7x

variable {F : FTy → Type} [FloatOps F]

abbrev grid0 : Pipeline.Grid := .none

def k0_off1 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v3 : Index := Scalar.indexCast v2
  ![v3.toNat]
def k0_off2 (v4 : BitVec 32) : Fin 1 → Nat :=
  let c1_i32_0 : BitVec 32 := 1#32
  let v5 : BitVec 32 := Scalar.addi v4 c1_i32_0
  let c64_i32 : BitVec 32 := 64#32
  let v6 : BitVec 32 := Scalar.addi v5 c64_i32
  let c32_i32_1 : BitVec 32 := 32#32
  let v7 : BitVec 32 := Scalar.remsi v6 c32_i32_1
  let v8 : Index := Scalar.indexCast v7
  ![v8.toNat]

def k0_off3 (v4 : BitVec 32) : Fin 1 → Nat :=
  let c1_i32_2 : BitVec 32 := 1#32
  let v10 : BitVec 32 := Scalar.subi v4 c1_i32_2
  let c64_i32_3 : BitVec 32 := 64#32
  let v11 : BitVec 32 := Scalar.addi v10 c64_i32_3
  let c32_i32_4 : BitVec 32 := 32#32
  let v12 : BitVec 32 := Scalar.remsi v11 c32_i32_4
  let v13 : Index := Scalar.indexCast v12
  ![v13.toNat]
def k0_dev1 (v14 : BitVec 32) : Nat :=
  let c0_i32 : BitVec 32 := 0#32
  let c1_i32_6 : BitVec 32 := 1#32
  let v16 : BitVec 32 := Scalar.muli v14 c1_i32_6
  let v17 : BitVec 32 := Scalar.addi c0_i32 v16
  v17.toNat

def k0_dev2 (v9 : BitVec 32) : Nat :=
  let c0_i32_9 : BitVec 32 := 0#32
  let c1_i32_8 : BitVec 32 := 1#32
  let v18 : BitVec 32 := Scalar.muli v9 c1_i32_8
  let v19 : BitVec 32 := Scalar.addi c0_i32_9 v18
  v19.toNat

def k0_off4 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32 : BitVec 32 := 256#32
  let v22 : BitVec 32 := Scalar.muli v2 c256_i32
  let v23 : Index := Scalar.indexCast v22
  let c0_11 : Index := 0#32
  ![v23.toNat, 0]
@[reducible] def k0_t1_loop : Scf.Loop 32 :=
  let c0_i32_16 : BitVec 32 := 0#32
  let c7_i32 : BitVec 32 := 7#32
  let v33 : BitVec 32 := Scalar.addi c0_i32_16 c7_i32
  let c1_i32_17 : BitVec 32 := 1#32
  ⟨c0_i32_16, v33, c1_i32_17⟩
def k0_dev3 (v14 : BitVec 32) : Nat :=
  let c0_i32_1010 : BitVec 32 := 0#32
  let c1_i32_1009 : BitVec 32 := 1#32
  let v1001 : BitVec 32 := Scalar.muli v14 c1_i32_1009
  let v1002 : BitVec 32 := Scalar.addi c0_i32_1010 v1001
  v1002.toNat
def k0_dev4 (v9 : BitVec 32) : Nat :=
  let c0_i32_1013 : BitVec 32 := 0#32
  let c1_i32_1012 : BitVec 32 := 1#32
  let v1003 : BitVec 32 := Scalar.muli v9 c1_i32_1012
  let v1004 : BitVec 32 := Scalar.addi c0_i32_1013 v1003
  v1004.toNat
def k0_dev5 (v9 : BitVec 32) : Nat :=
  let c0_i32_1021 : BitVec 32 := 0#32
  let c1_i32_1020 : BitVec 32 := 1#32
  let v1005 : BitVec 32 := Scalar.muli v9 c1_i32_1020
  let v1006 : BitVec 32 := Scalar.addi c0_i32_1021 v1005
  v1006.toNat
def k0_dev6 (v14 : BitVec 32) : Nat :=
  let c0_i32_1029 : BitVec 32 := 0#32
  let c1_i32_1028 : BitVec 32 := 1#32
  let v1013 : BitVec 32 := Scalar.muli v14 c1_i32_1028
  let v1014 : BitVec 32 := Scalar.addi c0_i32_1029 v1013
  v1014.toNat
def k0_off5 (v4 : BitVec 32) (k0_t1 : Fin k0_t1_loop.trips) : Fin 1 → Nat :=
  let c1_i32_1064 : BitVec 32 := 1#32
  let v1041 : BitVec 32 := Scalar.subi v4 c1_i32_1064
  let c2_i32_1007 : BitVec 32 := 2#32
  let c0_i32_16 : BitVec 32 := 0#32
  let c1_i32_17 : BitVec 32 := 1#32
  let arg22 : BitVec 32 := Scf.iv c0_i32_16 c1_i32_17 k0_t1
  let v1000 : BitVec 32 := Scalar.muli c2_i32_1007 arg22
  let v1042 : BitVec 32 := Scalar.subi v1041 v1000
  let c64_i32_1065 : BitVec 32 := 64#32
  let v1043 : BitVec 32 := Scalar.addi v1042 c64_i32_1065
  let c32_i32_1066 : BitVec 32 := 32#32
  let v1044 : BitVec 32 := Scalar.remsi v1043 c32_i32_1066
  let v1045 : Index := Scalar.indexCast v1044
  ![v1045.toNat]
def k0_off6 (v1046 : BitVec 32) : Fin 2 → Nat :=
  let c256_i32_1069 : BitVec 32 := 256#32
  let v1048 : BitVec 32 := Scalar.muli v1046 c256_i32_1069
  let v1049 : Index := Scalar.indexCast v1048
  let c0_1070 : Index := 0#32
  ![v1049.toNat, 0]

def k0_chk4 (v1046 : BitVec 32) : Prop :=
  (∀ a, (k0_off6 v1046) a + S256x256.size a ≤ S8192x256.size a) ∧
  (∀ (hinb : ∀ a, (k0_off6 v1046) a + S256x256.size a ≤ S8192x256.size a), (Rect.unit (s := S8192x256) (k0_off6 v1046) S256x256.size hinb).PackedRows (EltTy.packing .bf16))
theorem k0_off6_inb : ∀ (v1046 : BitVec 32) (k0_hw4 : k0_chk4 v1046), ∀ a, (k0_off6 v1046) a + S256x256.size a ≤ S8192x256.size a := fun v1046 k0_hw4 => k0_hw4.1
theorem k0_off6_packedbf16 : ∀ (v1046 : BitVec 32) (k0_hw4 : k0_chk4 v1046), (Rect.unit (s := S8192x256) (k0_off6 v1046) S256x256.size (k0_off6_inb v1046 k0_hw4)).PackedRows (EltTy.packing .bf16) := fun v1046 k0_hw4 => k0_hw4.2 (k0_off6_inb v1046 k0_hw4)

def k0_off7 (v4 : BitVec 32) (k0_t1 : Fin k0_t1_loop.trips) : Fin 1 → Nat :=
  let c1_i32_1071 : BitVec 32 := 1#32
  let v1053 : BitVec 32 := Scalar.addi v4 c1_i32_1071
  let c2_i32_1007 : BitVec 32 := 2#32
  let c0_i32_16 : BitVec 32 := 0#32
  let c1_i32_17 : BitVec 32 := 1#32
  let arg22 : BitVec 32 := Scf.iv c0_i32_16 c1_i32_17 k0_t1
  let v1000 : BitVec 32 := Scalar.muli c2_i32_1007 arg22
  let v1054 : BitVec 32 := Scalar.addi v1053 v1000
  let c64_i32_1072 : BitVec 32 := 64#32
  let v1055 : BitVec 32 := Scalar.addi v1054 c64_i32_1072
  let c32_i32_1073 : BitVec 32 := 32#32
  let v1056 : BitVec 32 := Scalar.remsi v1055 c32_i32_1073
  let v1057 : Index := Scalar.indexCast v1056
  ![v1057.toNat]
def k0_off8 (v1058 : BitVec 32) : Fin 2 → Nat :=
  let c256_i32_1076 : BitVec 32 := 256#32
  let v1060 : BitVec 32 := Scalar.muli v1058 c256_i32_1076
  let v1061 : Index := Scalar.indexCast v1060
  let c0_1077 : Index := 0#32
  ![v1061.toNat, 0]

def k0_chk5 (v1058 : BitVec 32) : Prop :=
  (∀ a, (k0_off8 v1058) a + S256x256.size a ≤ S8192x256.size a) ∧
  (∀ (hinb : ∀ a, (k0_off8 v1058) a + S256x256.size a ≤ S8192x256.size a), (Rect.unit (s := S8192x256) (k0_off8 v1058) S256x256.size hinb).PackedRows (EltTy.packing .bf16))
theorem k0_off8_inb : ∀ (v1058 : BitVec 32) (k0_hw5 : k0_chk5 v1058), ∀ a, (k0_off8 v1058) a + S256x256.size a ≤ S8192x256.size a := fun v1058 k0_hw5 => k0_hw5.1
theorem k0_off8_packedbf16 : ∀ (v1058 : BitVec 32) (k0_hw5 : k0_chk5 v1058), (Rect.unit (s := S8192x256) (k0_off8 v1058) S256x256.size (k0_off8_inb v1058 k0_hw5)).PackedRows (EltTy.packing .bf16) := fun v1058 k0_hw5 => k0_hw5.2 (k0_off8_inb v1058 k0_hw5)

def k0_dev7 (v14 : BitVec 32) : Nat :=
  let c0_i32_1082 : BitVec 32 := 0#32
  let c1_i32_1081 : BitVec 32 := 1#32
  let v1067 : BitVec 32 := Scalar.muli v14 c1_i32_1081
  let v1068 : BitVec 32 := Scalar.addi c0_i32_1082 v1067
  v1068.toNat
def k0_dev8 (v9 : BitVec 32) : Nat :=
  let c0_i32_1085 : BitVec 32 := 0#32
  let c1_i32_1084 : BitVec 32 := 1#32
  let v1069 : BitVec 32 := Scalar.muli v9 c1_i32_1084
  let v1070 : BitVec 32 := Scalar.addi c0_i32_1085 v1069
  v1070.toNat
def k0_dev9 (v9 : BitVec 32) : Nat :=
  let c0_i32_1093 : BitVec 32 := 0#32
  let c1_i32_1092 : BitVec 32 := 1#32
  let v1071 : BitVec 32 := Scalar.muli v9 c1_i32_1092
  let v1072 : BitVec 32 := Scalar.addi c0_i32_1093 v1071
  v1072.toNat
def k0_dev10 (v14 : BitVec 32) : Nat :=
  let c0_i32_1101 : BitVec 32 := 0#32
  let c1_i32_1100 : BitVec 32 := 1#32
  let v1079 : BitVec 32 := Scalar.muli v14 c1_i32_1100
  let v1080 : BitVec 32 := Scalar.addi c0_i32_1101 v1079
  v1080.toNat
def k0_off9 (v4 : BitVec 32) (k0_t1 : Fin k0_t1_loop.trips) : Fin 1 → Nat :=
  let c1_i32_1136 : BitVec 32 := 1#32
  let v1107 : BitVec 32 := Scalar.subi v4 c1_i32_1136
  let c2_i32_1078 : BitVec 32 := 2#32
  let c0_i32_16 : BitVec 32 := 0#32
  let c1_i32_17 : BitVec 32 := 1#32
  let arg22 : BitVec 32 := Scf.iv c0_i32_16 c1_i32_17 k0_t1
  let v1065 : BitVec 32 := Scalar.muli c2_i32_1078 arg22
  let c1_i32_1079 : BitVec 32 := 1#32
  let v1066 : BitVec 32 := Scalar.addi v1065 c1_i32_1079
  let v1108 : BitVec 32 := Scalar.subi v1107 v1066
  let c64_i32_1137 : BitVec 32 := 64#32
  let v1109 : BitVec 32 := Scalar.addi v1108 c64_i32_1137
  let c32_i32_1138 : BitVec 32 := 32#32
  let v1110 : BitVec 32 := Scalar.remsi v1109 c32_i32_1138
  let v1111 : Index := Scalar.indexCast v1110
  ![v1111.toNat]
def k0_off10 (v1112 : BitVec 32) : Fin 2 → Nat :=
  let c256_i32_1141 : BitVec 32 := 256#32
  let v1114 : BitVec 32 := Scalar.muli v1112 c256_i32_1141
  let v1115 : Index := Scalar.indexCast v1114
  let c0_1142 : Index := 0#32
  ![v1115.toNat, 0]

def k0_chk6 (v1112 : BitVec 32) : Prop :=
  (∀ a, (k0_off10 v1112) a + S256x256.size a ≤ S8192x256.size a) ∧
  (∀ (hinb : ∀ a, (k0_off10 v1112) a + S256x256.size a ≤ S8192x256.size a), (Rect.unit (s := S8192x256) (k0_off10 v1112) S256x256.size hinb).PackedRows (EltTy.packing .bf16))
theorem k0_off10_inb : ∀ (v1112 : BitVec 32) (k0_hw6 : k0_chk6 v1112), ∀ a, (k0_off10 v1112) a + S256x256.size a ≤ S8192x256.size a := fun v1112 k0_hw6 => k0_hw6.1
theorem k0_off10_packedbf16 : ∀ (v1112 : BitVec 32) (k0_hw6 : k0_chk6 v1112), (Rect.unit (s := S8192x256) (k0_off10 v1112) S256x256.size (k0_off10_inb v1112 k0_hw6)).PackedRows (EltTy.packing .bf16) := fun v1112 k0_hw6 => k0_hw6.2 (k0_off10_inb v1112 k0_hw6)

def k0_off11 (v4 : BitVec 32) (k0_t1 : Fin k0_t1_loop.trips) : Fin 1 → Nat :=
  let c1_i32_1143 : BitVec 32 := 1#32
  let v1119 : BitVec 32 := Scalar.addi v4 c1_i32_1143
  let c2_i32_1078 : BitVec 32 := 2#32
  let c0_i32_16 : BitVec 32 := 0#32
  let c1_i32_17 : BitVec 32 := 1#32
  let arg22 : BitVec 32 := Scf.iv c0_i32_16 c1_i32_17 k0_t1
  let v1065 : BitVec 32 := Scalar.muli c2_i32_1078 arg22
  let c1_i32_1079 : BitVec 32 := 1#32
  let v1066 : BitVec 32 := Scalar.addi v1065 c1_i32_1079
  let v1120 : BitVec 32 := Scalar.addi v1119 v1066
  let c64_i32_1144 : BitVec 32 := 64#32
  let v1121 : BitVec 32 := Scalar.addi v1120 c64_i32_1144
  let c32_i32_1145 : BitVec 32 := 32#32
  let v1122 : BitVec 32 := Scalar.remsi v1121 c32_i32_1145
  let v1123 : Index := Scalar.indexCast v1122
  ![v1123.toNat]
def k0_off12 (v1124 : BitVec 32) : Fin 2 → Nat :=
  let c256_i32_1148 : BitVec 32 := 256#32
  let v1126 : BitVec 32 := Scalar.muli v1124 c256_i32_1148
  let v1127 : Index := Scalar.indexCast v1126
  let c0_1149 : Index := 0#32
  ![v1127.toNat, 0]

def k0_chk7 (v1124 : BitVec 32) : Prop :=
  (∀ a, (k0_off12 v1124) a + S256x256.size a ≤ S8192x256.size a) ∧
  (∀ (hinb : ∀ a, (k0_off12 v1124) a + S256x256.size a ≤ S8192x256.size a), (Rect.unit (s := S8192x256) (k0_off12 v1124) S256x256.size hinb).PackedRows (EltTy.packing .bf16))
theorem k0_off12_inb : ∀ (v1124 : BitVec 32) (k0_hw7 : k0_chk7 v1124), ∀ a, (k0_off12 v1124) a + S256x256.size a ≤ S8192x256.size a := fun v1124 k0_hw7 => k0_hw7.1
theorem k0_off12_packedbf16 : ∀ (v1124 : BitVec 32) (k0_hw7 : k0_chk7 v1124), (Rect.unit (s := S8192x256) (k0_off12 v1124) S256x256.size (k0_off12_inb v1124 k0_hw7)).PackedRows (EltTy.packing .bf16) := fun v1124 k0_hw7 => k0_hw7.2 (k0_off12_inb v1124 k0_hw7)

def k0_dev11 (v14 : BitVec 32) : Nat :=
  let c0_i32_21 : BitVec 32 := 0#32
  let c1_i32_20 : BitVec 32 := 1#32
  let v34 : BitVec 32 := Scalar.muli v14 c1_i32_20
  let v35 : BitVec 32 := Scalar.addi c0_i32_21 v34
  v35.toNat
def k0_dev12 (v9 : BitVec 32) : Nat :=
  let c0_i32_24 : BitVec 32 := 0#32
  let c1_i32_23 : BitVec 32 := 1#32
  let v36 : BitVec 32 := Scalar.muli v9 c1_i32_23
  let v37 : BitVec 32 := Scalar.addi c0_i32_24 v36
  v37.toNat
def k0_dev13 (v9 : BitVec 32) : Nat :=
  let c0_i32_32 : BitVec 32 := 0#32
  let c1_i32_31 : BitVec 32 := 1#32
  let v38 : BitVec 32 := Scalar.muli v9 c1_i32_31
  let v39 : BitVec 32 := Scalar.addi c0_i32_32 v38
  v39.toNat
def k0_dev14 (v14 : BitVec 32) : Nat :=
  let c0_i32_40 : BitVec 32 := 0#32
  let c1_i32_39 : BitVec 32 := 1#32
  let v46 : BitVec 32 := Scalar.muli v14 c1_i32_39
  let v47 : BitVec 32 := Scalar.addi c0_i32_40 v46
  v47.toNat
def k0_off13 (v4 : BitVec 32) : Fin 1 → Nat :=
  let c1_i32_75 : BitVec 32 := 1#32
  let v74 : BitVec 32 := Scalar.subi v4 c1_i32_75
  let c14_i32 : BitVec 32 := 14#32
  let v75 : BitVec 32 := Scalar.subi v74 c14_i32
  let c64_i32_76 : BitVec 32 := 64#32
  let v76 : BitVec 32 := Scalar.addi v75 c64_i32_76
  let c32_i32_77 : BitVec 32 := 32#32
  let v77 : BitVec 32 := Scalar.remsi v76 c32_i32_77
  let v78 : Index := Scalar.indexCast v77
  ![v78.toNat]
def k0_off14 (v79 : BitVec 32) : Fin 2 → Nat :=
  let c256_i32_79 : BitVec 32 := 256#32
  let v81 : BitVec 32 := Scalar.muli v79 c256_i32_79
  let v82 : Index := Scalar.indexCast v81
  let c0_80 : Index := 0#32
  ![v82.toNat, 0]

def k0_chk8 (v79 : BitVec 32) : Prop :=
  (∀ a, (k0_off14 v79) a + S256x256.size a ≤ S8192x256.size a) ∧
  (∀ (hinb : ∀ a, (k0_off14 v79) a + S256x256.size a ≤ S8192x256.size a), (Rect.unit (s := S8192x256) (k0_off14 v79) S256x256.size hinb).PackedRows (EltTy.packing .bf16))
theorem k0_off14_inb : ∀ (v79 : BitVec 32) (k0_hw8 : k0_chk8 v79), ∀ a, (k0_off14 v79) a + S256x256.size a ≤ S8192x256.size a := fun v79 k0_hw8 => k0_hw8.1
theorem k0_off14_packedbf16 : ∀ (v79 : BitVec 32) (k0_hw8 : k0_chk8 v79), (Rect.unit (s := S8192x256) (k0_off14 v79) S256x256.size (k0_off14_inb v79 k0_hw8)).PackedRows (EltTy.packing .bf16) := fun v79 k0_hw8 => k0_hw8.2 (k0_off14_inb v79 k0_hw8)

def k0_off15 (v4 : BitVec 32) : Fin 1 → Nat :=
  let c1_i32_81 : BitVec 32 := 1#32
  let v86 : BitVec 32 := Scalar.addi v4 c1_i32_81
  let c14_i32_82 : BitVec 32 := 14#32
  let v87 : BitVec 32 := Scalar.addi v86 c14_i32_82
  let c64_i32_83 : BitVec 32 := 64#32
  let v88 : BitVec 32 := Scalar.addi v87 c64_i32_83
  let c32_i32_84 : BitVec 32 := 32#32
  let v89 : BitVec 32 := Scalar.remsi v88 c32_i32_84
  let v90 : Index := Scalar.indexCast v89
  ![v90.toNat]
def k0_off16 (v91 : BitVec 32) : Fin 2 → Nat :=
  let c256_i32_87 : BitVec 32 := 256#32
  let v93 : BitVec 32 := Scalar.muli v91 c256_i32_87
  let v94 : Index := Scalar.indexCast v93
  let c0_88 : Index := 0#32
  ![v94.toNat, 0]

def k0_chk9 (v91 : BitVec 32) : Prop :=
  (∀ a, (k0_off16 v91) a + S256x256.size a ≤ S8192x256.size a) ∧
  (∀ (hinb : ∀ a, (k0_off16 v91) a + S256x256.size a ≤ S8192x256.size a), (Rect.unit (s := S8192x256) (k0_off16 v91) S256x256.size hinb).PackedRows (EltTy.packing .bf16))
theorem k0_off16_inb : ∀ (v91 : BitVec 32) (k0_hw9 : k0_chk9 v91), ∀ a, (k0_off16 v91) a + S256x256.size a ≤ S8192x256.size a := fun v91 k0_hw9 => k0_hw9.1
theorem k0_off16_packedbf16 : ∀ (v91 : BitVec 32) (k0_hw9 : k0_chk9 v91), (Rect.unit (s := S8192x256) (k0_off16 v91) S256x256.size (k0_off16_inb v91 k0_hw9)).PackedRows (EltTy.packing .bf16) := fun v91 k0_hw9 => k0_hw9.2 (k0_off16_inb v91 k0_hw9)

def k0_dev15 (v14 : BitVec 32) : Nat :=
  let c0_i32_91 : BitVec 32 := 0#32
  let c1_i32_90 : BitVec 32 := 1#32
  let v98 : BitVec 32 := Scalar.muli v14 c1_i32_90
  let v99 : BitVec 32 := Scalar.addi c0_i32_91 v98
  v99.toNat
def k0_dev16 (v9 : BitVec 32) : Nat :=
  let c0_i32_97 : BitVec 32 := 0#32
  let c1_i32_96 : BitVec 32 := 1#32
  let v100 : BitVec 32 := Scalar.muli v9 c1_i32_96
  let v101 : BitVec 32 := Scalar.addi c0_i32_97 v100
  v101.toNat
def k0_off17 (v4 : BitVec 32) : Fin 1 → Nat :=
  let c1_i32_117 : BitVec 32 := 1#32
  let v118 : BitVec 32 := Scalar.subi v4 c1_i32_117
  let c15_i32 : BitVec 32 := 15#32
  let v119 : BitVec 32 := Scalar.subi v118 c15_i32
  let c64_i32_118 : BitVec 32 := 64#32
  let v120 : BitVec 32 := Scalar.addi v119 c64_i32_118
  let c32_i32_119 : BitVec 32 := 32#32
  let v121 : BitVec 32 := Scalar.remsi v120 c32_i32_119
  let v122 : Index := Scalar.indexCast v121
  ![v122.toNat]
def k0_off18 (v123 : BitVec 32) : Fin 2 → Nat :=
  let c256_i32_122 : BitVec 32 := 256#32
  let v125 : BitVec 32 := Scalar.muli v123 c256_i32_122
  let v126 : Index := Scalar.indexCast v125
  let c0_123 : Index := 0#32
  ![v126.toNat, 0]

def k0_chk10 (v123 : BitVec 32) : Prop :=
  (∀ a, (k0_off18 v123) a + S256x256.size a ≤ S8192x256.size a) ∧
  (∀ (hinb : ∀ a, (k0_off18 v123) a + S256x256.size a ≤ S8192x256.size a), (Rect.unit (s := S8192x256) (k0_off18 v123) S256x256.size hinb).PackedRows (EltTy.packing .bf16))
theorem k0_off18_inb : ∀ (v123 : BitVec 32) (k0_hw10 : k0_chk10 v123), ∀ a, (k0_off18 v123) a + S256x256.size a ≤ S8192x256.size a := fun v123 k0_hw10 => k0_hw10.1
theorem k0_off18_packedbf16 : ∀ (v123 : BitVec 32) (k0_hw10 : k0_chk10 v123), (Rect.unit (s := S8192x256) (k0_off18 v123) S256x256.size (k0_off18_inb v123 k0_hw10)).PackedRows (EltTy.packing .bf16) := fun v123 k0_hw10 => k0_hw10.2 (k0_off18_inb v123 k0_hw10)

def k0_off19 (v4 : BitVec 32) : Fin 1 → Nat :=
  let c16_i32 : BitVec 32 := 16#32
  let v206 : BitVec 32 := Scalar.addi v4 c16_i32
  let c64_i32_176 : BitVec 32 := 64#32
  let v207 : BitVec 32 := Scalar.addi v206 c64_i32_176
  let c32_i32_177 : BitVec 32 := 32#32
  let v208 : BitVec 32 := Scalar.remsi v207 c32_i32_177
  let v209 : Index := Scalar.indexCast v208
  ![v209.toNat]
def k0_off20 (v210 : BitVec 32) : Fin 2 → Nat :=
  let c256_i32_178 : BitVec 32 := 256#32
  let v211 : BitVec 32 := Scalar.muli v210 c256_i32_178
  let v212 : Index := Scalar.indexCast v211
  let c0_179 : Index := 0#32
  ![v212.toNat, 0]

def k0_chk11 (v210 : BitVec 32) : Prop :=
  (∀ a, (k0_off20 v210) a + S256x256.size a ≤ S8192x256.size a)
theorem k0_off20_inb : ∀ (v210 : BitVec 32) (k0_hw11 : k0_chk11 v210), ∀ a, (k0_off20 v210) a + S256x256.size a ≤ S8192x256.size a := fun v210 k0_hw11 => k0_hw11

def k0_off21 (v4 : BitVec 32) : Fin 1 → Nat :=
  let c15_i32_182 : BitVec 32 := 15#32
  let v217 : BitVec 32 := Scalar.subi v4 c15_i32_182
  let c64_i32_183 : BitVec 32 := 64#32
  let v218 : BitVec 32 := Scalar.addi v217 c64_i32_183
  let c32_i32_184 : BitVec 32 := 32#32
  let v219 : BitVec 32 := Scalar.remsi v218 c32_i32_184
  let v220 : Index := Scalar.indexCast v219
  ![v220.toNat]
def k0_off22 (v221 : BitVec 32) : Fin 2 → Nat :=
  let c256_i32_185 : BitVec 32 := 256#32
  let v222 : BitVec 32 := Scalar.muli v221 c256_i32_185
  let v223 : Index := Scalar.indexCast v222
  let c0_186 : Index := 0#32
  ![v223.toNat, 0]

def k0_chk12 (v221 : BitVec 32) : Prop :=
  (∀ a, (k0_off22 v221) a + S256x256.size a ≤ S8192x256.size a)
theorem k0_off22_inb : ∀ (v221 : BitVec 32) (k0_hw12 : k0_chk12 v221), ∀ a, (k0_off22 v221) a + S256x256.size a ≤ S8192x256.size a := fun v221 k0_hw12 => k0_hw12

@[reducible] def k0_t2_loop : Scf.Loop 32 :=
  let c0_i32_189 : BitVec 32 := 0#32
  let c7_i32_190 : BitVec 32 := 7#32
  let v228 : BitVec 32 := Scalar.addi c0_i32_189 c7_i32_190
  let c1_i32_191 : BitVec 32 := 1#32
  ⟨c0_i32_189, v228, c1_i32_191⟩
def k0_dev17 (v14 : BitVec 32) : Nat :=
  let c0_i32_1010 : BitVec 32 := 0#32
  let c1_i32_1009 : BitVec 32 := 1#32
  let v1001 : BitVec 32 := Scalar.muli v14 c1_i32_1009
  let v1002 : BitVec 32 := Scalar.addi c0_i32_1010 v1001
  v1002.toNat
def k0_dev18 (v9 : BitVec 32) : Nat :=
  let c0_i32_1013 : BitVec 32 := 0#32
  let c1_i32_1012 : BitVec 32 := 1#32
  let v1003 : BitVec 32 := Scalar.muli v9 c1_i32_1012
  let v1004 : BitVec 32 := Scalar.addi c0_i32_1013 v1003
  v1004.toNat
def k0_dev19 (v9 : BitVec 32) : Nat :=
  let c0_i32_1021 : BitVec 32 := 0#32
  let c1_i32_1020 : BitVec 32 := 1#32
  let v1005 : BitVec 32 := Scalar.muli v9 c1_i32_1020
  let v1006 : BitVec 32 := Scalar.addi c0_i32_1021 v1005
  v1006.toNat
def k0_dev20 (v14 : BitVec 32) : Nat :=
  let c0_i32_1029 : BitVec 32 := 0#32
  let c1_i32_1028 : BitVec 32 := 1#32
  let v1013 : BitVec 32 := Scalar.muli v14 c1_i32_1028
  let v1014 : BitVec 32 := Scalar.addi c0_i32_1029 v1013
  v1014.toNat
def k0_off23 (v4 : BitVec 32) (k0_t2 : Fin k0_t2_loop.trips) : Fin 1 → Nat :=
  let c15_i32_1064 : BitVec 32 := 15#32
  let v1041 : BitVec 32 := Scalar.addi v4 c15_i32_1064
  let c2_i32_1007 : BitVec 32 := 2#32
  let c0_i32_189 : BitVec 32 := 0#32
  let c1_i32_191 : BitVec 32 := 1#32
  let arg22 : BitVec 32 := Scf.iv c0_i32_189 c1_i32_191 k0_t2
  let v1000 : BitVec 32 := Scalar.muli c2_i32_1007 arg22
  let v1042 : BitVec 32 := Scalar.subi v1041 v1000
  let c64_i32_1065 : BitVec 32 := 64#32
  let v1043 : BitVec 32 := Scalar.addi v1042 c64_i32_1065
  let c32_i32_1066 : BitVec 32 := 32#32
  let v1044 : BitVec 32 := Scalar.remsi v1043 c32_i32_1066
  let v1045 : Index := Scalar.indexCast v1044
  ![v1045.toNat]
def k0_off24 (v1046 : BitVec 32) : Fin 2 → Nat :=
  let c256_i32_1069 : BitVec 32 := 256#32
  let v1048 : BitVec 32 := Scalar.muli v1046 c256_i32_1069
  let v1049 : Index := Scalar.indexCast v1048
  let c0_1070 : Index := 0#32
  ![v1049.toNat, 0]

def k0_chk13 (v1046 : BitVec 32) : Prop :=
  (∀ a, (k0_off24 v1046) a + S256x256.size a ≤ S8192x256.size a)
theorem k0_off24_inb : ∀ (v1046 : BitVec 32) (k0_hw13 : k0_chk13 v1046), ∀ a, (k0_off24 v1046) a + S256x256.size a ≤ S8192x256.size a := fun v1046 k0_hw13 => k0_hw13

def k0_off25 (v4 : BitVec 32) (k0_t2 : Fin k0_t2_loop.trips) : Fin 1 → Nat :=
  let c14_i32_1073 : BitVec 32 := 14#32
  let v1055 : BitVec 32 := Scalar.subi v4 c14_i32_1073
  let c2_i32_1007 : BitVec 32 := 2#32
  let c0_i32_189 : BitVec 32 := 0#32
  let c1_i32_191 : BitVec 32 := 1#32
  let arg22 : BitVec 32 := Scf.iv c0_i32_189 c1_i32_191 k0_t2
  let v1000 : BitVec 32 := Scalar.muli c2_i32_1007 arg22
  let v1056 : BitVec 32 := Scalar.addi v1055 v1000
  let c64_i32_1074 : BitVec 32 := 64#32
  let v1057 : BitVec 32 := Scalar.addi v1056 c64_i32_1074
  let c32_i32_1075 : BitVec 32 := 32#32
  let v1058 : BitVec 32 := Scalar.remsi v1057 c32_i32_1075
  let v1059 : Index := Scalar.indexCast v1058
  ![v1059.toNat]
def k0_off26 (v1060 : BitVec 32) : Fin 2 → Nat :=
  let c256_i32_1078 : BitVec 32 := 256#32
  let v1062 : BitVec 32 := Scalar.muli v1060 c256_i32_1078
  let v1063 : Index := Scalar.indexCast v1062
  let c0_1079 : Index := 0#32
  ![v1063.toNat, 0]

def k0_chk14 (v1060 : BitVec 32) : Prop :=
  (∀ a, (k0_off26 v1060) a + S256x256.size a ≤ S8192x256.size a)
theorem k0_off26_inb : ∀ (v1060 : BitVec 32) (k0_hw14 : k0_chk14 v1060), ∀ a, (k0_off26 v1060) a + S256x256.size a ≤ S8192x256.size a := fun v1060 k0_hw14 => k0_hw14

def k0_dev21 (v14 : BitVec 32) : Nat :=
  let c0_i32_1086 : BitVec 32 := 0#32
  let c1_i32_1085 : BitVec 32 := 1#32
  let v1071 : BitVec 32 := Scalar.muli v14 c1_i32_1085
  let v1072 : BitVec 32 := Scalar.addi c0_i32_1086 v1071
  v1072.toNat
def k0_dev22 (v9 : BitVec 32) : Nat :=
  let c0_i32_1089 : BitVec 32 := 0#32
  let c1_i32_1088 : BitVec 32 := 1#32
  let v1073 : BitVec 32 := Scalar.muli v9 c1_i32_1088
  let v1074 : BitVec 32 := Scalar.addi c0_i32_1089 v1073
  v1074.toNat
def k0_dev23 (v9 : BitVec 32) : Nat :=
  let c0_i32_1097 : BitVec 32 := 0#32
  let c1_i32_1096 : BitVec 32 := 1#32
  let v1075 : BitVec 32 := Scalar.muli v9 c1_i32_1096
  let v1076 : BitVec 32 := Scalar.addi c0_i32_1097 v1075
  v1076.toNat
def k0_dev24 (v14 : BitVec 32) : Nat :=
  let c0_i32_1105 : BitVec 32 := 0#32
  let c1_i32_1104 : BitVec 32 := 1#32
  let v1083 : BitVec 32 := Scalar.muli v14 c1_i32_1104
  let v1084 : BitVec 32 := Scalar.addi c0_i32_1105 v1083
  v1084.toNat
def k0_off27 (v4 : BitVec 32) (k0_t2 : Fin k0_t2_loop.trips) : Fin 1 → Nat :=
  let c15_i32_1140 : BitVec 32 := 15#32
  let v1111 : BitVec 32 := Scalar.addi v4 c15_i32_1140
  let c2_i32_1082 : BitVec 32 := 2#32
  let c0_i32_189 : BitVec 32 := 0#32
  let c1_i32_191 : BitVec 32 := 1#32
  let arg22 : BitVec 32 := Scf.iv c0_i32_189 c1_i32_191 k0_t2
  let v1069 : BitVec 32 := Scalar.muli c2_i32_1082 arg22
  let c1_i32_1083 : BitVec 32 := 1#32
  let v1070 : BitVec 32 := Scalar.addi v1069 c1_i32_1083
  let v1112 : BitVec 32 := Scalar.subi v1111 v1070
  let c64_i32_1141 : BitVec 32 := 64#32
  let v1113 : BitVec 32 := Scalar.addi v1112 c64_i32_1141
  let c32_i32_1142 : BitVec 32 := 32#32
  let v1114 : BitVec 32 := Scalar.remsi v1113 c32_i32_1142
  let v1115 : Index := Scalar.indexCast v1114
  ![v1115.toNat]
def k0_off28 (v1116 : BitVec 32) : Fin 2 → Nat :=
  let c256_i32_1145 : BitVec 32 := 256#32
  let v1118 : BitVec 32 := Scalar.muli v1116 c256_i32_1145
  let v1119 : Index := Scalar.indexCast v1118
  let c0_1146 : Index := 0#32
  ![v1119.toNat, 0]

def k0_chk15 (v1116 : BitVec 32) : Prop :=
  (∀ a, (k0_off28 v1116) a + S256x256.size a ≤ S8192x256.size a)
theorem k0_off28_inb : ∀ (v1116 : BitVec 32) (k0_hw15 : k0_chk15 v1116), ∀ a, (k0_off28 v1116) a + S256x256.size a ≤ S8192x256.size a := fun v1116 k0_hw15 => k0_hw15

def k0_off29 (v4 : BitVec 32) (k0_t2 : Fin k0_t2_loop.trips) : Fin 1 → Nat :=
  let c14_i32_1149 : BitVec 32 := 14#32
  let v1125 : BitVec 32 := Scalar.subi v4 c14_i32_1149
  let c2_i32_1082 : BitVec 32 := 2#32
  let c0_i32_189 : BitVec 32 := 0#32
  let c1_i32_191 : BitVec 32 := 1#32
  let arg22 : BitVec 32 := Scf.iv c0_i32_189 c1_i32_191 k0_t2
  let v1069 : BitVec 32 := Scalar.muli c2_i32_1082 arg22
  let c1_i32_1083 : BitVec 32 := 1#32
  let v1070 : BitVec 32 := Scalar.addi v1069 c1_i32_1083
  let v1126 : BitVec 32 := Scalar.addi v1125 v1070
  let c64_i32_1150 : BitVec 32 := 64#32
  let v1127 : BitVec 32 := Scalar.addi v1126 c64_i32_1150
  let c32_i32_1151 : BitVec 32 := 32#32
  let v1128 : BitVec 32 := Scalar.remsi v1127 c32_i32_1151
  let v1129 : Index := Scalar.indexCast v1128
  ![v1129.toNat]
def k0_off30 (v1130 : BitVec 32) : Fin 2 → Nat :=
  let c256_i32_1154 : BitVec 32 := 256#32
  let v1132 : BitVec 32 := Scalar.muli v1130 c256_i32_1154
  let v1133 : Index := Scalar.indexCast v1132
  let c0_1155 : Index := 0#32
  ![v1133.toNat, 0]

def k0_chk16 (v1130 : BitVec 32) : Prop :=
  (∀ a, (k0_off30 v1130) a + S256x256.size a ≤ S8192x256.size a)
theorem k0_off30_inb : ∀ (v1130 : BitVec 32) (k0_hw16 : k0_chk16 v1130), ∀ a, (k0_off30 v1130) a + S256x256.size a ≤ S8192x256.size a := fun v1130 k0_hw16 => k0_hw16

def k0_dev25 (v14 : BitVec 32) : Nat :=
  let c0_i32_195 : BitVec 32 := 0#32
  let c1_i32_194 : BitVec 32 := 1#32
  let v229 : BitVec 32 := Scalar.muli v14 c1_i32_194
  let v230 : BitVec 32 := Scalar.addi c0_i32_195 v229
  v230.toNat
def k0_dev26 (v9 : BitVec 32) : Nat :=
  let c0_i32_198 : BitVec 32 := 0#32
  let c1_i32_197 : BitVec 32 := 1#32
  let v231 : BitVec 32 := Scalar.muli v9 c1_i32_197
  let v232 : BitVec 32 := Scalar.addi c0_i32_198 v231
  v232.toNat
def k0_dev27 (v9 : BitVec 32) : Nat :=
  let c0_i32_206 : BitVec 32 := 0#32
  let c1_i32_205 : BitVec 32 := 1#32
  let v233 : BitVec 32 := Scalar.muli v9 c1_i32_205
  let v234 : BitVec 32 := Scalar.addi c0_i32_206 v233
  v234.toNat
def k0_dev28 (v14 : BitVec 32) : Nat :=
  let c0_i32_214 : BitVec 32 := 0#32
  let c1_i32_213 : BitVec 32 := 1#32
  let v241 : BitVec 32 := Scalar.muli v14 c1_i32_213
  let v242 : BitVec 32 := Scalar.addi c0_i32_214 v241
  v242.toNat
def k0_off31 (v4 : BitVec 32) : Fin 1 → Nat :=
  let c15_i32_249 : BitVec 32 := 15#32
  let v269 : BitVec 32 := Scalar.addi v4 c15_i32_249
  let c14_i32_250 : BitVec 32 := 14#32
  let v270 : BitVec 32 := Scalar.subi v269 c14_i32_250
  let c64_i32_251 : BitVec 32 := 64#32
  let v271 : BitVec 32 := Scalar.addi v270 c64_i32_251
  let c32_i32_252 : BitVec 32 := 32#32
  let v272 : BitVec 32 := Scalar.remsi v271 c32_i32_252
  let v273 : Index := Scalar.indexCast v272
  ![v273.toNat]
def k0_off32 (v274 : BitVec 32) : Fin 2 → Nat :=
  let c256_i32_255 : BitVec 32 := 256#32
  let v276 : BitVec 32 := Scalar.muli v274 c256_i32_255
  let v277 : Index := Scalar.indexCast v276
  let c0_256 : Index := 0#32
  ![v277.toNat, 0]

def k0_chk17 (v274 : BitVec 32) : Prop :=
  (∀ a, (k0_off32 v274) a + S256x256.size a ≤ S8192x256.size a)
theorem k0_off32_inb : ∀ (v274 : BitVec 32) (k0_hw17 : k0_chk17 v274), ∀ a, (k0_off32 v274) a + S256x256.size a ≤ S8192x256.size a := fun v274 k0_hw17 => k0_hw17

def k0_dev29 (v14 : BitVec 32) : Nat :=
  let c0_i32_261 : BitVec 32 := 0#32
  let c1_i32_260 : BitVec 32 := 1#32
  let v283 : BitVec 32 := Scalar.muli v14 c1_i32_260
  let v284 : BitVec 32 := Scalar.addi c0_i32_261 v283
  v284.toNat
def k0_dev30 (v9 : BitVec 32) : Nat :=
  let c0_i32_267 : BitVec 32 := 0#32
  let c1_i32_266 : BitVec 32 := 1#32
  let v285 : BitVec 32 := Scalar.muli v9 c1_i32_266
  let v286 : BitVec 32 := Scalar.addi c0_i32_267 v285
  v286.toNat
def k0_off33 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32_291 : BitVec 32 := 256#32
  let v306 : BitVec 32 := Scalar.muli v2 c256_i32_291
  let v307 : Index := Scalar.indexCast v306
  let c0_292 : Index := 0#32
  ![v307.toNat, 0]
@[reducible] def k0_t3_loop : Scf.Loop 32 :=
  let c0_i32_299 : BitVec 32 := 0#32
  let c7_i32_300 : BitVec 32 := 7#32
  let v322 : BitVec 32 := Scalar.addi c0_i32_299 c7_i32_300
  let c1_i32_301 : BitVec 32 := 1#32
  ⟨c0_i32_299, v322, c1_i32_301⟩
def k0_dev31 (v14 : BitVec 32) : Nat :=
  let c0_i32_1010 : BitVec 32 := 0#32
  let c1_i32_1009 : BitVec 32 := 1#32
  let v1001 : BitVec 32 := Scalar.muli v14 c1_i32_1009
  let v1002 : BitVec 32 := Scalar.addi c0_i32_1010 v1001
  v1002.toNat
def k0_dev32 (v9 : BitVec 32) : Nat :=
  let c0_i32_1013 : BitVec 32 := 0#32
  let c1_i32_1012 : BitVec 32 := 1#32
  let v1003 : BitVec 32 := Scalar.muli v9 c1_i32_1012
  let v1004 : BitVec 32 := Scalar.addi c0_i32_1013 v1003
  v1004.toNat
def k0_dev33 (v9 : BitVec 32) : Nat :=
  let c0_i32_1021 : BitVec 32 := 0#32
  let c1_i32_1020 : BitVec 32 := 1#32
  let v1005 : BitVec 32 := Scalar.muli v9 c1_i32_1020
  let v1006 : BitVec 32 := Scalar.addi c0_i32_1021 v1005
  v1006.toNat
def k0_dev34 (v14 : BitVec 32) : Nat :=
  let c0_i32_1029 : BitVec 32 := 0#32
  let c1_i32_1028 : BitVec 32 := 1#32
  let v1013 : BitVec 32 := Scalar.muli v14 c1_i32_1028
  let v1014 : BitVec 32 := Scalar.addi c0_i32_1029 v1013
  v1014.toNat
def k0_off34 (v4 : BitVec 32) (k0_t3 : Fin k0_t3_loop.trips) : Fin 1 → Nat :=
  let c1_i32_1064 : BitVec 32 := 1#32
  let v1041 : BitVec 32 := Scalar.subi v4 c1_i32_1064
  let c2_i32_1007 : BitVec 32 := 2#32
  let c0_i32_299 : BitVec 32 := 0#32
  let c1_i32_301 : BitVec 32 := 1#32
  let arg22 : BitVec 32 := Scf.iv c0_i32_299 c1_i32_301 k0_t3
  let v1000 : BitVec 32 := Scalar.muli c2_i32_1007 arg22
  let v1042 : BitVec 32 := Scalar.subi v1041 v1000
  let c64_i32_1065 : BitVec 32 := 64#32
  let v1043 : BitVec 32 := Scalar.addi v1042 c64_i32_1065
  let c32_i32_1066 : BitVec 32 := 32#32
  let v1044 : BitVec 32 := Scalar.remsi v1043 c32_i32_1066
  let v1045 : Index := Scalar.indexCast v1044
  ![v1045.toNat]
def k0_off35 (v1046 : BitVec 32) : Fin 2 → Nat :=
  let c256_i32_1069 : BitVec 32 := 256#32
  let v1048 : BitVec 32 := Scalar.muli v1046 c256_i32_1069
  let v1049 : Index := Scalar.indexCast v1048
  let c0_1070 : Index := 0#32
  ![v1049.toNat, 0]

def k0_chk18 (v1046 : BitVec 32) : Prop :=
  (∀ a, (k0_off35 v1046) a + S256x256.size a ≤ S8192x256.size a) ∧
  (∀ (hinb : ∀ a, (k0_off35 v1046) a + S256x256.size a ≤ S8192x256.size a), (Rect.unit (s := S8192x256) (k0_off35 v1046) S256x256.size hinb).PackedRows (EltTy.packing .bf16))
theorem k0_off35_inb : ∀ (v1046 : BitVec 32) (k0_hw18 : k0_chk18 v1046), ∀ a, (k0_off35 v1046) a + S256x256.size a ≤ S8192x256.size a := fun v1046 k0_hw18 => k0_hw18.1
theorem k0_off35_packedbf16 : ∀ (v1046 : BitVec 32) (k0_hw18 : k0_chk18 v1046), (Rect.unit (s := S8192x256) (k0_off35 v1046) S256x256.size (k0_off35_inb v1046 k0_hw18)).PackedRows (EltTy.packing .bf16) := fun v1046 k0_hw18 => k0_hw18.2 (k0_off35_inb v1046 k0_hw18)

def k0_off36 (v4 : BitVec 32) (k0_t3 : Fin k0_t3_loop.trips) : Fin 1 → Nat :=
  let c1_i32_1071 : BitVec 32 := 1#32
  let v1053 : BitVec 32 := Scalar.addi v4 c1_i32_1071
  let c2_i32_1007 : BitVec 32 := 2#32
  let c0_i32_299 : BitVec 32 := 0#32
  let c1_i32_301 : BitVec 32 := 1#32
  let arg22 : BitVec 32 := Scf.iv c0_i32_299 c1_i32_301 k0_t3
  let v1000 : BitVec 32 := Scalar.muli c2_i32_1007 arg22
  let v1054 : BitVec 32 := Scalar.addi v1053 v1000
  let c64_i32_1072 : BitVec 32 := 64#32
  let v1055 : BitVec 32 := Scalar.addi v1054 c64_i32_1072
  let c32_i32_1073 : BitVec 32 := 32#32
  let v1056 : BitVec 32 := Scalar.remsi v1055 c32_i32_1073
  let v1057 : Index := Scalar.indexCast v1056
  ![v1057.toNat]
def k0_off37 (v1058 : BitVec 32) : Fin 2 → Nat :=
  let c256_i32_1076 : BitVec 32 := 256#32
  let v1060 : BitVec 32 := Scalar.muli v1058 c256_i32_1076
  let v1061 : Index := Scalar.indexCast v1060
  let c0_1077 : Index := 0#32
  ![v1061.toNat, 0]

def k0_chk19 (v1058 : BitVec 32) : Prop :=
  (∀ a, (k0_off37 v1058) a + S256x256.size a ≤ S8192x256.size a) ∧
  (∀ (hinb : ∀ a, (k0_off37 v1058) a + S256x256.size a ≤ S8192x256.size a), (Rect.unit (s := S8192x256) (k0_off37 v1058) S256x256.size hinb).PackedRows (EltTy.packing .bf16))
theorem k0_off37_inb : ∀ (v1058 : BitVec 32) (k0_hw19 : k0_chk19 v1058), ∀ a, (k0_off37 v1058) a + S256x256.size a ≤ S8192x256.size a := fun v1058 k0_hw19 => k0_hw19.1
theorem k0_off37_packedbf16 : ∀ (v1058 : BitVec 32) (k0_hw19 : k0_chk19 v1058), (Rect.unit (s := S8192x256) (k0_off37 v1058) S256x256.size (k0_off37_inb v1058 k0_hw19)).PackedRows (EltTy.packing .bf16) := fun v1058 k0_hw19 => k0_hw19.2 (k0_off37_inb v1058 k0_hw19)

def k0_dev35 (v14 : BitVec 32) : Nat :=
  let c0_i32_1082 : BitVec 32 := 0#32
  let c1_i32_1081 : BitVec 32 := 1#32
  let v1067 : BitVec 32 := Scalar.muli v14 c1_i32_1081
  let v1068 : BitVec 32 := Scalar.addi c0_i32_1082 v1067
  v1068.toNat
def k0_dev36 (v9 : BitVec 32) : Nat :=
  let c0_i32_1085 : BitVec 32 := 0#32
  let c1_i32_1084 : BitVec 32 := 1#32
  let v1069 : BitVec 32 := Scalar.muli v9 c1_i32_1084
  let v1070 : BitVec 32 := Scalar.addi c0_i32_1085 v1069
  v1070.toNat
def k0_dev37 (v9 : BitVec 32) : Nat :=
  let c0_i32_1093 : BitVec 32 := 0#32
  let c1_i32_1092 : BitVec 32 := 1#32
  let v1071 : BitVec 32 := Scalar.muli v9 c1_i32_1092
  let v1072 : BitVec 32 := Scalar.addi c0_i32_1093 v1071
  v1072.toNat
def k0_dev38 (v14 : BitVec 32) : Nat :=
  let c0_i32_1101 : BitVec 32 := 0#32
  let c1_i32_1100 : BitVec 32 := 1#32
  let v1079 : BitVec 32 := Scalar.muli v14 c1_i32_1100
  let v1080 : BitVec 32 := Scalar.addi c0_i32_1101 v1079
  v1080.toNat
def k0_off38 (v4 : BitVec 32) (k0_t3 : Fin k0_t3_loop.trips) : Fin 1 → Nat :=
  let c1_i32_1136 : BitVec 32 := 1#32
  let v1107 : BitVec 32 := Scalar.subi v4 c1_i32_1136
  let c2_i32_1078 : BitVec 32 := 2#32
  let c0_i32_299 : BitVec 32 := 0#32
  let c1_i32_301 : BitVec 32 := 1#32
  let arg22 : BitVec 32 := Scf.iv c0_i32_299 c1_i32_301 k0_t3
  let v1065 : BitVec 32 := Scalar.muli c2_i32_1078 arg22
  let c1_i32_1079 : BitVec 32 := 1#32
  let v1066 : BitVec 32 := Scalar.addi v1065 c1_i32_1079
  let v1108 : BitVec 32 := Scalar.subi v1107 v1066
  let c64_i32_1137 : BitVec 32 := 64#32
  let v1109 : BitVec 32 := Scalar.addi v1108 c64_i32_1137
  let c32_i32_1138 : BitVec 32 := 32#32
  let v1110 : BitVec 32 := Scalar.remsi v1109 c32_i32_1138
  let v1111 : Index := Scalar.indexCast v1110
  ![v1111.toNat]
def k0_off39 (v1112 : BitVec 32) : Fin 2 → Nat :=
  let c256_i32_1141 : BitVec 32 := 256#32
  let v1114 : BitVec 32 := Scalar.muli v1112 c256_i32_1141
  let v1115 : Index := Scalar.indexCast v1114
  let c0_1142 : Index := 0#32
  ![v1115.toNat, 0]

def k0_chk20 (v1112 : BitVec 32) : Prop :=
  (∀ a, (k0_off39 v1112) a + S256x256.size a ≤ S8192x256.size a) ∧
  (∀ (hinb : ∀ a, (k0_off39 v1112) a + S256x256.size a ≤ S8192x256.size a), (Rect.unit (s := S8192x256) (k0_off39 v1112) S256x256.size hinb).PackedRows (EltTy.packing .bf16))
theorem k0_off39_inb : ∀ (v1112 : BitVec 32) (k0_hw20 : k0_chk20 v1112), ∀ a, (k0_off39 v1112) a + S256x256.size a ≤ S8192x256.size a := fun v1112 k0_hw20 => k0_hw20.1
theorem k0_off39_packedbf16 : ∀ (v1112 : BitVec 32) (k0_hw20 : k0_chk20 v1112), (Rect.unit (s := S8192x256) (k0_off39 v1112) S256x256.size (k0_off39_inb v1112 k0_hw20)).PackedRows (EltTy.packing .bf16) := fun v1112 k0_hw20 => k0_hw20.2 (k0_off39_inb v1112 k0_hw20)

def k0_off40 (v4 : BitVec 32) (k0_t3 : Fin k0_t3_loop.trips) : Fin 1 → Nat :=
  let c1_i32_1143 : BitVec 32 := 1#32
  let v1119 : BitVec 32 := Scalar.addi v4 c1_i32_1143
  let c2_i32_1078 : BitVec 32 := 2#32
  let c0_i32_299 : BitVec 32 := 0#32
  let c1_i32_301 : BitVec 32 := 1#32
  let arg22 : BitVec 32 := Scf.iv c0_i32_299 c1_i32_301 k0_t3
  let v1065 : BitVec 32 := Scalar.muli c2_i32_1078 arg22
  let c1_i32_1079 : BitVec 32 := 1#32
  let v1066 : BitVec 32 := Scalar.addi v1065 c1_i32_1079
  let v1120 : BitVec 32 := Scalar.addi v1119 v1066
  let c64_i32_1144 : BitVec 32 := 64#32
  let v1121 : BitVec 32 := Scalar.addi v1120 c64_i32_1144
  let c32_i32_1145 : BitVec 32 := 32#32
  let v1122 : BitVec 32 := Scalar.remsi v1121 c32_i32_1145
  let v1123 : Index := Scalar.indexCast v1122
  ![v1123.toNat]
def k0_off41 (v1124 : BitVec 32) : Fin 2 → Nat :=
  let c256_i32_1148 : BitVec 32 := 256#32
  let v1126 : BitVec 32 := Scalar.muli v1124 c256_i32_1148
  let v1127 : Index := Scalar.indexCast v1126
  let c0_1149 : Index := 0#32
  ![v1127.toNat, 0]

def k0_chk21 (v1124 : BitVec 32) : Prop :=
  (∀ a, (k0_off41 v1124) a + S256x256.size a ≤ S8192x256.size a) ∧
  (∀ (hinb : ∀ a, (k0_off41 v1124) a + S256x256.size a ≤ S8192x256.size a), (Rect.unit (s := S8192x256) (k0_off41 v1124) S256x256.size hinb).PackedRows (EltTy.packing .bf16))
theorem k0_off41_inb : ∀ (v1124 : BitVec 32) (k0_hw21 : k0_chk21 v1124), ∀ a, (k0_off41 v1124) a + S256x256.size a ≤ S8192x256.size a := fun v1124 k0_hw21 => k0_hw21.1
theorem k0_off41_packedbf16 : ∀ (v1124 : BitVec 32) (k0_hw21 : k0_chk21 v1124), (Rect.unit (s := S8192x256) (k0_off41 v1124) S256x256.size (k0_off41_inb v1124 k0_hw21)).PackedRows (EltTy.packing .bf16) := fun v1124 k0_hw21 => k0_hw21.2 (k0_off41_inb v1124 k0_hw21)

def k0_dev39 (v14 : BitVec 32) : Nat :=
  let c0_i32_305 : BitVec 32 := 0#32
  let c1_i32_304 : BitVec 32 := 1#32
  let v323 : BitVec 32 := Scalar.muli v14 c1_i32_304
  let v324 : BitVec 32 := Scalar.addi c0_i32_305 v323
  v324.toNat
def k0_dev40 (v9 : BitVec 32) : Nat :=
  let c0_i32_308 : BitVec 32 := 0#32
  let c1_i32_307 : BitVec 32 := 1#32
  let v325 : BitVec 32 := Scalar.muli v9 c1_i32_307
  let v326 : BitVec 32 := Scalar.addi c0_i32_308 v325
  v326.toNat
def k0_dev41 (v9 : BitVec 32) : Nat :=
  let c0_i32_316 : BitVec 32 := 0#32
  let c1_i32_315 : BitVec 32 := 1#32
  let v327 : BitVec 32 := Scalar.muli v9 c1_i32_315
  let v328 : BitVec 32 := Scalar.addi c0_i32_316 v327
  v328.toNat
def k0_dev42 (v14 : BitVec 32) : Nat :=
  let c0_i32_324 : BitVec 32 := 0#32
  let c1_i32_323 : BitVec 32 := 1#32
  let v335 : BitVec 32 := Scalar.muli v14 c1_i32_323
  let v336 : BitVec 32 := Scalar.addi c0_i32_324 v335
  v336.toNat
def k0_off42 (v4 : BitVec 32) : Fin 1 → Nat :=
  let c1_i32_359 : BitVec 32 := 1#32
  let v363 : BitVec 32 := Scalar.subi v4 c1_i32_359
  let c14_i32_360 : BitVec 32 := 14#32
  let v364 : BitVec 32 := Scalar.subi v363 c14_i32_360
  let c64_i32_361 : BitVec 32 := 64#32
  let v365 : BitVec 32 := Scalar.addi v364 c64_i32_361
  let c32_i32_362 : BitVec 32 := 32#32
  let v366 : BitVec 32 := Scalar.remsi v365 c32_i32_362
  let v367 : Index := Scalar.indexCast v366
  ![v367.toNat]
def k0_off43 (v368 : BitVec 32) : Fin 2 → Nat :=
  let c256_i32_365 : BitVec 32 := 256#32
  let v370 : BitVec 32 := Scalar.muli v368 c256_i32_365
  let v371 : Index := Scalar.indexCast v370
  let c0_366 : Index := 0#32
  ![v371.toNat, 0]

def k0_chk22 (v368 : BitVec 32) : Prop :=
  (∀ a, (k0_off43 v368) a + S256x256.size a ≤ S8192x256.size a) ∧
  (∀ (hinb : ∀ a, (k0_off43 v368) a + S256x256.size a ≤ S8192x256.size a), (Rect.unit (s := S8192x256) (k0_off43 v368) S256x256.size hinb).PackedRows (EltTy.packing .bf16))
theorem k0_off43_inb : ∀ (v368 : BitVec 32) (k0_hw22 : k0_chk22 v368), ∀ a, (k0_off43 v368) a + S256x256.size a ≤ S8192x256.size a := fun v368 k0_hw22 => k0_hw22.1
theorem k0_off43_packedbf16 : ∀ (v368 : BitVec 32) (k0_hw22 : k0_chk22 v368), (Rect.unit (s := S8192x256) (k0_off43 v368) S256x256.size (k0_off43_inb v368 k0_hw22)).PackedRows (EltTy.packing .bf16) := fun v368 k0_hw22 => k0_hw22.2 (k0_off43_inb v368 k0_hw22)

def k0_off44 (v4 : BitVec 32) : Fin 1 → Nat :=
  let c1_i32_367 : BitVec 32 := 1#32
  let v375 : BitVec 32 := Scalar.addi v4 c1_i32_367
  let c14_i32_368 : BitVec 32 := 14#32
  let v376 : BitVec 32 := Scalar.addi v375 c14_i32_368
  let c64_i32_369 : BitVec 32 := 64#32
  let v377 : BitVec 32 := Scalar.addi v376 c64_i32_369
  let c32_i32_370 : BitVec 32 := 32#32
  let v378 : BitVec 32 := Scalar.remsi v377 c32_i32_370
  let v379 : Index := Scalar.indexCast v378
  ![v379.toNat]
def k0_off45 (v380 : BitVec 32) : Fin 2 → Nat :=
  let c256_i32_373 : BitVec 32 := 256#32
  let v382 : BitVec 32 := Scalar.muli v380 c256_i32_373
  let v383 : Index := Scalar.indexCast v382
  let c0_374 : Index := 0#32
  ![v383.toNat, 0]

def k0_chk23 (v380 : BitVec 32) : Prop :=
  (∀ a, (k0_off45 v380) a + S256x256.size a ≤ S8192x256.size a) ∧
  (∀ (hinb : ∀ a, (k0_off45 v380) a + S256x256.size a ≤ S8192x256.size a), (Rect.unit (s := S8192x256) (k0_off45 v380) S256x256.size hinb).PackedRows (EltTy.packing .bf16))
theorem k0_off45_inb : ∀ (v380 : BitVec 32) (k0_hw23 : k0_chk23 v380), ∀ a, (k0_off45 v380) a + S256x256.size a ≤ S8192x256.size a := fun v380 k0_hw23 => k0_hw23.1
theorem k0_off45_packedbf16 : ∀ (v380 : BitVec 32) (k0_hw23 : k0_chk23 v380), (Rect.unit (s := S8192x256) (k0_off45 v380) S256x256.size (k0_off45_inb v380 k0_hw23)).PackedRows (EltTy.packing .bf16) := fun v380 k0_hw23 => k0_hw23.2 (k0_off45_inb v380 k0_hw23)

def k0_dev43 (v14 : BitVec 32) : Nat :=
  let c0_i32_377 : BitVec 32 := 0#32
  let c1_i32_376 : BitVec 32 := 1#32
  let v387 : BitVec 32 := Scalar.muli v14 c1_i32_376
  let v388 : BitVec 32 := Scalar.addi c0_i32_377 v387
  v388.toNat
def k0_dev44 (v9 : BitVec 32) : Nat :=
  let c0_i32_383 : BitVec 32 := 0#32
  let c1_i32_382 : BitVec 32 := 1#32
  let v389 : BitVec 32 := Scalar.muli v9 c1_i32_382
  let v390 : BitVec 32 := Scalar.addi c0_i32_383 v389
  v390.toNat
def k0_off46 (v4 : BitVec 32) : Fin 1 → Nat :=
  let c1_i32_403 : BitVec 32 := 1#32
  let v407 : BitVec 32 := Scalar.subi v4 c1_i32_403
  let c15_i32_404 : BitVec 32 := 15#32
  let v408 : BitVec 32 := Scalar.subi v407 c15_i32_404
  let c64_i32_405 : BitVec 32 := 64#32
  let v409 : BitVec 32 := Scalar.addi v408 c64_i32_405
  let c32_i32_406 : BitVec 32 := 32#32
  let v410 : BitVec 32 := Scalar.remsi v409 c32_i32_406
  let v411 : Index := Scalar.indexCast v410
  ![v411.toNat]
def k0_off47 (v412 : BitVec 32) : Fin 2 → Nat :=
  let c256_i32_409 : BitVec 32 := 256#32
  let v414 : BitVec 32 := Scalar.muli v412 c256_i32_409
  let v415 : Index := Scalar.indexCast v414
  let c0_410 : Index := 0#32
  ![v415.toNat, 0]

def k0_chk24 (v412 : BitVec 32) : Prop :=
  (∀ a, (k0_off47 v412) a + S256x256.size a ≤ S8192x256.size a) ∧
  (∀ (hinb : ∀ a, (k0_off47 v412) a + S256x256.size a ≤ S8192x256.size a), (Rect.unit (s := S8192x256) (k0_off47 v412) S256x256.size hinb).PackedRows (EltTy.packing .bf16))
theorem k0_off47_inb : ∀ (v412 : BitVec 32) (k0_hw24 : k0_chk24 v412), ∀ a, (k0_off47 v412) a + S256x256.size a ≤ S8192x256.size a := fun v412 k0_hw24 => k0_hw24.1
theorem k0_off47_packedbf16 : ∀ (v412 : BitVec 32) (k0_hw24 : k0_chk24 v412), (Rect.unit (s := S8192x256) (k0_off47 v412) S256x256.size (k0_off47_inb v412 k0_hw24)).PackedRows (EltTy.packing .bf16) := fun v412 k0_hw24 => k0_hw24.2 (k0_off47_inb v412 k0_hw24)

def k0_off48 (v4 : BitVec 32) : Fin 1 → Nat :=
  let c16_i32_471 : BitVec 32 := 16#32
  let v495 : BitVec 32 := Scalar.addi v4 c16_i32_471
  let c64_i32_472 : BitVec 32 := 64#32
  let v496 : BitVec 32 := Scalar.addi v495 c64_i32_472
  let c32_i32_473 : BitVec 32 := 32#32
  let v497 : BitVec 32 := Scalar.remsi v496 c32_i32_473
  let v498 : Index := Scalar.indexCast v497
  ![v498.toNat]
def k0_off49 (v499 : BitVec 32) : Fin 2 → Nat :=
  let c256_i32_474 : BitVec 32 := 256#32
  let v500 : BitVec 32 := Scalar.muli v499 c256_i32_474
  let v501 : Index := Scalar.indexCast v500
  let c0_475 : Index := 0#32
  ![v501.toNat, 0]

def k0_chk25 (v499 : BitVec 32) : Prop :=
  (∀ a, (k0_off49 v499) a + S256x256.size a ≤ S8192x256.size a)
theorem k0_off49_inb : ∀ (v499 : BitVec 32) (k0_hw25 : k0_chk25 v499), ∀ a, (k0_off49 v499) a + S256x256.size a ≤ S8192x256.size a := fun v499 k0_hw25 => k0_hw25

def k0_off50 (v4 : BitVec 32) : Fin 1 → Nat :=
  let c15_i32_478 : BitVec 32 := 15#32
  let v506 : BitVec 32 := Scalar.subi v4 c15_i32_478
  let c64_i32_479 : BitVec 32 := 64#32
  let v507 : BitVec 32 := Scalar.addi v506 c64_i32_479
  let c32_i32_480 : BitVec 32 := 32#32
  let v508 : BitVec 32 := Scalar.remsi v507 c32_i32_480
  let v509 : Index := Scalar.indexCast v508
  ![v509.toNat]
def k0_off51 (v510 : BitVec 32) : Fin 2 → Nat :=
  let c256_i32_481 : BitVec 32 := 256#32
  let v511 : BitVec 32 := Scalar.muli v510 c256_i32_481
  let v512 : Index := Scalar.indexCast v511
  let c0_482 : Index := 0#32
  ![v512.toNat, 0]

def k0_chk26 (v510 : BitVec 32) : Prop :=
  (∀ a, (k0_off51 v510) a + S256x256.size a ≤ S8192x256.size a)
theorem k0_off51_inb : ∀ (v510 : BitVec 32) (k0_hw26 : k0_chk26 v510), ∀ a, (k0_off51 v510) a + S256x256.size a ≤ S8192x256.size a := fun v510 k0_hw26 => k0_hw26

@[reducible] def k0_t4_loop : Scf.Loop 32 :=
  let c0_i32_485 : BitVec 32 := 0#32
  let c7_i32_486 : BitVec 32 := 7#32
  let v517 : BitVec 32 := Scalar.addi c0_i32_485 c7_i32_486
  let c1_i32_487 : BitVec 32 := 1#32
  ⟨c0_i32_485, v517, c1_i32_487⟩
def k0_dev45 (v14 : BitVec 32) : Nat :=
  let c0_i32_1010 : BitVec 32 := 0#32
  let c1_i32_1009 : BitVec 32 := 1#32
  let v1001 : BitVec 32 := Scalar.muli v14 c1_i32_1009
  let v1002 : BitVec 32 := Scalar.addi c0_i32_1010 v1001
  v1002.toNat
def k0_dev46 (v9 : BitVec 32) : Nat :=
  let c0_i32_1013 : BitVec 32 := 0#32
  let c1_i32_1012 : BitVec 32 := 1#32
  let v1003 : BitVec 32 := Scalar.muli v9 c1_i32_1012
  let v1004 : BitVec 32 := Scalar.addi c0_i32_1013 v1003
  v1004.toNat
def k0_dev47 (v9 : BitVec 32) : Nat :=
  let c0_i32_1021 : BitVec 32 := 0#32
  let c1_i32_1020 : BitVec 32 := 1#32
  let v1005 : BitVec 32 := Scalar.muli v9 c1_i32_1020
  let v1006 : BitVec 32 := Scalar.addi c0_i32_1021 v1005
  v1006.toNat
def k0_dev48 (v14 : BitVec 32) : Nat :=
  let c0_i32_1029 : BitVec 32 := 0#32
  let c1_i32_1028 : BitVec 32 := 1#32
  let v1013 : BitVec 32 := Scalar.muli v14 c1_i32_1028
  let v1014 : BitVec 32 := Scalar.addi c0_i32_1029 v1013
  v1014.toNat
def k0_off52 (v4 : BitVec 32) (k0_t4 : Fin k0_t4_loop.trips) : Fin 1 → Nat :=
  let c15_i32_1064 : BitVec 32 := 15#32
  let v1041 : BitVec 32 := Scalar.addi v4 c15_i32_1064
  let c2_i32_1007 : BitVec 32 := 2#32
  let c0_i32_485 : BitVec 32 := 0#32
  let c1_i32_487 : BitVec 32 := 1#32
  let arg22 : BitVec 32 := Scf.iv c0_i32_485 c1_i32_487 k0_t4
  let v1000 : BitVec 32 := Scalar.muli c2_i32_1007 arg22
  let v1042 : BitVec 32 := Scalar.subi v1041 v1000
  let c64_i32_1065 : BitVec 32 := 64#32
  let v1043 : BitVec 32 := Scalar.addi v1042 c64_i32_1065
  let c32_i32_1066 : BitVec 32 := 32#32
  let v1044 : BitVec 32 := Scalar.remsi v1043 c32_i32_1066
  let v1045 : Index := Scalar.indexCast v1044
  ![v1045.toNat]
def k0_off53 (v1046 : BitVec 32) : Fin 2 → Nat :=
  let c256_i32_1069 : BitVec 32 := 256#32
  let v1048 : BitVec 32 := Scalar.muli v1046 c256_i32_1069
  let v1049 : Index := Scalar.indexCast v1048
  let c0_1070 : Index := 0#32
  ![v1049.toNat, 0]

def k0_chk27 (v1046 : BitVec 32) : Prop :=
  (∀ a, (k0_off53 v1046) a + S256x256.size a ≤ S8192x256.size a)
theorem k0_off53_inb : ∀ (v1046 : BitVec 32) (k0_hw27 : k0_chk27 v1046), ∀ a, (k0_off53 v1046) a + S256x256.size a ≤ S8192x256.size a := fun v1046 k0_hw27 => k0_hw27

def k0_off54 (v4 : BitVec 32) (k0_t4 : Fin k0_t4_loop.trips) : Fin 1 → Nat :=
  let c14_i32_1073 : BitVec 32 := 14#32
  let v1055 : BitVec 32 := Scalar.subi v4 c14_i32_1073
  let c2_i32_1007 : BitVec 32 := 2#32
  let c0_i32_485 : BitVec 32 := 0#32
  let c1_i32_487 : BitVec 32 := 1#32
  let arg22 : BitVec 32 := Scf.iv c0_i32_485 c1_i32_487 k0_t4
  let v1000 : BitVec 32 := Scalar.muli c2_i32_1007 arg22
  let v1056 : BitVec 32 := Scalar.addi v1055 v1000
  let c64_i32_1074 : BitVec 32 := 64#32
  let v1057 : BitVec 32 := Scalar.addi v1056 c64_i32_1074
  let c32_i32_1075 : BitVec 32 := 32#32
  let v1058 : BitVec 32 := Scalar.remsi v1057 c32_i32_1075
  let v1059 : Index := Scalar.indexCast v1058
  ![v1059.toNat]
def k0_off55 (v1060 : BitVec 32) : Fin 2 → Nat :=
  let c256_i32_1078 : BitVec 32 := 256#32
  let v1062 : BitVec 32 := Scalar.muli v1060 c256_i32_1078
  let v1063 : Index := Scalar.indexCast v1062
  let c0_1079 : Index := 0#32
  ![v1063.toNat, 0]

def k0_chk28 (v1060 : BitVec 32) : Prop :=
  (∀ a, (k0_off55 v1060) a + S256x256.size a ≤ S8192x256.size a)
theorem k0_off55_inb : ∀ (v1060 : BitVec 32) (k0_hw28 : k0_chk28 v1060), ∀ a, (k0_off55 v1060) a + S256x256.size a ≤ S8192x256.size a := fun v1060 k0_hw28 => k0_hw28

def k0_dev49 (v14 : BitVec 32) : Nat :=
  let c0_i32_1086 : BitVec 32 := 0#32
  let c1_i32_1085 : BitVec 32 := 1#32
  let v1071 : BitVec 32 := Scalar.muli v14 c1_i32_1085
  let v1072 : BitVec 32 := Scalar.addi c0_i32_1086 v1071
  v1072.toNat
def k0_dev50 (v9 : BitVec 32) : Nat :=
  let c0_i32_1089 : BitVec 32 := 0#32
  let c1_i32_1088 : BitVec 32 := 1#32
  let v1073 : BitVec 32 := Scalar.muli v9 c1_i32_1088
  let v1074 : BitVec 32 := Scalar.addi c0_i32_1089 v1073
  v1074.toNat
def k0_dev51 (v9 : BitVec 32) : Nat :=
  let c0_i32_1097 : BitVec 32 := 0#32
  let c1_i32_1096 : BitVec 32 := 1#32
  let v1075 : BitVec 32 := Scalar.muli v9 c1_i32_1096
  let v1076 : BitVec 32 := Scalar.addi c0_i32_1097 v1075
  v1076.toNat
def k0_dev52 (v14 : BitVec 32) : Nat :=
  let c0_i32_1105 : BitVec 32 := 0#32
  let c1_i32_1104 : BitVec 32 := 1#32
  let v1083 : BitVec 32 := Scalar.muli v14 c1_i32_1104
  let v1084 : BitVec 32 := Scalar.addi c0_i32_1105 v1083
  v1084.toNat
def k0_off56 (v4 : BitVec 32) (k0_t4 : Fin k0_t4_loop.trips) : Fin 1 → Nat :=
  let c15_i32_1140 : BitVec 32 := 15#32
  let v1111 : BitVec 32 := Scalar.addi v4 c15_i32_1140
  let c2_i32_1082 : BitVec 32 := 2#32
  let c0_i32_485 : BitVec 32 := 0#32
  let c1_i32_487 : BitVec 32 := 1#32
  let arg22 : BitVec 32 := Scf.iv c0_i32_485 c1_i32_487 k0_t4
  let v1069 : BitVec 32 := Scalar.muli c2_i32_1082 arg22
  let c1_i32_1083 : BitVec 32 := 1#32
  let v1070 : BitVec 32 := Scalar.addi v1069 c1_i32_1083
  let v1112 : BitVec 32 := Scalar.subi v1111 v1070
  let c64_i32_1141 : BitVec 32 := 64#32
  let v1113 : BitVec 32 := Scalar.addi v1112 c64_i32_1141
  let c32_i32_1142 : BitVec 32 := 32#32
  let v1114 : BitVec 32 := Scalar.remsi v1113 c32_i32_1142
  let v1115 : Index := Scalar.indexCast v1114
  ![v1115.toNat]
def k0_off57 (v1116 : BitVec 32) : Fin 2 → Nat :=
  let c256_i32_1145 : BitVec 32 := 256#32
  let v1118 : BitVec 32 := Scalar.muli v1116 c256_i32_1145
  let v1119 : Index := Scalar.indexCast v1118
  let c0_1146 : Index := 0#32
  ![v1119.toNat, 0]

def k0_chk29 (v1116 : BitVec 32) : Prop :=
  (∀ a, (k0_off57 v1116) a + S256x256.size a ≤ S8192x256.size a)
theorem k0_off57_inb : ∀ (v1116 : BitVec 32) (k0_hw29 : k0_chk29 v1116), ∀ a, (k0_off57 v1116) a + S256x256.size a ≤ S8192x256.size a := fun v1116 k0_hw29 => k0_hw29

def k0_off58 (v4 : BitVec 32) (k0_t4 : Fin k0_t4_loop.trips) : Fin 1 → Nat :=
  let c14_i32_1149 : BitVec 32 := 14#32
  let v1125 : BitVec 32 := Scalar.subi v4 c14_i32_1149
  let c2_i32_1082 : BitVec 32 := 2#32
  let c0_i32_485 : BitVec 32 := 0#32
  let c1_i32_487 : BitVec 32 := 1#32
  let arg22 : BitVec 32 := Scf.iv c0_i32_485 c1_i32_487 k0_t4
  let v1069 : BitVec 32 := Scalar.muli c2_i32_1082 arg22
  let c1_i32_1083 : BitVec 32 := 1#32
  let v1070 : BitVec 32 := Scalar.addi v1069 c1_i32_1083
  let v1126 : BitVec 32 := Scalar.addi v1125 v1070
  let c64_i32_1150 : BitVec 32 := 64#32
  let v1127 : BitVec 32 := Scalar.addi v1126 c64_i32_1150
  let c32_i32_1151 : BitVec 32 := 32#32
  let v1128 : BitVec 32 := Scalar.remsi v1127 c32_i32_1151
  let v1129 : Index := Scalar.indexCast v1128
  ![v1129.toNat]
def k0_off59 (v1130 : BitVec 32) : Fin 2 → Nat :=
  let c256_i32_1154 : BitVec 32 := 256#32
  let v1132 : BitVec 32 := Scalar.muli v1130 c256_i32_1154
  let v1133 : Index := Scalar.indexCast v1132
  let c0_1155 : Index := 0#32
  ![v1133.toNat, 0]

def k0_chk30 (v1130 : BitVec 32) : Prop :=
  (∀ a, (k0_off59 v1130) a + S256x256.size a ≤ S8192x256.size a)
theorem k0_off59_inb : ∀ (v1130 : BitVec 32) (k0_hw30 : k0_chk30 v1130), ∀ a, (k0_off59 v1130) a + S256x256.size a ≤ S8192x256.size a := fun v1130 k0_hw30 => k0_hw30

def k0_dev53 (v14 : BitVec 32) : Nat :=
  let c0_i32_491 : BitVec 32 := 0#32
  let c1_i32_490 : BitVec 32 := 1#32
  let v518 : BitVec 32 := Scalar.muli v14 c1_i32_490
  let v519 : BitVec 32 := Scalar.addi c0_i32_491 v518
  v519.toNat
def k0_dev54 (v9 : BitVec 32) : Nat :=
  let c0_i32_494 : BitVec 32 := 0#32
  let c1_i32_493 : BitVec 32 := 1#32
  let v520 : BitVec 32 := Scalar.muli v9 c1_i32_493
  let v521 : BitVec 32 := Scalar.addi c0_i32_494 v520
  v521.toNat
def k0_dev55 (v9 : BitVec 32) : Nat :=
  let c0_i32_502 : BitVec 32 := 0#32
  let c1_i32_501 : BitVec 32 := 1#32
  let v522 : BitVec 32 := Scalar.muli v9 c1_i32_501
  let v523 : BitVec 32 := Scalar.addi c0_i32_502 v522
  v523.toNat
def k0_dev56 (v14 : BitVec 32) : Nat :=
  let c0_i32_510 : BitVec 32 := 0#32
  let c1_i32_509 : BitVec 32 := 1#32
  let v530 : BitVec 32 := Scalar.muli v14 c1_i32_509
  let v531 : BitVec 32 := Scalar.addi c0_i32_510 v530
  v531.toNat
def k0_off60 (v4 : BitVec 32) : Fin 1 → Nat :=
  let c15_i32_545 : BitVec 32 := 15#32
  let v558 : BitVec 32 := Scalar.addi v4 c15_i32_545
  let c14_i32_546 : BitVec 32 := 14#32
  let v559 : BitVec 32 := Scalar.subi v558 c14_i32_546
  let c64_i32_547 : BitVec 32 := 64#32
  let v560 : BitVec 32 := Scalar.addi v559 c64_i32_547
  let c32_i32_548 : BitVec 32 := 32#32
  let v561 : BitVec 32 := Scalar.remsi v560 c32_i32_548
  let v562 : Index := Scalar.indexCast v561
  ![v562.toNat]
def k0_off61 (v563 : BitVec 32) : Fin 2 → Nat :=
  let c256_i32_551 : BitVec 32 := 256#32
  let v565 : BitVec 32 := Scalar.muli v563 c256_i32_551
  let v566 : Index := Scalar.indexCast v565
  let c0_552 : Index := 0#32
  ![v566.toNat, 0]

def k0_chk31 (v563 : BitVec 32) : Prop :=
  (∀ a, (k0_off61 v563) a + S256x256.size a ≤ S8192x256.size a)
theorem k0_off61_inb : ∀ (v563 : BitVec 32) (k0_hw31 : k0_chk31 v563), ∀ a, (k0_off61 v563) a + S256x256.size a ≤ S8192x256.size a := fun v563 k0_hw31 => k0_hw31

def k0_dev57 (v14 : BitVec 32) : Nat :=
  let c0_i32_557 : BitVec 32 := 0#32
  let c1_i32_556 : BitVec 32 := 1#32
  let v572 : BitVec 32 := Scalar.muli v14 c1_i32_556
  let v573 : BitVec 32 := Scalar.addi c0_i32_557 v572
  v573.toNat
def k0_dev58 (v9 : BitVec 32) : Nat :=
  let c0_i32_563 : BitVec 32 := 0#32
  let c1_i32_562 : BitVec 32 := 1#32
  let v574 : BitVec 32 := Scalar.muli v9 c1_i32_562
  let v575 : BitVec 32 := Scalar.addi c0_i32_563 v574
  v575.toNat
def k0_off62 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32_587 : BitVec 32 := 256#32
  let v595 : BitVec 32 := Scalar.muli v2 c256_i32_587
  let v596 : Index := Scalar.indexCast v595
  let c0_588 : Index := 0#32
  ![v596.toNat, 0]
@[reducible] def k0_t5_loop : Scf.Loop 32 :=
  let c0_i32_595 : BitVec 32 := 0#32
  let c7_i32_596 : BitVec 32 := 7#32
  let v611 : BitVec 32 := Scalar.addi c0_i32_595 c7_i32_596
  let c1_i32_597 : BitVec 32 := 1#32
  ⟨c0_i32_595, v611, c1_i32_597⟩
def k0_dev59 (v14 : BitVec 32) : Nat :=
  let c0_i32_1010 : BitVec 32 := 0#32
  let c1_i32_1009 : BitVec 32 := 1#32
  let v1001 : BitVec 32 := Scalar.muli v14 c1_i32_1009
  let v1002 : BitVec 32 := Scalar.addi c0_i32_1010 v1001
  v1002.toNat
def k0_dev60 (v9 : BitVec 32) : Nat :=
  let c0_i32_1013 : BitVec 32 := 0#32
  let c1_i32_1012 : BitVec 32 := 1#32
  let v1003 : BitVec 32 := Scalar.muli v9 c1_i32_1012
  let v1004 : BitVec 32 := Scalar.addi c0_i32_1013 v1003
  v1004.toNat
def k0_dev61 (v9 : BitVec 32) : Nat :=
  let c0_i32_1021 : BitVec 32 := 0#32
  let c1_i32_1020 : BitVec 32 := 1#32
  let v1005 : BitVec 32 := Scalar.muli v9 c1_i32_1020
  let v1006 : BitVec 32 := Scalar.addi c0_i32_1021 v1005
  v1006.toNat
def k0_dev62 (v14 : BitVec 32) : Nat :=
  let c0_i32_1029 : BitVec 32 := 0#32
  let c1_i32_1028 : BitVec 32 := 1#32
  let v1013 : BitVec 32 := Scalar.muli v14 c1_i32_1028
  let v1014 : BitVec 32 := Scalar.addi c0_i32_1029 v1013
  v1014.toNat
def k0_off63 (v4 : BitVec 32) (k0_t5 : Fin k0_t5_loop.trips) : Fin 1 → Nat :=
  let c1_i32_1064 : BitVec 32 := 1#32
  let v1041 : BitVec 32 := Scalar.subi v4 c1_i32_1064
  let c2_i32_1007 : BitVec 32 := 2#32
  let c0_i32_595 : BitVec 32 := 0#32
  let c1_i32_597 : BitVec 32 := 1#32
  let arg22 : BitVec 32 := Scf.iv c0_i32_595 c1_i32_597 k0_t5
  let v1000 : BitVec 32 := Scalar.muli c2_i32_1007 arg22
  let v1042 : BitVec 32 := Scalar.subi v1041 v1000
  let c64_i32_1065 : BitVec 32 := 64#32
  let v1043 : BitVec 32 := Scalar.addi v1042 c64_i32_1065
  let c32_i32_1066 : BitVec 32 := 32#32
  let v1044 : BitVec 32 := Scalar.remsi v1043 c32_i32_1066
  let v1045 : Index := Scalar.indexCast v1044
  ![v1045.toNat]
def k0_off64 (v1046 : BitVec 32) : Fin 2 → Nat :=
  let c256_i32_1069 : BitVec 32 := 256#32
  let v1048 : BitVec 32 := Scalar.muli v1046 c256_i32_1069
  let v1049 : Index := Scalar.indexCast v1048
  let c0_1070 : Index := 0#32
  ![v1049.toNat, 0]

def k0_chk32 (v1046 : BitVec 32) : Prop :=
  (∀ a, (k0_off64 v1046) a + S256x256.size a ≤ S8192x256.size a) ∧
  (∀ (hinb : ∀ a, (k0_off64 v1046) a + S256x256.size a ≤ S8192x256.size a), (Rect.unit (s := S8192x256) (k0_off64 v1046) S256x256.size hinb).PackedRows (EltTy.packing .bf16))
theorem k0_off64_inb : ∀ (v1046 : BitVec 32) (k0_hw32 : k0_chk32 v1046), ∀ a, (k0_off64 v1046) a + S256x256.size a ≤ S8192x256.size a := fun v1046 k0_hw32 => k0_hw32.1
theorem k0_off64_packedbf16 : ∀ (v1046 : BitVec 32) (k0_hw32 : k0_chk32 v1046), (Rect.unit (s := S8192x256) (k0_off64 v1046) S256x256.size (k0_off64_inb v1046 k0_hw32)).PackedRows (EltTy.packing .bf16) := fun v1046 k0_hw32 => k0_hw32.2 (k0_off64_inb v1046 k0_hw32)

def k0_off65 (v4 : BitVec 32) (k0_t5 : Fin k0_t5_loop.trips) : Fin 1 → Nat :=
  let c1_i32_1071 : BitVec 32 := 1#32
  let v1053 : BitVec 32 := Scalar.addi v4 c1_i32_1071
  let c2_i32_1007 : BitVec 32 := 2#32
  let c0_i32_595 : BitVec 32 := 0#32
  let c1_i32_597 : BitVec 32 := 1#32
  let arg22 : BitVec 32 := Scf.iv c0_i32_595 c1_i32_597 k0_t5
  let v1000 : BitVec 32 := Scalar.muli c2_i32_1007 arg22
  let v1054 : BitVec 32 := Scalar.addi v1053 v1000
  let c64_i32_1072 : BitVec 32 := 64#32
  let v1055 : BitVec 32 := Scalar.addi v1054 c64_i32_1072
  let c32_i32_1073 : BitVec 32 := 32#32
  let v1056 : BitVec 32 := Scalar.remsi v1055 c32_i32_1073
  let v1057 : Index := Scalar.indexCast v1056
  ![v1057.toNat]
def k0_off66 (v1058 : BitVec 32) : Fin 2 → Nat :=
  let c256_i32_1076 : BitVec 32 := 256#32
  let v1060 : BitVec 32 := Scalar.muli v1058 c256_i32_1076
  let v1061 : Index := Scalar.indexCast v1060
  let c0_1077 : Index := 0#32
  ![v1061.toNat, 0]

def k0_chk33 (v1058 : BitVec 32) : Prop :=
  (∀ a, (k0_off66 v1058) a + S256x256.size a ≤ S8192x256.size a) ∧
  (∀ (hinb : ∀ a, (k0_off66 v1058) a + S256x256.size a ≤ S8192x256.size a), (Rect.unit (s := S8192x256) (k0_off66 v1058) S256x256.size hinb).PackedRows (EltTy.packing .bf16))
theorem k0_off66_inb : ∀ (v1058 : BitVec 32) (k0_hw33 : k0_chk33 v1058), ∀ a, (k0_off66 v1058) a + S256x256.size a ≤ S8192x256.size a := fun v1058 k0_hw33 => k0_hw33.1
theorem k0_off66_packedbf16 : ∀ (v1058 : BitVec 32) (k0_hw33 : k0_chk33 v1058), (Rect.unit (s := S8192x256) (k0_off66 v1058) S256x256.size (k0_off66_inb v1058 k0_hw33)).PackedRows (EltTy.packing .bf16) := fun v1058 k0_hw33 => k0_hw33.2 (k0_off66_inb v1058 k0_hw33)

def k0_dev63 (v14 : BitVec 32) : Nat :=
  let c0_i32_1082 : BitVec 32 := 0#32
  let c1_i32_1081 : BitVec 32 := 1#32
  let v1067 : BitVec 32 := Scalar.muli v14 c1_i32_1081
  let v1068 : BitVec 32 := Scalar.addi c0_i32_1082 v1067
  v1068.toNat
def k0_dev64 (v9 : BitVec 32) : Nat :=
  let c0_i32_1085 : BitVec 32 := 0#32
  let c1_i32_1084 : BitVec 32 := 1#32
  let v1069 : BitVec 32 := Scalar.muli v9 c1_i32_1084
  let v1070 : BitVec 32 := Scalar.addi c0_i32_1085 v1069
  v1070.toNat
def k0_dev65 (v9 : BitVec 32) : Nat :=
  let c0_i32_1093 : BitVec 32 := 0#32
  let c1_i32_1092 : BitVec 32 := 1#32
  let v1071 : BitVec 32 := Scalar.muli v9 c1_i32_1092
  let v1072 : BitVec 32 := Scalar.addi c0_i32_1093 v1071
  v1072.toNat
def k0_dev66 (v14 : BitVec 32) : Nat :=
  let c0_i32_1101 : BitVec 32 := 0#32
  let c1_i32_1100 : BitVec 32 := 1#32
  let v1079 : BitVec 32 := Scalar.muli v14 c1_i32_1100
  let v1080 : BitVec 32 := Scalar.addi c0_i32_1101 v1079
  v1080.toNat
def k0_off67 (v4 : BitVec 32) (k0_t5 : Fin k0_t5_loop.trips) : Fin 1 → Nat :=
  let c1_i32_1136 : BitVec 32 := 1#32
  let v1107 : BitVec 32 := Scalar.subi v4 c1_i32_1136
  let c2_i32_1078 : BitVec 32 := 2#32
  let c0_i32_595 : BitVec 32 := 0#32
  let c1_i32_597 : BitVec 32 := 1#32
  let arg22 : BitVec 32 := Scf.iv c0_i32_595 c1_i32_597 k0_t5
  let v1065 : BitVec 32 := Scalar.muli c2_i32_1078 arg22
  let c1_i32_1079 : BitVec 32 := 1#32
  let v1066 : BitVec 32 := Scalar.addi v1065 c1_i32_1079
  let v1108 : BitVec 32 := Scalar.subi v1107 v1066
  let c64_i32_1137 : BitVec 32 := 64#32
  let v1109 : BitVec 32 := Scalar.addi v1108 c64_i32_1137
  let c32_i32_1138 : BitVec 32 := 32#32
  let v1110 : BitVec 32 := Scalar.remsi v1109 c32_i32_1138
  let v1111 : Index := Scalar.indexCast v1110
  ![v1111.toNat]
def k0_off68 (v1112 : BitVec 32) : Fin 2 → Nat :=
  let c256_i32_1141 : BitVec 32 := 256#32
  let v1114 : BitVec 32 := Scalar.muli v1112 c256_i32_1141
  let v1115 : Index := Scalar.indexCast v1114
  let c0_1142 : Index := 0#32
  ![v1115.toNat, 0]

def k0_chk34 (v1112 : BitVec 32) : Prop :=
  (∀ a, (k0_off68 v1112) a + S256x256.size a ≤ S8192x256.size a) ∧
  (∀ (hinb : ∀ a, (k0_off68 v1112) a + S256x256.size a ≤ S8192x256.size a), (Rect.unit (s := S8192x256) (k0_off68 v1112) S256x256.size hinb).PackedRows (EltTy.packing .bf16))
theorem k0_off68_inb : ∀ (v1112 : BitVec 32) (k0_hw34 : k0_chk34 v1112), ∀ a, (k0_off68 v1112) a + S256x256.size a ≤ S8192x256.size a := fun v1112 k0_hw34 => k0_hw34.1
theorem k0_off68_packedbf16 : ∀ (v1112 : BitVec 32) (k0_hw34 : k0_chk34 v1112), (Rect.unit (s := S8192x256) (k0_off68 v1112) S256x256.size (k0_off68_inb v1112 k0_hw34)).PackedRows (EltTy.packing .bf16) := fun v1112 k0_hw34 => k0_hw34.2 (k0_off68_inb v1112 k0_hw34)

def k0_off69 (v4 : BitVec 32) (k0_t5 : Fin k0_t5_loop.trips) : Fin 1 → Nat :=
  let c1_i32_1143 : BitVec 32 := 1#32
  let v1119 : BitVec 32 := Scalar.addi v4 c1_i32_1143
  let c2_i32_1078 : BitVec 32 := 2#32
  let c0_i32_595 : BitVec 32 := 0#32
  let c1_i32_597 : BitVec 32 := 1#32
  let arg22 : BitVec 32 := Scf.iv c0_i32_595 c1_i32_597 k0_t5
  let v1065 : BitVec 32 := Scalar.muli c2_i32_1078 arg22
  let c1_i32_1079 : BitVec 32 := 1#32
  let v1066 : BitVec 32 := Scalar.addi v1065 c1_i32_1079
  let v1120 : BitVec 32 := Scalar.addi v1119 v1066
  let c64_i32_1144 : BitVec 32 := 64#32
  let v1121 : BitVec 32 := Scalar.addi v1120 c64_i32_1144
  let c32_i32_1145 : BitVec 32 := 32#32
  let v1122 : BitVec 32 := Scalar.remsi v1121 c32_i32_1145
  let v1123 : Index := Scalar.indexCast v1122
  ![v1123.toNat]
def k0_off70 (v1124 : BitVec 32) : Fin 2 → Nat :=
  let c256_i32_1148 : BitVec 32 := 256#32
  let v1126 : BitVec 32 := Scalar.muli v1124 c256_i32_1148
  let v1127 : Index := Scalar.indexCast v1126
  let c0_1149 : Index := 0#32
  ![v1127.toNat, 0]

def k0_chk35 (v1124 : BitVec 32) : Prop :=
  (∀ a, (k0_off70 v1124) a + S256x256.size a ≤ S8192x256.size a) ∧
  (∀ (hinb : ∀ a, (k0_off70 v1124) a + S256x256.size a ≤ S8192x256.size a), (Rect.unit (s := S8192x256) (k0_off70 v1124) S256x256.size hinb).PackedRows (EltTy.packing .bf16))
theorem k0_off70_inb : ∀ (v1124 : BitVec 32) (k0_hw35 : k0_chk35 v1124), ∀ a, (k0_off70 v1124) a + S256x256.size a ≤ S8192x256.size a := fun v1124 k0_hw35 => k0_hw35.1
theorem k0_off70_packedbf16 : ∀ (v1124 : BitVec 32) (k0_hw35 : k0_chk35 v1124), (Rect.unit (s := S8192x256) (k0_off70 v1124) S256x256.size (k0_off70_inb v1124 k0_hw35)).PackedRows (EltTy.packing .bf16) := fun v1124 k0_hw35 => k0_hw35.2 (k0_off70_inb v1124 k0_hw35)

def k0_dev67 (v14 : BitVec 32) : Nat :=
  let c0_i32_601 : BitVec 32 := 0#32
  let c1_i32_600 : BitVec 32 := 1#32
  let v612 : BitVec 32 := Scalar.muli v14 c1_i32_600
  let v613 : BitVec 32 := Scalar.addi c0_i32_601 v612
  v613.toNat
def k0_dev68 (v9 : BitVec 32) : Nat :=
  let c0_i32_604 : BitVec 32 := 0#32
  let c1_i32_603 : BitVec 32 := 1#32
  let v614 : BitVec 32 := Scalar.muli v9 c1_i32_603
  let v615 : BitVec 32 := Scalar.addi c0_i32_604 v614
  v615.toNat
def k0_dev69 (v9 : BitVec 32) : Nat :=
  let c0_i32_612 : BitVec 32 := 0#32
  let c1_i32_611 : BitVec 32 := 1#32
  let v616 : BitVec 32 := Scalar.muli v9 c1_i32_611
  let v617 : BitVec 32 := Scalar.addi c0_i32_612 v616
  v617.toNat
def k0_dev70 (v14 : BitVec 32) : Nat :=
  let c0_i32_620 : BitVec 32 := 0#32
  let c1_i32_619 : BitVec 32 := 1#32
  let v624 : BitVec 32 := Scalar.muli v14 c1_i32_619
  let v625 : BitVec 32 := Scalar.addi c0_i32_620 v624
  v625.toNat
def k0_off71 (v4 : BitVec 32) : Fin 1 → Nat :=
  let c1_i32_655 : BitVec 32 := 1#32
  let v652 : BitVec 32 := Scalar.subi v4 c1_i32_655
  let c14_i32_656 : BitVec 32 := 14#32
  let v653 : BitVec 32 := Scalar.subi v652 c14_i32_656
  let c64_i32_657 : BitVec 32 := 64#32
  let v654 : BitVec 32 := Scalar.addi v653 c64_i32_657
  let c32_i32_658 : BitVec 32 := 32#32
  let v655 : BitVec 32 := Scalar.remsi v654 c32_i32_658
  let v656 : Index := Scalar.indexCast v655
  ![v656.toNat]
def k0_off72 (v657 : BitVec 32) : Fin 2 → Nat :=
  let c256_i32_661 : BitVec 32 := 256#32
  let v659 : BitVec 32 := Scalar.muli v657 c256_i32_661
  let v660 : Index := Scalar.indexCast v659
  let c0_662 : Index := 0#32
  ![v660.toNat, 0]

def k0_chk36 (v657 : BitVec 32) : Prop :=
  (∀ a, (k0_off72 v657) a + S256x256.size a ≤ S8192x256.size a) ∧
  (∀ (hinb : ∀ a, (k0_off72 v657) a + S256x256.size a ≤ S8192x256.size a), (Rect.unit (s := S8192x256) (k0_off72 v657) S256x256.size hinb).PackedRows (EltTy.packing .bf16))
theorem k0_off72_inb : ∀ (v657 : BitVec 32) (k0_hw36 : k0_chk36 v657), ∀ a, (k0_off72 v657) a + S256x256.size a ≤ S8192x256.size a := fun v657 k0_hw36 => k0_hw36.1
theorem k0_off72_packedbf16 : ∀ (v657 : BitVec 32) (k0_hw36 : k0_chk36 v657), (Rect.unit (s := S8192x256) (k0_off72 v657) S256x256.size (k0_off72_inb v657 k0_hw36)).PackedRows (EltTy.packing .bf16) := fun v657 k0_hw36 => k0_hw36.2 (k0_off72_inb v657 k0_hw36)

def k0_off73 (v4 : BitVec 32) : Fin 1 → Nat :=
  let c1_i32_663 : BitVec 32 := 1#32
  let v664 : BitVec 32 := Scalar.addi v4 c1_i32_663
  let c14_i32_664 : BitVec 32 := 14#32
  let v665 : BitVec 32 := Scalar.addi v664 c14_i32_664
  let c64_i32_665 : BitVec 32 := 64#32
  let v666 : BitVec 32 := Scalar.addi v665 c64_i32_665
  let c32_i32_666 : BitVec 32 := 32#32
  let v667 : BitVec 32 := Scalar.remsi v666 c32_i32_666
  let v668 : Index := Scalar.indexCast v667
  ![v668.toNat]
def k0_off74 (v669 : BitVec 32) : Fin 2 → Nat :=
  let c256_i32_669 : BitVec 32 := 256#32
  let v671 : BitVec 32 := Scalar.muli v669 c256_i32_669
  let v672 : Index := Scalar.indexCast v671
  let c0_670 : Index := 0#32
  ![v672.toNat, 0]

def k0_chk37 (v669 : BitVec 32) : Prop :=
  (∀ a, (k0_off74 v669) a + S256x256.size a ≤ S8192x256.size a) ∧
  (∀ (hinb : ∀ a, (k0_off74 v669) a + S256x256.size a ≤ S8192x256.size a), (Rect.unit (s := S8192x256) (k0_off74 v669) S256x256.size hinb).PackedRows (EltTy.packing .bf16))
theorem k0_off74_inb : ∀ (v669 : BitVec 32) (k0_hw37 : k0_chk37 v669), ∀ a, (k0_off74 v669) a + S256x256.size a ≤ S8192x256.size a := fun v669 k0_hw37 => k0_hw37.1
theorem k0_off74_packedbf16 : ∀ (v669 : BitVec 32) (k0_hw37 : k0_chk37 v669), (Rect.unit (s := S8192x256) (k0_off74 v669) S256x256.size (k0_off74_inb v669 k0_hw37)).PackedRows (EltTy.packing .bf16) := fun v669 k0_hw37 => k0_hw37.2 (k0_off74_inb v669 k0_hw37)

def k0_dev71 (v14 : BitVec 32) : Nat :=
  let c0_i32_673 : BitVec 32 := 0#32
  let c1_i32_672 : BitVec 32 := 1#32
  let v676 : BitVec 32 := Scalar.muli v14 c1_i32_672
  let v677 : BitVec 32 := Scalar.addi c0_i32_673 v676
  v677.toNat
def k0_dev72 (v9 : BitVec 32) : Nat :=
  let c0_i32_679 : BitVec 32 := 0#32
  let c1_i32_678 : BitVec 32 := 1#32
  let v678 : BitVec 32 := Scalar.muli v9 c1_i32_678
  let v679 : BitVec 32 := Scalar.addi c0_i32_679 v678
  v679.toNat
def k0_off75 (v4 : BitVec 32) : Fin 1 → Nat :=
  let c1_i32_699 : BitVec 32 := 1#32
  let v696 : BitVec 32 := Scalar.subi v4 c1_i32_699
  let c15_i32_700 : BitVec 32 := 15#32
  let v697 : BitVec 32 := Scalar.subi v696 c15_i32_700
  let c64_i32_701 : BitVec 32 := 64#32
  let v698 : BitVec 32 := Scalar.addi v697 c64_i32_701
  let c32_i32_702 : BitVec 32 := 32#32
  let v699 : BitVec 32 := Scalar.remsi v698 c32_i32_702
  let v700 : Index := Scalar.indexCast v699
  ![v700.toNat]
def k0_off76 (v701 : BitVec 32) : Fin 2 → Nat :=
  let c256_i32_705 : BitVec 32 := 256#32
  let v703 : BitVec 32 := Scalar.muli v701 c256_i32_705
  let v704 : Index := Scalar.indexCast v703
  let c0_706 : Index := 0#32
  ![v704.toNat, 0]

def k0_chk38 (v701 : BitVec 32) : Prop :=
  (∀ a, (k0_off76 v701) a + S256x256.size a ≤ S8192x256.size a) ∧
  (∀ (hinb : ∀ a, (k0_off76 v701) a + S256x256.size a ≤ S8192x256.size a), (Rect.unit (s := S8192x256) (k0_off76 v701) S256x256.size hinb).PackedRows (EltTy.packing .bf16))
theorem k0_off76_inb : ∀ (v701 : BitVec 32) (k0_hw38 : k0_chk38 v701), ∀ a, (k0_off76 v701) a + S256x256.size a ≤ S8192x256.size a := fun v701 k0_hw38 => k0_hw38.1
theorem k0_off76_packedbf16 : ∀ (v701 : BitVec 32) (k0_hw38 : k0_chk38 v701), (Rect.unit (s := S8192x256) (k0_off76 v701) S256x256.size (k0_off76_inb v701 k0_hw38)).PackedRows (EltTy.packing .bf16) := fun v701 k0_hw38 => k0_hw38.2 (k0_off76_inb v701 k0_hw38)

def k0_off77 (v4 : BitVec 32) : Fin 1 → Nat :=
  let c16_i32_767 : BitVec 32 := 16#32
  let v784 : BitVec 32 := Scalar.addi v4 c16_i32_767
  let c64_i32_768 : BitVec 32 := 64#32
  let v785 : BitVec 32 := Scalar.addi v784 c64_i32_768
  let c32_i32_769 : BitVec 32 := 32#32
  let v786 : BitVec 32 := Scalar.remsi v785 c32_i32_769
  let v787 : Index := Scalar.indexCast v786
  ![v787.toNat]
def k0_off78 (v788 : BitVec 32) : Fin 2 → Nat :=
  let c256_i32_770 : BitVec 32 := 256#32
  let v789 : BitVec 32 := Scalar.muli v788 c256_i32_770
  let v790 : Index := Scalar.indexCast v789
  let c0_771 : Index := 0#32
  ![v790.toNat, 0]

def k0_chk39 (v788 : BitVec 32) : Prop :=
  (∀ a, (k0_off78 v788) a + S256x256.size a ≤ S8192x256.size a)
theorem k0_off78_inb : ∀ (v788 : BitVec 32) (k0_hw39 : k0_chk39 v788), ∀ a, (k0_off78 v788) a + S256x256.size a ≤ S8192x256.size a := fun v788 k0_hw39 => k0_hw39

def k0_off79 (v4 : BitVec 32) : Fin 1 → Nat :=
  let c15_i32_774 : BitVec 32 := 15#32
  let v795 : BitVec 32 := Scalar.subi v4 c15_i32_774
  let c64_i32_775 : BitVec 32 := 64#32
  let v796 : BitVec 32 := Scalar.addi v795 c64_i32_775
  let c32_i32_776 : BitVec 32 := 32#32
  let v797 : BitVec 32 := Scalar.remsi v796 c32_i32_776
  let v798 : Index := Scalar.indexCast v797
  ![v798.toNat]
def k0_off80 (v799 : BitVec 32) : Fin 2 → Nat :=
  let c256_i32_777 : BitVec 32 := 256#32
  let v800 : BitVec 32 := Scalar.muli v799 c256_i32_777
  let v801 : Index := Scalar.indexCast v800
  let c0_778 : Index := 0#32
  ![v801.toNat, 0]

def k0_chk40 (v799 : BitVec 32) : Prop :=
  (∀ a, (k0_off80 v799) a + S256x256.size a ≤ S8192x256.size a)
theorem k0_off80_inb : ∀ (v799 : BitVec 32) (k0_hw40 : k0_chk40 v799), ∀ a, (k0_off80 v799) a + S256x256.size a ≤ S8192x256.size a := fun v799 k0_hw40 => k0_hw40

@[reducible] def k0_t6_loop : Scf.Loop 32 :=
  let c0_i32_781 : BitVec 32 := 0#32
  let c7_i32_782 : BitVec 32 := 7#32
  let v806 : BitVec 32 := Scalar.addi c0_i32_781 c7_i32_782
  let c1_i32_783 : BitVec 32 := 1#32
  ⟨c0_i32_781, v806, c1_i32_783⟩
def k0_dev73 (v14 : BitVec 32) : Nat :=
  let c0_i32_1010 : BitVec 32 := 0#32
  let c1_i32_1009 : BitVec 32 := 1#32
  let v1001 : BitVec 32 := Scalar.muli v14 c1_i32_1009
  let v1002 : BitVec 32 := Scalar.addi c0_i32_1010 v1001
  v1002.toNat
def k0_dev74 (v9 : BitVec 32) : Nat :=
  let c0_i32_1013 : BitVec 32 := 0#32
  let c1_i32_1012 : BitVec 32 := 1#32
  let v1003 : BitVec 32 := Scalar.muli v9 c1_i32_1012
  let v1004 : BitVec 32 := Scalar.addi c0_i32_1013 v1003
  v1004.toNat
def k0_dev75 (v9 : BitVec 32) : Nat :=
  let c0_i32_1021 : BitVec 32 := 0#32
  let c1_i32_1020 : BitVec 32 := 1#32
  let v1005 : BitVec 32 := Scalar.muli v9 c1_i32_1020
  let v1006 : BitVec 32 := Scalar.addi c0_i32_1021 v1005
  v1006.toNat
def k0_dev76 (v14 : BitVec 32) : Nat :=
  let c0_i32_1029 : BitVec 32 := 0#32
  let c1_i32_1028 : BitVec 32 := 1#32
  let v1013 : BitVec 32 := Scalar.muli v14 c1_i32_1028
  let v1014 : BitVec 32 := Scalar.addi c0_i32_1029 v1013
  v1014.toNat
def k0_off81 (v4 : BitVec 32) (k0_t6 : Fin k0_t6_loop.trips) : Fin 1 → Nat :=
  let c15_i32_1064 : BitVec 32 := 15#32
  let v1041 : BitVec 32 := Scalar.addi v4 c15_i32_1064
  let c2_i32_1007 : BitVec 32 := 2#32
  let c0_i32_781 : BitVec 32 := 0#32
  let c1_i32_783 : BitVec 32 := 1#32
  let arg22 : BitVec 32 := Scf.iv c0_i32_781 c1_i32_783 k0_t6
  let v1000 : BitVec 32 := Scalar.muli c2_i32_1007 arg22
  let v1042 : BitVec 32 := Scalar.subi v1041 v1000
  let c64_i32_1065 : BitVec 32 := 64#32
  let v1043 : BitVec 32 := Scalar.addi v1042 c64_i32_1065
  let c32_i32_1066 : BitVec 32 := 32#32
  let v1044 : BitVec 32 := Scalar.remsi v1043 c32_i32_1066
  let v1045 : Index := Scalar.indexCast v1044
  ![v1045.toNat]
def k0_off82 (v1046 : BitVec 32) : Fin 2 → Nat :=
  let c256_i32_1069 : BitVec 32 := 256#32
  let v1048 : BitVec 32 := Scalar.muli v1046 c256_i32_1069
  let v1049 : Index := Scalar.indexCast v1048
  let c0_1070 : Index := 0#32
  ![v1049.toNat, 0]

def k0_chk41 (v1046 : BitVec 32) : Prop :=
  (∀ a, (k0_off82 v1046) a + S256x256.size a ≤ S8192x256.size a)
theorem k0_off82_inb : ∀ (v1046 : BitVec 32) (k0_hw41 : k0_chk41 v1046), ∀ a, (k0_off82 v1046) a + S256x256.size a ≤ S8192x256.size a := fun v1046 k0_hw41 => k0_hw41

def k0_off83 (v4 : BitVec 32) (k0_t6 : Fin k0_t6_loop.trips) : Fin 1 → Nat :=
  let c14_i32_1073 : BitVec 32 := 14#32
  let v1055 : BitVec 32 := Scalar.subi v4 c14_i32_1073
  let c2_i32_1007 : BitVec 32 := 2#32
  let c0_i32_781 : BitVec 32 := 0#32
  let c1_i32_783 : BitVec 32 := 1#32
  let arg22 : BitVec 32 := Scf.iv c0_i32_781 c1_i32_783 k0_t6
  let v1000 : BitVec 32 := Scalar.muli c2_i32_1007 arg22
  let v1056 : BitVec 32 := Scalar.addi v1055 v1000
  let c64_i32_1074 : BitVec 32 := 64#32
  let v1057 : BitVec 32 := Scalar.addi v1056 c64_i32_1074
  let c32_i32_1075 : BitVec 32 := 32#32
  let v1058 : BitVec 32 := Scalar.remsi v1057 c32_i32_1075
  let v1059 : Index := Scalar.indexCast v1058
  ![v1059.toNat]
def k0_off84 (v1060 : BitVec 32) : Fin 2 → Nat :=
  let c256_i32_1078 : BitVec 32 := 256#32
  let v1062 : BitVec 32 := Scalar.muli v1060 c256_i32_1078
  let v1063 : Index := Scalar.indexCast v1062
  let c0_1079 : Index := 0#32
  ![v1063.toNat, 0]

def k0_chk42 (v1060 : BitVec 32) : Prop :=
  (∀ a, (k0_off84 v1060) a + S256x256.size a ≤ S8192x256.size a)
theorem k0_off84_inb : ∀ (v1060 : BitVec 32) (k0_hw42 : k0_chk42 v1060), ∀ a, (k0_off84 v1060) a + S256x256.size a ≤ S8192x256.size a := fun v1060 k0_hw42 => k0_hw42

def k0_dev77 (v14 : BitVec 32) : Nat :=
  let c0_i32_1086 : BitVec 32 := 0#32
  let c1_i32_1085 : BitVec 32 := 1#32
  let v1071 : BitVec 32 := Scalar.muli v14 c1_i32_1085
  let v1072 : BitVec 32 := Scalar.addi c0_i32_1086 v1071
  v1072.toNat
def k0_dev78 (v9 : BitVec 32) : Nat :=
  let c0_i32_1089 : BitVec 32 := 0#32
  let c1_i32_1088 : BitVec 32 := 1#32
  let v1073 : BitVec 32 := Scalar.muli v9 c1_i32_1088
  let v1074 : BitVec 32 := Scalar.addi c0_i32_1089 v1073
  v1074.toNat
def k0_dev79 (v9 : BitVec 32) : Nat :=
  let c0_i32_1097 : BitVec 32 := 0#32
  let c1_i32_1096 : BitVec 32 := 1#32
  let v1075 : BitVec 32 := Scalar.muli v9 c1_i32_1096
  let v1076 : BitVec 32 := Scalar.addi c0_i32_1097 v1075
  v1076.toNat
def k0_dev80 (v14 : BitVec 32) : Nat :=
  let c0_i32_1105 : BitVec 32 := 0#32
  let c1_i32_1104 : BitVec 32 := 1#32
  let v1083 : BitVec 32 := Scalar.muli v14 c1_i32_1104
  let v1084 : BitVec 32 := Scalar.addi c0_i32_1105 v1083
  v1084.toNat
def k0_off85 (v4 : BitVec 32) (k0_t6 : Fin k0_t6_loop.trips) : Fin 1 → Nat :=
  let c15_i32_1140 : BitVec 32 := 15#32
  let v1111 : BitVec 32 := Scalar.addi v4 c15_i32_1140
  let c2_i32_1082 : BitVec 32 := 2#32
  let c0_i32_781 : BitVec 32 := 0#32
  let c1_i32_783 : BitVec 32 := 1#32
  let arg22 : BitVec 32 := Scf.iv c0_i32_781 c1_i32_783 k0_t6
  let v1069 : BitVec 32 := Scalar.muli c2_i32_1082 arg22
  let c1_i32_1083 : BitVec 32 := 1#32
  let v1070 : BitVec 32 := Scalar.addi v1069 c1_i32_1083
  let v1112 : BitVec 32 := Scalar.subi v1111 v1070
  let c64_i32_1141 : BitVec 32 := 64#32
  let v1113 : BitVec 32 := Scalar.addi v1112 c64_i32_1141
  let c32_i32_1142 : BitVec 32 := 32#32
  let v1114 : BitVec 32 := Scalar.remsi v1113 c32_i32_1142
  let v1115 : Index := Scalar.indexCast v1114
  ![v1115.toNat]
def k0_off86 (v1116 : BitVec 32) : Fin 2 → Nat :=
  let c256_i32_1145 : BitVec 32 := 256#32
  let v1118 : BitVec 32 := Scalar.muli v1116 c256_i32_1145
  let v1119 : Index := Scalar.indexCast v1118
  let c0_1146 : Index := 0#32
  ![v1119.toNat, 0]

def k0_chk43 (v1116 : BitVec 32) : Prop :=
  (∀ a, (k0_off86 v1116) a + S256x256.size a ≤ S8192x256.size a)
theorem k0_off86_inb : ∀ (v1116 : BitVec 32) (k0_hw43 : k0_chk43 v1116), ∀ a, (k0_off86 v1116) a + S256x256.size a ≤ S8192x256.size a := fun v1116 k0_hw43 => k0_hw43

def k0_off87 (v4 : BitVec 32) (k0_t6 : Fin k0_t6_loop.trips) : Fin 1 → Nat :=
  let c14_i32_1149 : BitVec 32 := 14#32
  let v1125 : BitVec 32 := Scalar.subi v4 c14_i32_1149
  let c2_i32_1082 : BitVec 32 := 2#32
  let c0_i32_781 : BitVec 32 := 0#32
  let c1_i32_783 : BitVec 32 := 1#32
  let arg22 : BitVec 32 := Scf.iv c0_i32_781 c1_i32_783 k0_t6
  let v1069 : BitVec 32 := Scalar.muli c2_i32_1082 arg22
  let c1_i32_1083 : BitVec 32 := 1#32
  let v1070 : BitVec 32 := Scalar.addi v1069 c1_i32_1083
  let v1126 : BitVec 32 := Scalar.addi v1125 v1070
  let c64_i32_1150 : BitVec 32 := 64#32
  let v1127 : BitVec 32 := Scalar.addi v1126 c64_i32_1150
  let c32_i32_1151 : BitVec 32 := 32#32
  let v1128 : BitVec 32 := Scalar.remsi v1127 c32_i32_1151
  let v1129 : Index := Scalar.indexCast v1128
  ![v1129.toNat]
def k0_off88 (v1130 : BitVec 32) : Fin 2 → Nat :=
  let c256_i32_1154 : BitVec 32 := 256#32
  let v1132 : BitVec 32 := Scalar.muli v1130 c256_i32_1154
  let v1133 : Index := Scalar.indexCast v1132
  let c0_1155 : Index := 0#32
  ![v1133.toNat, 0]

def k0_chk44 (v1130 : BitVec 32) : Prop :=
  (∀ a, (k0_off88 v1130) a + S256x256.size a ≤ S8192x256.size a)
theorem k0_off88_inb : ∀ (v1130 : BitVec 32) (k0_hw44 : k0_chk44 v1130), ∀ a, (k0_off88 v1130) a + S256x256.size a ≤ S8192x256.size a := fun v1130 k0_hw44 => k0_hw44

def k0_dev81 (v14 : BitVec 32) : Nat :=
  let c0_i32_787 : BitVec 32 := 0#32
  let c1_i32_786 : BitVec 32 := 1#32
  let v807 : BitVec 32 := Scalar.muli v14 c1_i32_786
  let v808 : BitVec 32 := Scalar.addi c0_i32_787 v807
  v808.toNat
def k0_dev82 (v9 : BitVec 32) : Nat :=
  let c0_i32_790 : BitVec 32 := 0#32
  let c1_i32_789 : BitVec 32 := 1#32
  let v809 : BitVec 32 := Scalar.muli v9 c1_i32_789
  let v810 : BitVec 32 := Scalar.addi c0_i32_790 v809
  v810.toNat
def k0_dev83 (v9 : BitVec 32) : Nat :=
  let c0_i32_798 : BitVec 32 := 0#32
  let c1_i32_797 : BitVec 32 := 1#32
  let v811 : BitVec 32 := Scalar.muli v9 c1_i32_797
  let v812 : BitVec 32 := Scalar.addi c0_i32_798 v811
  v812.toNat
def k0_dev84 (v14 : BitVec 32) : Nat :=
  let c0_i32_806 : BitVec 32 := 0#32
  let c1_i32_805 : BitVec 32 := 1#32
  let v819 : BitVec 32 := Scalar.muli v14 c1_i32_805
  let v820 : BitVec 32 := Scalar.addi c0_i32_806 v819
  v820.toNat
def k0_off89 (v4 : BitVec 32) : Fin 1 → Nat :=
  let c15_i32_841 : BitVec 32 := 15#32
  let v847 : BitVec 32 := Scalar.addi v4 c15_i32_841
  let c14_i32_842 : BitVec 32 := 14#32
  let v848 : BitVec 32 := Scalar.subi v847 c14_i32_842
  let c64_i32_843 : BitVec 32 := 64#32
  let v849 : BitVec 32 := Scalar.addi v848 c64_i32_843
  let c32_i32_844 : BitVec 32 := 32#32
  let v850 : BitVec 32 := Scalar.remsi v849 c32_i32_844
  let v851 : Index := Scalar.indexCast v850
  ![v851.toNat]
def k0_off90 (v852 : BitVec 32) : Fin 2 → Nat :=
  let c256_i32_847 : BitVec 32 := 256#32
  let v854 : BitVec 32 := Scalar.muli v852 c256_i32_847
  let v855 : Index := Scalar.indexCast v854
  let c0_848 : Index := 0#32
  ![v855.toNat, 0]

def k0_chk45 (v852 : BitVec 32) : Prop :=
  (∀ a, (k0_off90 v852) a + S256x256.size a ≤ S8192x256.size a)
theorem k0_off90_inb : ∀ (v852 : BitVec 32) (k0_hw45 : k0_chk45 v852), ∀ a, (k0_off90 v852) a + S256x256.size a ≤ S8192x256.size a := fun v852 k0_hw45 => k0_hw45

def k0_dev85 (v14 : BitVec 32) : Nat :=
  let c0_i32_853 : BitVec 32 := 0#32
  let c1_i32_852 : BitVec 32 := 1#32
  let v861 : BitVec 32 := Scalar.muli v14 c1_i32_852
  let v862 : BitVec 32 := Scalar.addi c0_i32_853 v861
  v862.toNat
def k0_dev86 (v9 : BitVec 32) : Nat :=
  let c0_i32_859 : BitVec 32 := 0#32
  let c1_i32_858 : BitVec 32 := 1#32
  let v863 : BitVec 32 := Scalar.muli v9 c1_i32_858
  let v864 : BitVec 32 := Scalar.addi c0_i32_859 v863
  v864.toNat
def k0_off91 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32_883 : BitVec 32 := 256#32
  let v884 : BitVec 32 := Scalar.muli v2 c256_i32_883
  let v885 : Index := Scalar.indexCast v884
  let c0_884 : Index := 0#32
  ![v885.toNat, 0]
@[reducible] def k0_t7_loop : Scf.Loop 32 :=
  let c0_i32_891 : BitVec 32 := 0#32
  let c7_i32_892 : BitVec 32 := 7#32
  let v900 : BitVec 32 := Scalar.addi c0_i32_891 c7_i32_892
  let c1_i32_893 : BitVec 32 := 1#32
  ⟨c0_i32_891, v900, c1_i32_893⟩
def k0_dev87 (v14 : BitVec 32) : Nat :=
  let c0_i32_1010 : BitVec 32 := 0#32
  let c1_i32_1009 : BitVec 32 := 1#32
  let v1001 : BitVec 32 := Scalar.muli v14 c1_i32_1009
  let v1002 : BitVec 32 := Scalar.addi c0_i32_1010 v1001
  v1002.toNat
def k0_dev88 (v9 : BitVec 32) : Nat :=
  let c0_i32_1013 : BitVec 32 := 0#32
  let c1_i32_1012 : BitVec 32 := 1#32
  let v1003 : BitVec 32 := Scalar.muli v9 c1_i32_1012
  let v1004 : BitVec 32 := Scalar.addi c0_i32_1013 v1003
  v1004.toNat
def k0_dev89 (v9 : BitVec 32) : Nat :=
  let c0_i32_1021 : BitVec 32 := 0#32
  let c1_i32_1020 : BitVec 32 := 1#32
  let v1005 : BitVec 32 := Scalar.muli v9 c1_i32_1020
  let v1006 : BitVec 32 := Scalar.addi c0_i32_1021 v1005
  v1006.toNat
def k0_dev90 (v14 : BitVec 32) : Nat :=
  let c0_i32_1029 : BitVec 32 := 0#32
  let c1_i32_1028 : BitVec 32 := 1#32
  let v1013 : BitVec 32 := Scalar.muli v14 c1_i32_1028
  let v1014 : BitVec 32 := Scalar.addi c0_i32_1029 v1013
  v1014.toNat
def k0_off92 (v4 : BitVec 32) (k0_t7 : Fin k0_t7_loop.trips) : Fin 1 → Nat :=
  let c1_i32_1064 : BitVec 32 := 1#32
  let v1041 : BitVec 32 := Scalar.subi v4 c1_i32_1064
  let c2_i32_1007 : BitVec 32 := 2#32
  let c0_i32_891 : BitVec 32 := 0#32
  let c1_i32_893 : BitVec 32 := 1#32
  let arg22 : BitVec 32 := Scf.iv c0_i32_891 c1_i32_893 k0_t7
  let v1000 : BitVec 32 := Scalar.muli c2_i32_1007 arg22
  let v1042 : BitVec 32 := Scalar.subi v1041 v1000
  let c64_i32_1065 : BitVec 32 := 64#32
  let v1043 : BitVec 32 := Scalar.addi v1042 c64_i32_1065
  let c32_i32_1066 : BitVec 32 := 32#32
  let v1044 : BitVec 32 := Scalar.remsi v1043 c32_i32_1066
  let v1045 : Index := Scalar.indexCast v1044
  ![v1045.toNat]
def k0_off93 (v1046 : BitVec 32) : Fin 2 → Nat :=
  let c256_i32_1069 : BitVec 32 := 256#32
  let v1048 : BitVec 32 := Scalar.muli v1046 c256_i32_1069
  let v1049 : Index := Scalar.indexCast v1048
  let c0_1070 : Index := 0#32
  ![v1049.toNat, 0]

def k0_chk46 (v1046 : BitVec 32) : Prop :=
  (∀ a, (k0_off93 v1046) a + S256x256.size a ≤ S8192x256.size a) ∧
  (∀ (hinb : ∀ a, (k0_off93 v1046) a + S256x256.size a ≤ S8192x256.size a), (Rect.unit (s := S8192x256) (k0_off93 v1046) S256x256.size hinb).PackedRows (EltTy.packing .bf16))
theorem k0_off93_inb : ∀ (v1046 : BitVec 32) (k0_hw46 : k0_chk46 v1046), ∀ a, (k0_off93 v1046) a + S256x256.size a ≤ S8192x256.size a := fun v1046 k0_hw46 => k0_hw46.1
theorem k0_off93_packedbf16 : ∀ (v1046 : BitVec 32) (k0_hw46 : k0_chk46 v1046), (Rect.unit (s := S8192x256) (k0_off93 v1046) S256x256.size (k0_off93_inb v1046 k0_hw46)).PackedRows (EltTy.packing .bf16) := fun v1046 k0_hw46 => k0_hw46.2 (k0_off93_inb v1046 k0_hw46)

def k0_off94 (v4 : BitVec 32) (k0_t7 : Fin k0_t7_loop.trips) : Fin 1 → Nat :=
  let c1_i32_1071 : BitVec 32 := 1#32
  let v1053 : BitVec 32 := Scalar.addi v4 c1_i32_1071
  let c2_i32_1007 : BitVec 32 := 2#32
  let c0_i32_891 : BitVec 32 := 0#32
  let c1_i32_893 : BitVec 32 := 1#32
  let arg22 : BitVec 32 := Scf.iv c0_i32_891 c1_i32_893 k0_t7
  let v1000 : BitVec 32 := Scalar.muli c2_i32_1007 arg22
  let v1054 : BitVec 32 := Scalar.addi v1053 v1000
  let c64_i32_1072 : BitVec 32 := 64#32
  let v1055 : BitVec 32 := Scalar.addi v1054 c64_i32_1072
  let c32_i32_1073 : BitVec 32 := 32#32
  let v1056 : BitVec 32 := Scalar.remsi v1055 c32_i32_1073
  let v1057 : Index := Scalar.indexCast v1056
  ![v1057.toNat]
def k0_off95 (v1058 : BitVec 32) : Fin 2 → Nat :=
  let c256_i32_1076 : BitVec 32 := 256#32
  let v1060 : BitVec 32 := Scalar.muli v1058 c256_i32_1076
  let v1061 : Index := Scalar.indexCast v1060
  let c0_1077 : Index := 0#32
  ![v1061.toNat, 0]

def k0_chk47 (v1058 : BitVec 32) : Prop :=
  (∀ a, (k0_off95 v1058) a + S256x256.size a ≤ S8192x256.size a) ∧
  (∀ (hinb : ∀ a, (k0_off95 v1058) a + S256x256.size a ≤ S8192x256.size a), (Rect.unit (s := S8192x256) (k0_off95 v1058) S256x256.size hinb).PackedRows (EltTy.packing .bf16))
theorem k0_off95_inb : ∀ (v1058 : BitVec 32) (k0_hw47 : k0_chk47 v1058), ∀ a, (k0_off95 v1058) a + S256x256.size a ≤ S8192x256.size a := fun v1058 k0_hw47 => k0_hw47.1
theorem k0_off95_packedbf16 : ∀ (v1058 : BitVec 32) (k0_hw47 : k0_chk47 v1058), (Rect.unit (s := S8192x256) (k0_off95 v1058) S256x256.size (k0_off95_inb v1058 k0_hw47)).PackedRows (EltTy.packing .bf16) := fun v1058 k0_hw47 => k0_hw47.2 (k0_off95_inb v1058 k0_hw47)

def k0_dev91 (v14 : BitVec 32) : Nat :=
  let c0_i32_1082 : BitVec 32 := 0#32
  let c1_i32_1081 : BitVec 32 := 1#32
  let v1067 : BitVec 32 := Scalar.muli v14 c1_i32_1081
  let v1068 : BitVec 32 := Scalar.addi c0_i32_1082 v1067
  v1068.toNat
def k0_dev92 (v9 : BitVec 32) : Nat :=
  let c0_i32_1085 : BitVec 32 := 0#32
  let c1_i32_1084 : BitVec 32 := 1#32
  let v1069 : BitVec 32 := Scalar.muli v9 c1_i32_1084
  let v1070 : BitVec 32 := Scalar.addi c0_i32_1085 v1069
  v1070.toNat
def k0_dev93 (v9 : BitVec 32) : Nat :=
  let c0_i32_1093 : BitVec 32 := 0#32
  let c1_i32_1092 : BitVec 32 := 1#32
  let v1071 : BitVec 32 := Scalar.muli v9 c1_i32_1092
  let v1072 : BitVec 32 := Scalar.addi c0_i32_1093 v1071
  v1072.toNat
def k0_dev94 (v14 : BitVec 32) : Nat :=
  let c0_i32_1101 : BitVec 32 := 0#32
  let c1_i32_1100 : BitVec 32 := 1#32
  let v1079 : BitVec 32 := Scalar.muli v14 c1_i32_1100
  let v1080 : BitVec 32 := Scalar.addi c0_i32_1101 v1079
  v1080.toNat
def k0_off96 (v4 : BitVec 32) (k0_t7 : Fin k0_t7_loop.trips) : Fin 1 → Nat :=
  let c1_i32_1136 : BitVec 32 := 1#32
  let v1107 : BitVec 32 := Scalar.subi v4 c1_i32_1136
  let c2_i32_1078 : BitVec 32 := 2#32
  let c0_i32_891 : BitVec 32 := 0#32
  let c1_i32_893 : BitVec 32 := 1#32
  let arg22 : BitVec 32 := Scf.iv c0_i32_891 c1_i32_893 k0_t7
  let v1065 : BitVec 32 := Scalar.muli c2_i32_1078 arg22
  let c1_i32_1079 : BitVec 32 := 1#32
  let v1066 : BitVec 32 := Scalar.addi v1065 c1_i32_1079
  let v1108 : BitVec 32 := Scalar.subi v1107 v1066
  let c64_i32_1137 : BitVec 32 := 64#32
  let v1109 : BitVec 32 := Scalar.addi v1108 c64_i32_1137
  let c32_i32_1138 : BitVec 32 := 32#32
  let v1110 : BitVec 32 := Scalar.remsi v1109 c32_i32_1138
  let v1111 : Index := Scalar.indexCast v1110
  ![v1111.toNat]
def k0_off97 (v1112 : BitVec 32) : Fin 2 → Nat :=
  let c256_i32_1141 : BitVec 32 := 256#32
  let v1114 : BitVec 32 := Scalar.muli v1112 c256_i32_1141
  let v1115 : Index := Scalar.indexCast v1114
  let c0_1142 : Index := 0#32
  ![v1115.toNat, 0]

def k0_chk48 (v1112 : BitVec 32) : Prop :=
  (∀ a, (k0_off97 v1112) a + S256x256.size a ≤ S8192x256.size a) ∧
  (∀ (hinb : ∀ a, (k0_off97 v1112) a + S256x256.size a ≤ S8192x256.size a), (Rect.unit (s := S8192x256) (k0_off97 v1112) S256x256.size hinb).PackedRows (EltTy.packing .bf16))
theorem k0_off97_inb : ∀ (v1112 : BitVec 32) (k0_hw48 : k0_chk48 v1112), ∀ a, (k0_off97 v1112) a + S256x256.size a ≤ S8192x256.size a := fun v1112 k0_hw48 => k0_hw48.1
theorem k0_off97_packedbf16 : ∀ (v1112 : BitVec 32) (k0_hw48 : k0_chk48 v1112), (Rect.unit (s := S8192x256) (k0_off97 v1112) S256x256.size (k0_off97_inb v1112 k0_hw48)).PackedRows (EltTy.packing .bf16) := fun v1112 k0_hw48 => k0_hw48.2 (k0_off97_inb v1112 k0_hw48)

def k0_off98 (v4 : BitVec 32) (k0_t7 : Fin k0_t7_loop.trips) : Fin 1 → Nat :=
  let c1_i32_1143 : BitVec 32 := 1#32
  let v1119 : BitVec 32 := Scalar.addi v4 c1_i32_1143
  let c2_i32_1078 : BitVec 32 := 2#32
  let c0_i32_891 : BitVec 32 := 0#32
  let c1_i32_893 : BitVec 32 := 1#32
  let arg22 : BitVec 32 := Scf.iv c0_i32_891 c1_i32_893 k0_t7
  let v1065 : BitVec 32 := Scalar.muli c2_i32_1078 arg22
  let c1_i32_1079 : BitVec 32 := 1#32
  let v1066 : BitVec 32 := Scalar.addi v1065 c1_i32_1079
  let v1120 : BitVec 32 := Scalar.addi v1119 v1066
  let c64_i32_1144 : BitVec 32 := 64#32
  let v1121 : BitVec 32 := Scalar.addi v1120 c64_i32_1144
  let c32_i32_1145 : BitVec 32 := 32#32
  let v1122 : BitVec 32 := Scalar.remsi v1121 c32_i32_1145
  let v1123 : Index := Scalar.indexCast v1122
  ![v1123.toNat]
def k0_off99 (v1124 : BitVec 32) : Fin 2 → Nat :=
  let c256_i32_1148 : BitVec 32 := 256#32
  let v1126 : BitVec 32 := Scalar.muli v1124 c256_i32_1148
  let v1127 : Index := Scalar.indexCast v1126
  let c0_1149 : Index := 0#32
  ![v1127.toNat, 0]

def k0_chk49 (v1124 : BitVec 32) : Prop :=
  (∀ a, (k0_off99 v1124) a + S256x256.size a ≤ S8192x256.size a) ∧
  (∀ (hinb : ∀ a, (k0_off99 v1124) a + S256x256.size a ≤ S8192x256.size a), (Rect.unit (s := S8192x256) (k0_off99 v1124) S256x256.size hinb).PackedRows (EltTy.packing .bf16))
theorem k0_off99_inb : ∀ (v1124 : BitVec 32) (k0_hw49 : k0_chk49 v1124), ∀ a, (k0_off99 v1124) a + S256x256.size a ≤ S8192x256.size a := fun v1124 k0_hw49 => k0_hw49.1
theorem k0_off99_packedbf16 : ∀ (v1124 : BitVec 32) (k0_hw49 : k0_chk49 v1124), (Rect.unit (s := S8192x256) (k0_off99 v1124) S256x256.size (k0_off99_inb v1124 k0_hw49)).PackedRows (EltTy.packing .bf16) := fun v1124 k0_hw49 => k0_hw49.2 (k0_off99_inb v1124 k0_hw49)

def k0_dev95 (v14 : BitVec 32) : Nat :=
  let c0_i32_897 : BitVec 32 := 0#32
  let c1_i32_896 : BitVec 32 := 1#32
  let v901 : BitVec 32 := Scalar.muli v14 c1_i32_896
  let v902 : BitVec 32 := Scalar.addi c0_i32_897 v901
  v902.toNat
def k0_dev96 (v9 : BitVec 32) : Nat :=
  let c0_i32_900 : BitVec 32 := 0#32
  let c1_i32_899 : BitVec 32 := 1#32
  let v903 : BitVec 32 := Scalar.muli v9 c1_i32_899
  let v904 : BitVec 32 := Scalar.addi c0_i32_900 v903
  v904.toNat
def k0_dev97 (v9 : BitVec 32) : Nat :=
  let c0_i32_908 : BitVec 32 := 0#32
  let c1_i32_907 : BitVec 32 := 1#32
  let v905 : BitVec 32 := Scalar.muli v9 c1_i32_907
  let v906 : BitVec 32 := Scalar.addi c0_i32_908 v905
  v906.toNat
def k0_dev98 (v14 : BitVec 32) : Nat :=
  let c0_i32_916 : BitVec 32 := 0#32
  let c1_i32_915 : BitVec 32 := 1#32
  let v913 : BitVec 32 := Scalar.muli v14 c1_i32_915
  let v914 : BitVec 32 := Scalar.addi c0_i32_916 v913
  v914.toNat
def k0_off100 (v4 : BitVec 32) : Fin 1 → Nat :=
  let c1_i32_951 : BitVec 32 := 1#32
  let v941 : BitVec 32 := Scalar.subi v4 c1_i32_951
  let c14_i32_952 : BitVec 32 := 14#32
  let v942 : BitVec 32 := Scalar.subi v941 c14_i32_952
  let c64_i32_953 : BitVec 32 := 64#32
  let v943 : BitVec 32 := Scalar.addi v942 c64_i32_953
  let c32_i32_954 : BitVec 32 := 32#32
  let v944 : BitVec 32 := Scalar.remsi v943 c32_i32_954
  let v945 : Index := Scalar.indexCast v944
  ![v945.toNat]
def k0_off101 (v946 : BitVec 32) : Fin 2 → Nat :=
  let c256_i32_957 : BitVec 32 := 256#32
  let v948 : BitVec 32 := Scalar.muli v946 c256_i32_957
  let v949 : Index := Scalar.indexCast v948
  let c0_958 : Index := 0#32
  ![v949.toNat, 0]

def k0_chk50 (v946 : BitVec 32) : Prop :=
  (∀ a, (k0_off101 v946) a + S256x256.size a ≤ S8192x256.size a) ∧
  (∀ (hinb : ∀ a, (k0_off101 v946) a + S256x256.size a ≤ S8192x256.size a), (Rect.unit (s := S8192x256) (k0_off101 v946) S256x256.size hinb).PackedRows (EltTy.packing .bf16))
theorem k0_off101_inb : ∀ (v946 : BitVec 32) (k0_hw50 : k0_chk50 v946), ∀ a, (k0_off101 v946) a + S256x256.size a ≤ S8192x256.size a := fun v946 k0_hw50 => k0_hw50.1
theorem k0_off101_packedbf16 : ∀ (v946 : BitVec 32) (k0_hw50 : k0_chk50 v946), (Rect.unit (s := S8192x256) (k0_off101 v946) S256x256.size (k0_off101_inb v946 k0_hw50)).PackedRows (EltTy.packing .bf16) := fun v946 k0_hw50 => k0_hw50.2 (k0_off101_inb v946 k0_hw50)

def k0_off102 (v4 : BitVec 32) : Fin 1 → Nat :=
  let c1_i32_959 : BitVec 32 := 1#32
  let v953 : BitVec 32 := Scalar.addi v4 c1_i32_959
  let c14_i32_960 : BitVec 32 := 14#32
  let v954 : BitVec 32 := Scalar.addi v953 c14_i32_960
  let c64_i32_961 : BitVec 32 := 64#32
  let v955 : BitVec 32 := Scalar.addi v954 c64_i32_961
  let c32_i32_962 : BitVec 32 := 32#32
  let v956 : BitVec 32 := Scalar.remsi v955 c32_i32_962
  let v957 : Index := Scalar.indexCast v956
  ![v957.toNat]
def k0_off103 (v958 : BitVec 32) : Fin 2 → Nat :=
  let c256_i32_965 : BitVec 32 := 256#32
  let v960 : BitVec 32 := Scalar.muli v958 c256_i32_965
  let v961 : Index := Scalar.indexCast v960
  let c0_966 : Index := 0#32
  ![v961.toNat, 0]

def k0_chk51 (v958 : BitVec 32) : Prop :=
  (∀ a, (k0_off103 v958) a + S256x256.size a ≤ S8192x256.size a) ∧
  (∀ (hinb : ∀ a, (k0_off103 v958) a + S256x256.size a ≤ S8192x256.size a), (Rect.unit (s := S8192x256) (k0_off103 v958) S256x256.size hinb).PackedRows (EltTy.packing .bf16))
theorem k0_off103_inb : ∀ (v958 : BitVec 32) (k0_hw51 : k0_chk51 v958), ∀ a, (k0_off103 v958) a + S256x256.size a ≤ S8192x256.size a := fun v958 k0_hw51 => k0_hw51.1
theorem k0_off103_packedbf16 : ∀ (v958 : BitVec 32) (k0_hw51 : k0_chk51 v958), (Rect.unit (s := S8192x256) (k0_off103 v958) S256x256.size (k0_off103_inb v958 k0_hw51)).PackedRows (EltTy.packing .bf16) := fun v958 k0_hw51 => k0_hw51.2 (k0_off103_inb v958 k0_hw51)

def k0_dev99 (v14 : BitVec 32) : Nat :=
  let c0_i32_969 : BitVec 32 := 0#32
  let c1_i32_968 : BitVec 32 := 1#32
  let v965 : BitVec 32 := Scalar.muli v14 c1_i32_968
  let v966 : BitVec 32 := Scalar.addi c0_i32_969 v965
  v966.toNat

def k0_chk2_0 (v14 : BitVec 32) : Prop :=
  ((k0_dev1 v14) < nD) ∧
  ((k0_dev3 v14) < nD) ∧
  ((k0_dev6 v14) < nD) ∧
  ((k0_dev7 v14) < nD) ∧
  ((k0_dev10 v14) < nD) ∧
  ((k0_dev11 v14) < nD) ∧
  ((k0_dev14 v14) < nD) ∧
  ((k0_dev15 v14) < nD) ∧
  ((k0_dev17 v14) < nD) ∧
  ((k0_dev20 v14) < nD) ∧
  ((k0_dev21 v14) < nD) ∧
  ((k0_dev24 v14) < nD) ∧
  ((k0_dev25 v14) < nD) ∧
  ((k0_dev28 v14) < nD) ∧
  ((k0_dev29 v14) < nD) ∧
  ((k0_dev31 v14) < nD) ∧
  ((k0_dev34 v14) < nD) ∧
  ((k0_dev35 v14) < nD) ∧
  ((k0_dev38 v14) < nD) ∧
  ((k0_dev39 v14) < nD) ∧
  ((k0_dev42 v14) < nD) ∧
  ((k0_dev43 v14) < nD) ∧
  ((k0_dev45 v14) < nD) ∧
  ((k0_dev48 v14) < nD) ∧
  ((k0_dev49 v14) < nD) ∧
  ((k0_dev52 v14) < nD) ∧
  ((k0_dev53 v14) < nD) ∧
  ((k0_dev56 v14) < nD) ∧
  ((k0_dev57 v14) < nD) ∧
  ((k0_dev59 v14) < nD) ∧
  ((k0_dev62 v14) < nD) ∧
  ((k0_dev63 v14) < nD)
def k0_chk2_1 (v14 : BitVec 32) : Prop :=
  ((k0_dev66 v14) < nD) ∧
  ((k0_dev67 v14) < nD) ∧
  ((k0_dev70 v14) < nD) ∧
  ((k0_dev71 v14) < nD) ∧
  ((k0_dev73 v14) < nD) ∧
  ((k0_dev76 v14) < nD) ∧
  ((k0_dev77 v14) < nD) ∧
  ((k0_dev80 v14) < nD) ∧
  ((k0_dev81 v14) < nD) ∧
  ((k0_dev84 v14) < nD) ∧
  ((k0_dev85 v14) < nD) ∧
  ((k0_dev87 v14) < nD) ∧
  ((k0_dev90 v14) < nD) ∧
  ((k0_dev91 v14) < nD) ∧
  ((k0_dev94 v14) < nD) ∧
  ((k0_dev95 v14) < nD) ∧
  ((k0_dev98 v14) < nD) ∧
  ((k0_dev99 v14) < nD)
def k0_chk2 (v14 : BitVec 32) : Prop :=
  k0_chk2_0 v14 ∧
  k0_chk2_1 v14
theorem k0_dev1_lt : ∀ (v14 : BitVec 32) (k0_hw2 : k0_chk2 v14), (k0_dev1 v14) < nD := fun v14 k0_hw2 => k0_hw2.1.1
theorem k0_dev3_lt : ∀ (v14 : BitVec 32) (k0_hw2 : k0_chk2 v14), (k0_dev3 v14) < nD := fun v14 k0_hw2 => k0_hw2.1.2.1
theorem k0_dev6_lt : ∀ (v14 : BitVec 32) (k0_hw2 : k0_chk2 v14), (k0_dev6 v14) < nD := fun v14 k0_hw2 => k0_hw2.1.2.2.1
theorem k0_dev7_lt : ∀ (v14 : BitVec 32) (k0_hw2 : k0_chk2 v14), (k0_dev7 v14) < nD := fun v14 k0_hw2 => k0_hw2.1.2.2.2.1
theorem k0_dev10_lt : ∀ (v14 : BitVec 32) (k0_hw2 : k0_chk2 v14), (k0_dev10 v14) < nD := fun v14 k0_hw2 => k0_hw2.1.2.2.2.2.1
theorem k0_dev11_lt : ∀ (v14 : BitVec 32) (k0_hw2 : k0_chk2 v14), (k0_dev11 v14) < nD := fun v14 k0_hw2 => k0_hw2.1.2.2.2.2.2.1
theorem k0_dev14_lt : ∀ (v14 : BitVec 32) (k0_hw2 : k0_chk2 v14), (k0_dev14 v14) < nD := fun v14 k0_hw2 => k0_hw2.1.2.2.2.2.2.2.1
theorem k0_dev15_lt : ∀ (v14 : BitVec 32) (k0_hw2 : k0_chk2 v14), (k0_dev15 v14) < nD := fun v14 k0_hw2 => k0_hw2.1.2.2.2.2.2.2.2.1
theorem k0_dev17_lt : ∀ (v14 : BitVec 32) (k0_hw2 : k0_chk2 v14), (k0_dev17 v14) < nD := fun v14 k0_hw2 => k0_hw2.1.2.2.2.2.2.2.2.2.1
theorem k0_dev20_lt : ∀ (v14 : BitVec 32) (k0_hw2 : k0_chk2 v14), (k0_dev20 v14) < nD := fun v14 k0_hw2 => k0_hw2.1.2.2.2.2.2.2.2.2.2.1
theorem k0_dev21_lt : ∀ (v14 : BitVec 32) (k0_hw2 : k0_chk2 v14), (k0_dev21 v14) < nD := fun v14 k0_hw2 => k0_hw2.1.2.2.2.2.2.2.2.2.2.2.1
theorem k0_dev24_lt : ∀ (v14 : BitVec 32) (k0_hw2 : k0_chk2 v14), (k0_dev24 v14) < nD := fun v14 k0_hw2 => k0_hw2.1.2.2.2.2.2.2.2.2.2.2.2.1
theorem k0_dev25_lt : ∀ (v14 : BitVec 32) (k0_hw2 : k0_chk2 v14), (k0_dev25 v14) < nD := fun v14 k0_hw2 => k0_hw2.1.2.2.2.2.2.2.2.2.2.2.2.2.1
theorem k0_dev28_lt : ∀ (v14 : BitVec 32) (k0_hw2 : k0_chk2 v14), (k0_dev28 v14) < nD := fun v14 k0_hw2 => k0_hw2.1.2.2.2.2.2.2.2.2.2.2.2.2.2.1
theorem k0_dev29_lt : ∀ (v14 : BitVec 32) (k0_hw2 : k0_chk2 v14), (k0_dev29 v14) < nD := fun v14 k0_hw2 => k0_hw2.1.2.2.2.2.2.2.2.2.2.2.2.2.2.2.1
theorem k0_dev31_lt : ∀ (v14 : BitVec 32) (k0_hw2 : k0_chk2 v14), (k0_dev31 v14) < nD := fun v14 k0_hw2 => k0_hw2.1.2.2.2.2.2.2.2.2.2.2.2.2.2.2.2.1
theorem k0_dev34_lt : ∀ (v14 : BitVec 32) (k0_hw2 : k0_chk2 v14), (k0_dev34 v14) < nD := fun v14 k0_hw2 => k0_hw2.1.2.2.2.2.2.2.2.2.2.2.2.2.2.2.2.2.1
theorem k0_dev35_lt : ∀ (v14 : BitVec 32) (k0_hw2 : k0_chk2 v14), (k0_dev35 v14) < nD := fun v14 k0_hw2 => k0_hw2.1.2.2.2.2.2.2.2.2.2.2.2.2.2.2.2.2.2.1
theorem k0_dev38_lt : ∀ (v14 : BitVec 32) (k0_hw2 : k0_chk2 v14), (k0_dev38 v14) < nD := fun v14 k0_hw2 => k0_hw2.1.2.2.2.2.2.2.2.2.2.2.2.2.2.2.2.2.2.2.1
theorem k0_dev39_lt : ∀ (v14 : BitVec 32) (k0_hw2 : k0_chk2 v14), (k0_dev39 v14) < nD := fun v14 k0_hw2 => k0_hw2.1.2.2.2.2.2.2.2.2.2.2.2.2.2.2.2.2.2.2.2.1
theorem k0_dev42_lt : ∀ (v14 : BitVec 32) (k0_hw2 : k0_chk2 v14), (k0_dev42 v14) < nD := fun v14 k0_hw2 => k0_hw2.1.2.2.2.2.2.2.2.2.2.2.2.2.2.2.2.2.2.2.2.2.1
theorem k0_dev43_lt : ∀ (v14 : BitVec 32) (k0_hw2 : k0_chk2 v14), (k0_dev43 v14) < nD := fun v14 k0_hw2 => k0_hw2.1.2.2.2.2.2.2.2.2.2.2.2.2.2.2.2.2.2.2.2.2.2.1
theorem k0_dev45_lt : ∀ (v14 : BitVec 32) (k0_hw2 : k0_chk2 v14), (k0_dev45 v14) < nD := fun v14 k0_hw2 => k0_hw2.1.2.2.2.2.2.2.2.2.2.2.2.2.2.2.2.2.2.2.2.2.2.2.1
theorem k0_dev48_lt : ∀ (v14 : BitVec 32) (k0_hw2 : k0_chk2 v14), (k0_dev48 v14) < nD := fun v14 k0_hw2 => k0_hw2.1.2.2.2.2.2.2.2.2.2.2.2.2.2.2.2.2.2.2.2.2.2.2.2.1
theorem k0_dev49_lt : ∀ (v14 : BitVec 32) (k0_hw2 : k0_chk2 v14), (k0_dev49 v14) < nD := fun v14 k0_hw2 => k0_hw2.1.2.2.2.2.2.2.2.2.2.2.2.2.2.2.2.2.2.2.2.2.2.2.2.2.1
theorem k0_dev52_lt : ∀ (v14 : BitVec 32) (k0_hw2 : k0_chk2 v14), (k0_dev52 v14) < nD := fun v14 k0_hw2 => k0_hw2.1.2.2.2.2.2.2.2.2.2.2.2.2.2.2.2.2.2.2.2.2.2.2.2.2.2.1
theorem k0_dev53_lt : ∀ (v14 : BitVec 32) (k0_hw2 : k0_chk2 v14), (k0_dev53 v14) < nD := fun v14 k0_hw2 => k0_hw2.1.2.2.2.2.2.2.2.2.2.2.2.2.2.2.2.2.2.2.2.2.2.2.2.2.2.2.1
theorem k0_dev56_lt : ∀ (v14 : BitVec 32) (k0_hw2 : k0_chk2 v14), (k0_dev56 v14) < nD := fun v14 k0_hw2 => k0_hw2.1.2.2.2.2.2.2.2.2.2.2.2.2.2.2.2.2.2.2.2.2.2.2.2.2.2.2.2.1
theorem k0_dev57_lt : ∀ (v14 : BitVec 32) (k0_hw2 : k0_chk2 v14), (k0_dev57 v14) < nD := fun v14 k0_hw2 => k0_hw2.1.2.2.2.2.2.2.2.2.2.2.2.2.2.2.2.2.2.2.2.2.2.2.2.2.2.2.2.2.1
theorem k0_dev59_lt : ∀ (v14 : BitVec 32) (k0_hw2 : k0_chk2 v14), (k0_dev59 v14) < nD := fun v14 k0_hw2 => k0_hw2.1.2.2.2.2.2.2.2.2.2.2.2.2.2.2.2.2.2.2.2.2.2.2.2.2.2.2.2.2.2.1
theorem k0_dev62_lt : ∀ (v14 : BitVec 32) (k0_hw2 : k0_chk2 v14), (k0_dev62 v14) < nD := fun v14 k0_hw2 => k0_hw2.1.2.2.2.2.2.2.2.2.2.2.2.2.2.2.2.2.2.2.2.2.2.2.2.2.2.2.2.2.2.2.1
theorem k0_dev63_lt : ∀ (v14 : BitVec 32) (k0_hw2 : k0_chk2 v14), (k0_dev63 v14) < nD := fun v14 k0_hw2 => k0_hw2.1.2.2.2.2.2.2.2.2.2.2.2.2.2.2.2.2.2.2.2.2.2.2.2.2.2.2.2.2.2.2.2
theorem k0_dev66_lt : ∀ (v14 : BitVec 32) (k0_hw2 : k0_chk2 v14), (k0_dev66 v14) < nD := fun v14 k0_hw2 => k0_hw2.2.1
theorem k0_dev67_lt : ∀ (v14 : BitVec 32) (k0_hw2 : k0_chk2 v14), (k0_dev67 v14) < nD := fun v14 k0_hw2 => k0_hw2.2.2.1
theorem k0_dev70_lt : ∀ (v14 : BitVec 32) (k0_hw2 : k0_chk2 v14), (k0_dev70 v14) < nD := fun v14 k0_hw2 => k0_hw2.2.2.2.1
theorem k0_dev71_lt : ∀ (v14 : BitVec 32) (k0_hw2 : k0_chk2 v14), (k0_dev71 v14) < nD := fun v14 k0_hw2 => k0_hw2.2.2.2.2.1
theorem k0_dev73_lt : ∀ (v14 : BitVec 32) (k0_hw2 : k0_chk2 v14), (k0_dev73 v14) < nD := fun v14 k0_hw2 => k0_hw2.2.2.2.2.2.1
theorem k0_dev76_lt : ∀ (v14 : BitVec 32) (k0_hw2 : k0_chk2 v14), (k0_dev76 v14) < nD := fun v14 k0_hw2 => k0_hw2.2.2.2.2.2.2.1
theorem k0_dev77_lt : ∀ (v14 : BitVec 32) (k0_hw2 : k0_chk2 v14), (k0_dev77 v14) < nD := fun v14 k0_hw2 => k0_hw2.2.2.2.2.2.2.2.1
theorem k0_dev80_lt : ∀ (v14 : BitVec 32) (k0_hw2 : k0_chk2 v14), (k0_dev80 v14) < nD := fun v14 k0_hw2 => k0_hw2.2.2.2.2.2.2.2.2.1
theorem k0_dev81_lt : ∀ (v14 : BitVec 32) (k0_hw2 : k0_chk2 v14), (k0_dev81 v14) < nD := fun v14 k0_hw2 => k0_hw2.2.2.2.2.2.2.2.2.2.1
theorem k0_dev84_lt : ∀ (v14 : BitVec 32) (k0_hw2 : k0_chk2 v14), (k0_dev84 v14) < nD := fun v14 k0_hw2 => k0_hw2.2.2.2.2.2.2.2.2.2.2.1
theorem k0_dev85_lt : ∀ (v14 : BitVec 32) (k0_hw2 : k0_chk2 v14), (k0_dev85 v14) < nD := fun v14 k0_hw2 => k0_hw2.2.2.2.2.2.2.2.2.2.2.2.1
theorem k0_dev87_lt : ∀ (v14 : BitVec 32) (k0_hw2 : k0_chk2 v14), (k0_dev87 v14) < nD := fun v14 k0_hw2 => k0_hw2.2.2.2.2.2.2.2.2.2.2.2.2.1
theorem k0_dev90_lt : ∀ (v14 : BitVec 32) (k0_hw2 : k0_chk2 v14), (k0_dev90 v14) < nD := fun v14 k0_hw2 => k0_hw2.2.2.2.2.2.2.2.2.2.2.2.2.2.1
theorem k0_dev91_lt : ∀ (v14 : BitVec 32) (k0_hw2 : k0_chk2 v14), (k0_dev91 v14) < nD := fun v14 k0_hw2 => k0_hw2.2.2.2.2.2.2.2.2.2.2.2.2.2.2.1
theorem k0_dev94_lt : ∀ (v14 : BitVec 32) (k0_hw2 : k0_chk2 v14), (k0_dev94 v14) < nD := fun v14 k0_hw2 => k0_hw2.2.2.2.2.2.2.2.2.2.2.2.2.2.2.2.1
theorem k0_dev95_lt : ∀ (v14 : BitVec 32) (k0_hw2 : k0_chk2 v14), (k0_dev95 v14) < nD := fun v14 k0_hw2 => k0_hw2.2.2.2.2.2.2.2.2.2.2.2.2.2.2.2.2.1
theorem k0_dev98_lt : ∀ (v14 : BitVec 32) (k0_hw2 : k0_chk2 v14), (k0_dev98 v14) < nD := fun v14 k0_hw2 => k0_hw2.2.2.2.2.2.2.2.2.2.2.2.2.2.2.2.2.2.1
theorem k0_dev99_lt : ∀ (v14 : BitVec 32) (k0_hw2 : k0_chk2 v14), (k0_dev99 v14) < nD := fun v14 k0_hw2 => k0_hw2.2.2.2.2.2.2.2.2.2.2.2.2.2.2.2.2.2.2

def k0_dev100 (v9 : BitVec 32) : Nat :=
  let c0_i32_975 : BitVec 32 := 0#32
  let c1_i32_974 : BitVec 32 := 1#32
  let v967 : BitVec 32 := Scalar.muli v9 c1_i32_974
  let v968 : BitVec 32 := Scalar.addi c0_i32_975 v967
  v968.toNat

def k0_chk3_0 (v9 : BitVec 32) : Prop :=
  ((k0_dev2 v9) < nD) ∧
  ((k0_dev4 v9) < nD) ∧
  ((k0_dev5 v9) < nD) ∧
  ((k0_dev8 v9) < nD) ∧
  ((k0_dev9 v9) < nD) ∧
  ((k0_dev12 v9) < nD) ∧
  ((k0_dev13 v9) < nD) ∧
  ((k0_dev16 v9) < nD) ∧
  ((k0_dev18 v9) < nD) ∧
  ((k0_dev19 v9) < nD) ∧
  ((k0_dev22 v9) < nD) ∧
  ((k0_dev23 v9) < nD) ∧
  ((k0_dev26 v9) < nD) ∧
  ((k0_dev27 v9) < nD) ∧
  ((k0_dev30 v9) < nD) ∧
  ((k0_dev32 v9) < nD) ∧
  ((k0_dev33 v9) < nD) ∧
  ((k0_dev36 v9) < nD) ∧
  ((k0_dev37 v9) < nD) ∧
  ((k0_dev40 v9) < nD) ∧
  ((k0_dev41 v9) < nD) ∧
  ((k0_dev44 v9) < nD) ∧
  ((k0_dev46 v9) < nD) ∧
  ((k0_dev47 v9) < nD) ∧
  ((k0_dev50 v9) < nD) ∧
  ((k0_dev51 v9) < nD) ∧
  ((k0_dev54 v9) < nD) ∧
  ((k0_dev55 v9) < nD) ∧
  ((k0_dev58 v9) < nD) ∧
  ((k0_dev60 v9) < nD) ∧
  ((k0_dev61 v9) < nD) ∧
  ((k0_dev64 v9) < nD)
def k0_chk3_1 (v9 : BitVec 32) : Prop :=
  ((k0_dev65 v9) < nD) ∧
  ((k0_dev68 v9) < nD) ∧
  ((k0_dev69 v9) < nD) ∧
  ((k0_dev72 v9) < nD) ∧
  ((k0_dev74 v9) < nD) ∧
  ((k0_dev75 v9) < nD) ∧
  ((k0_dev78 v9) < nD) ∧
  ((k0_dev79 v9) < nD) ∧
  ((k0_dev82 v9) < nD) ∧
  ((k0_dev83 v9) < nD) ∧
  ((k0_dev86 v9) < nD) ∧
  ((k0_dev88 v9) < nD) ∧
  ((k0_dev89 v9) < nD) ∧
  ((k0_dev92 v9) < nD) ∧
  ((k0_dev93 v9) < nD) ∧
  ((k0_dev96 v9) < nD) ∧
  ((k0_dev97 v9) < nD) ∧
  ((k0_dev100 v9) < nD)
def k0_chk3 (v9 : BitVec 32) : Prop :=
  k0_chk3_0 v9 ∧
  k0_chk3_1 v9
theorem k0_dev2_lt : ∀ (v9 : BitVec 32) (k0_hw3 : k0_chk3 v9), (k0_dev2 v9) < nD := fun v9 k0_hw3 => k0_hw3.1.1
theorem k0_dev4_lt : ∀ (v9 : BitVec 32) (k0_hw3 : k0_chk3 v9), (k0_dev4 v9) < nD := fun v9 k0_hw3 => k0_hw3.1.2.1
theorem k0_dev5_lt : ∀ (v9 : BitVec 32) (k0_hw3 : k0_chk3 v9), (k0_dev5 v9) < nD := fun v9 k0_hw3 => k0_hw3.1.2.2.1
theorem k0_dev8_lt : ∀ (v9 : BitVec 32) (k0_hw3 : k0_chk3 v9), (k0_dev8 v9) < nD := fun v9 k0_hw3 => k0_hw3.1.2.2.2.1
theorem k0_dev9_lt : ∀ (v9 : BitVec 32) (k0_hw3 : k0_chk3 v9), (k0_dev9 v9) < nD := fun v9 k0_hw3 => k0_hw3.1.2.2.2.2.1
theorem k0_dev12_lt : ∀ (v9 : BitVec 32) (k0_hw3 : k0_chk3 v9), (k0_dev12 v9) < nD := fun v9 k0_hw3 => k0_hw3.1.2.2.2.2.2.1
theorem k0_dev13_lt : ∀ (v9 : BitVec 32) (k0_hw3 : k0_chk3 v9), (k0_dev13 v9) < nD := fun v9 k0_hw3 => k0_hw3.1.2.2.2.2.2.2.1
theorem k0_dev16_lt : ∀ (v9 : BitVec 32) (k0_hw3 : k0_chk3 v9), (k0_dev16 v9) < nD := fun v9 k0_hw3 => k0_hw3.1.2.2.2.2.2.2.2.1
theorem k0_dev18_lt : ∀ (v9 : BitVec 32) (k0_hw3 : k0_chk3 v9), (k0_dev18 v9) < nD := fun v9 k0_hw3 => k0_hw3.1.2.2.2.2.2.2.2.2.1
theorem k0_dev19_lt : ∀ (v9 : BitVec 32) (k0_hw3 : k0_chk3 v9), (k0_dev19 v9) < nD := fun v9 k0_hw3 => k0_hw3.1.2.2.2.2.2.2.2.2.2.1
theorem k0_dev22_lt : ∀ (v9 : BitVec 32) (k0_hw3 : k0_chk3 v9), (k0_dev22 v9) < nD := fun v9 k0_hw3 => k0_hw3.1.2.2.2.2.2.2.2.2.2.2.1
theorem k0_dev23_lt : ∀ (v9 : BitVec 32) (k0_hw3 : k0_chk3 v9), (k0_dev23 v9) < nD := fun v9 k0_hw3 => k0_hw3.1.2.2.2.2.2.2.2.2.2.2.2.1
theorem k0_dev26_lt : ∀ (v9 : BitVec 32) (k0_hw3 : k0_chk3 v9), (k0_dev26 v9) < nD := fun v9 k0_hw3 => k0_hw3.1.2.2.2.2.2.2.2.2.2.2.2.2.1
theorem k0_dev27_lt : ∀ (v9 : BitVec 32) (k0_hw3 : k0_chk3 v9), (k0_dev27 v9) < nD := fun v9 k0_hw3 => k0_hw3.1.2.2.2.2.2.2.2.2.2.2.2.2.2.1
theorem k0_dev30_lt : ∀ (v9 : BitVec 32) (k0_hw3 : k0_chk3 v9), (k0_dev30 v9) < nD := fun v9 k0_hw3 => k0_hw3.1.2.2.2.2.2.2.2.2.2.2.2.2.2.2.1
theorem k0_dev32_lt : ∀ (v9 : BitVec 32) (k0_hw3 : k0_chk3 v9), (k0_dev32 v9) < nD := fun v9 k0_hw3 => k0_hw3.1.2.2.2.2.2.2.2.2.2.2.2.2.2.2.2.1
theorem k0_dev33_lt : ∀ (v9 : BitVec 32) (k0_hw3 : k0_chk3 v9), (k0_dev33 v9) < nD := fun v9 k0_hw3 => k0_hw3.1.2.2.2.2.2.2.2.2.2.2.2.2.2.2.2.2.1
theorem k0_dev36_lt : ∀ (v9 : BitVec 32) (k0_hw3 : k0_chk3 v9), (k0_dev36 v9) < nD := fun v9 k0_hw3 => k0_hw3.1.2.2.2.2.2.2.2.2.2.2.2.2.2.2.2.2.2.1
theorem k0_dev37_lt : ∀ (v9 : BitVec 32) (k0_hw3 : k0_chk3 v9), (k0_dev37 v9) < nD := fun v9 k0_hw3 => k0_hw3.1.2.2.2.2.2.2.2.2.2.2.2.2.2.2.2.2.2.2.1
theorem k0_dev40_lt : ∀ (v9 : BitVec 32) (k0_hw3 : k0_chk3 v9), (k0_dev40 v9) < nD := fun v9 k0_hw3 => k0_hw3.1.2.2.2.2.2.2.2.2.2.2.2.2.2.2.2.2.2.2.2.1
theorem k0_dev41_lt : ∀ (v9 : BitVec 32) (k0_hw3 : k0_chk3 v9), (k0_dev41 v9) < nD := fun v9 k0_hw3 => k0_hw3.1.2.2.2.2.2.2.2.2.2.2.2.2.2.2.2.2.2.2.2.2.1
theorem k0_dev44_lt : ∀ (v9 : BitVec 32) (k0_hw3 : k0_chk3 v9), (k0_dev44 v9) < nD := fun v9 k0_hw3 => k0_hw3.1.2.2.2.2.2.2.2.2.2.2.2.2.2.2.2.2.2.2.2.2.2.1
theorem k0_dev46_lt : ∀ (v9 : BitVec 32) (k0_hw3 : k0_chk3 v9), (k0_dev46 v9) < nD := fun v9 k0_hw3 => k0_hw3.1.2.2.2.2.2.2.2.2.2.2.2.2.2.2.2.2.2.2.2.2.2.2.1
theorem k0_dev47_lt : ∀ (v9 : BitVec 32) (k0_hw3 : k0_chk3 v9), (k0_dev47 v9) < nD := fun v9 k0_hw3 => k0_hw3.1.2.2.2.2.2.2.2.2.2.2.2.2.2.2.2.2.2.2.2.2.2.2.2.1
theorem k0_dev50_lt : ∀ (v9 : BitVec 32) (k0_hw3 : k0_chk3 v9), (k0_dev50 v9) < nD := fun v9 k0_hw3 => k0_hw3.1.2.2.2.2.2.2.2.2.2.2.2.2.2.2.2.2.2.2.2.2.2.2.2.2.1
theorem k0_dev51_lt : ∀ (v9 : BitVec 32) (k0_hw3 : k0_chk3 v9), (k0_dev51 v9) < nD := fun v9 k0_hw3 => k0_hw3.1.2.2.2.2.2.2.2.2.2.2.2.2.2.2.2.2.2.2.2.2.2.2.2.2.2.1
theorem k0_dev54_lt : ∀ (v9 : BitVec 32) (k0_hw3 : k0_chk3 v9), (k0_dev54 v9) < nD := fun v9 k0_hw3 => k0_hw3.1.2.2.2.2.2.2.2.2.2.2.2.2.2.2.2.2.2.2.2.2.2.2.2.2.2.2.1
theorem k0_dev55_lt : ∀ (v9 : BitVec 32) (k0_hw3 : k0_chk3 v9), (k0_dev55 v9) < nD := fun v9 k0_hw3 => k0_hw3.1.2.2.2.2.2.2.2.2.2.2.2.2.2.2.2.2.2.2.2.2.2.2.2.2.2.2.2.1
theorem k0_dev58_lt : ∀ (v9 : BitVec 32) (k0_hw3 : k0_chk3 v9), (k0_dev58 v9) < nD := fun v9 k0_hw3 => k0_hw3.1.2.2.2.2.2.2.2.2.2.2.2.2.2.2.2.2.2.2.2.2.2.2.2.2.2.2.2.2.1
theorem k0_dev60_lt : ∀ (v9 : BitVec 32) (k0_hw3 : k0_chk3 v9), (k0_dev60 v9) < nD := fun v9 k0_hw3 => k0_hw3.1.2.2.2.2.2.2.2.2.2.2.2.2.2.2.2.2.2.2.2.2.2.2.2.2.2.2.2.2.2.1
theorem k0_dev61_lt : ∀ (v9 : BitVec 32) (k0_hw3 : k0_chk3 v9), (k0_dev61 v9) < nD := fun v9 k0_hw3 => k0_hw3.1.2.2.2.2.2.2.2.2.2.2.2.2.2.2.2.2.2.2.2.2.2.2.2.2.2.2.2.2.2.2.1
theorem k0_dev64_lt : ∀ (v9 : BitVec 32) (k0_hw3 : k0_chk3 v9), (k0_dev64 v9) < nD := fun v9 k0_hw3 => k0_hw3.1.2.2.2.2.2.2.2.2.2.2.2.2.2.2.2.2.2.2.2.2.2.2.2.2.2.2.2.2.2.2.2
theorem k0_dev65_lt : ∀ (v9 : BitVec 32) (k0_hw3 : k0_chk3 v9), (k0_dev65 v9) < nD := fun v9 k0_hw3 => k0_hw3.2.1
theorem k0_dev68_lt : ∀ (v9 : BitVec 32) (k0_hw3 : k0_chk3 v9), (k0_dev68 v9) < nD := fun v9 k0_hw3 => k0_hw3.2.2.1
theorem k0_dev69_lt : ∀ (v9 : BitVec 32) (k0_hw3 : k0_chk3 v9), (k0_dev69 v9) < nD := fun v9 k0_hw3 => k0_hw3.2.2.2.1
theorem k0_dev72_lt : ∀ (v9 : BitVec 32) (k0_hw3 : k0_chk3 v9), (k0_dev72 v9) < nD := fun v9 k0_hw3 => k0_hw3.2.2.2.2.1
theorem k0_dev74_lt : ∀ (v9 : BitVec 32) (k0_hw3 : k0_chk3 v9), (k0_dev74 v9) < nD := fun v9 k0_hw3 => k0_hw3.2.2.2.2.2.1
theorem k0_dev75_lt : ∀ (v9 : BitVec 32) (k0_hw3 : k0_chk3 v9), (k0_dev75 v9) < nD := fun v9 k0_hw3 => k0_hw3.2.2.2.2.2.2.1
theorem k0_dev78_lt : ∀ (v9 : BitVec 32) (k0_hw3 : k0_chk3 v9), (k0_dev78 v9) < nD := fun v9 k0_hw3 => k0_hw3.2.2.2.2.2.2.2.1
theorem k0_dev79_lt : ∀ (v9 : BitVec 32) (k0_hw3 : k0_chk3 v9), (k0_dev79 v9) < nD := fun v9 k0_hw3 => k0_hw3.2.2.2.2.2.2.2.2.1
theorem k0_dev82_lt : ∀ (v9 : BitVec 32) (k0_hw3 : k0_chk3 v9), (k0_dev82 v9) < nD := fun v9 k0_hw3 => k0_hw3.2.2.2.2.2.2.2.2.2.1
theorem k0_dev83_lt : ∀ (v9 : BitVec 32) (k0_hw3 : k0_chk3 v9), (k0_dev83 v9) < nD := fun v9 k0_hw3 => k0_hw3.2.2.2.2.2.2.2.2.2.2.1
theorem k0_dev86_lt : ∀ (v9 : BitVec 32) (k0_hw3 : k0_chk3 v9), (k0_dev86 v9) < nD := fun v9 k0_hw3 => k0_hw3.2.2.2.2.2.2.2.2.2.2.2.1
theorem k0_dev88_lt : ∀ (v9 : BitVec 32) (k0_hw3 : k0_chk3 v9), (k0_dev88 v9) < nD := fun v9 k0_hw3 => k0_hw3.2.2.2.2.2.2.2.2.2.2.2.2.1
theorem k0_dev89_lt : ∀ (v9 : BitVec 32) (k0_hw3 : k0_chk3 v9), (k0_dev89 v9) < nD := fun v9 k0_hw3 => k0_hw3.2.2.2.2.2.2.2.2.2.2.2.2.2.1
theorem k0_dev92_lt : ∀ (v9 : BitVec 32) (k0_hw3 : k0_chk3 v9), (k0_dev92 v9) < nD := fun v9 k0_hw3 => k0_hw3.2.2.2.2.2.2.2.2.2.2.2.2.2.2.1
theorem k0_dev93_lt : ∀ (v9 : BitVec 32) (k0_hw3 : k0_chk3 v9), (k0_dev93 v9) < nD := fun v9 k0_hw3 => k0_hw3.2.2.2.2.2.2.2.2.2.2.2.2.2.2.2.1
theorem k0_dev96_lt : ∀ (v9 : BitVec 32) (k0_hw3 : k0_chk3 v9), (k0_dev96 v9) < nD := fun v9 k0_hw3 => k0_hw3.2.2.2.2.2.2.2.2.2.2.2.2.2.2.2.2.1
theorem k0_dev97_lt : ∀ (v9 : BitVec 32) (k0_hw3 : k0_chk3 v9), (k0_dev97 v9) < nD := fun v9 k0_hw3 => k0_hw3.2.2.2.2.2.2.2.2.2.2.2.2.2.2.2.2.2.1
theorem k0_dev100_lt : ∀ (v9 : BitVec 32) (k0_hw3 : k0_chk3 v9), (k0_dev100 v9) < nD := fun v9 k0_hw3 => k0_hw3.2.2.2.2.2.2.2.2.2.2.2.2.2.2.2.2.2.2

def k0_off104 (v4 : BitVec 32) : Fin 1 → Nat :=
  let c1_i32_995 : BitVec 32 := 1#32
  let v985 : BitVec 32 := Scalar.subi v4 c1_i32_995
  let c15_i32_996 : BitVec 32 := 15#32
  let v986 : BitVec 32 := Scalar.subi v985 c15_i32_996
  let c64_i32_997 : BitVec 32 := 64#32
  let v987 : BitVec 32 := Scalar.addi v986 c64_i32_997
  let c32_i32_998 : BitVec 32 := 32#32
  let v988 : BitVec 32 := Scalar.remsi v987 c32_i32_998
  let v989 : Index := Scalar.indexCast v988
  ![v989.toNat]

def k0_chk1_0 (v4 : BitVec 32) : Prop :=
  (∀ a, (k0_off2 v4) a + S1.size a ≤ S32.size a) ∧
  (∀ a, (k0_off3 v4) a + S1.size a ≤ S32.size a) ∧
  (∀ k0_t1 : Fin k0_t1_loop.trips, ∀ a, (k0_off5 v4 k0_t1) a + S1.size a ≤ S32.size a) ∧
  (∀ k0_t1 : Fin k0_t1_loop.trips, ∀ a, (k0_off7 v4 k0_t1) a + S1.size a ≤ S32.size a) ∧
  (∀ k0_t1 : Fin k0_t1_loop.trips, ∀ a, (k0_off9 v4 k0_t1) a + S1.size a ≤ S32.size a) ∧
  (∀ k0_t1 : Fin k0_t1_loop.trips, ∀ a, (k0_off11 v4 k0_t1) a + S1.size a ≤ S32.size a) ∧
  (∀ a, (k0_off13 v4) a + S1.size a ≤ S32.size a) ∧
  (∀ a, (k0_off15 v4) a + S1.size a ≤ S32.size a) ∧
  (∀ a, (k0_off17 v4) a + S1.size a ≤ S32.size a) ∧
  (∀ a, (k0_off19 v4) a + S1.size a ≤ S32.size a) ∧
  (∀ a, (k0_off21 v4) a + S1.size a ≤ S32.size a) ∧
  (∀ k0_t2 : Fin k0_t2_loop.trips, ∀ a, (k0_off23 v4 k0_t2) a + S1.size a ≤ S32.size a) ∧
  (∀ k0_t2 : Fin k0_t2_loop.trips, ∀ a, (k0_off25 v4 k0_t2) a + S1.size a ≤ S32.size a) ∧
  (∀ k0_t2 : Fin k0_t2_loop.trips, ∀ a, (k0_off27 v4 k0_t2) a + S1.size a ≤ S32.size a) ∧
  (∀ k0_t2 : Fin k0_t2_loop.trips, ∀ a, (k0_off29 v4 k0_t2) a + S1.size a ≤ S32.size a) ∧
  (∀ a, (k0_off31 v4) a + S1.size a ≤ S32.size a) ∧
  (∀ k0_t3 : Fin k0_t3_loop.trips, ∀ a, (k0_off34 v4 k0_t3) a + S1.size a ≤ S32.size a) ∧
  (∀ k0_t3 : Fin k0_t3_loop.trips, ∀ a, (k0_off36 v4 k0_t3) a + S1.size a ≤ S32.size a) ∧
  (∀ k0_t3 : Fin k0_t3_loop.trips, ∀ a, (k0_off38 v4 k0_t3) a + S1.size a ≤ S32.size a) ∧
  (∀ k0_t3 : Fin k0_t3_loop.trips, ∀ a, (k0_off40 v4 k0_t3) a + S1.size a ≤ S32.size a) ∧
  (∀ a, (k0_off42 v4) a + S1.size a ≤ S32.size a) ∧
  (∀ a, (k0_off44 v4) a + S1.size a ≤ S32.size a) ∧
  (∀ a, (k0_off46 v4) a + S1.size a ≤ S32.size a) ∧
  (∀ a, (k0_off48 v4) a + S1.size a ≤ S32.size a) ∧
  (∀ a, (k0_off50 v4) a + S1.size a ≤ S32.size a) ∧
  (∀ k0_t4 : Fin k0_t4_loop.trips, ∀ a, (k0_off52 v4 k0_t4) a + S1.size a ≤ S32.size a) ∧
  (∀ k0_t4 : Fin k0_t4_loop.trips, ∀ a, (k0_off54 v4 k0_t4) a + S1.size a ≤ S32.size a) ∧
  (∀ k0_t4 : Fin k0_t4_loop.trips, ∀ a, (k0_off56 v4 k0_t4) a + S1.size a ≤ S32.size a) ∧
  (∀ k0_t4 : Fin k0_t4_loop.trips, ∀ a, (k0_off58 v4 k0_t4) a + S1.size a ≤ S32.size a) ∧
  (∀ a, (k0_off60 v4) a + S1.size a ≤ S32.size a) ∧
  (∀ k0_t5 : Fin k0_t5_loop.trips, ∀ a, (k0_off63 v4 k0_t5) a + S1.size a ≤ S32.size a) ∧
  (∀ k0_t5 : Fin k0_t5_loop.trips, ∀ a, (k0_off65 v4 k0_t5) a + S1.size a ≤ S32.size a)
def k0_chk1_1 (v4 : BitVec 32) : Prop :=
  (∀ k0_t5 : Fin k0_t5_loop.trips, ∀ a, (k0_off67 v4 k0_t5) a + S1.size a ≤ S32.size a) ∧
  (∀ k0_t5 : Fin k0_t5_loop.trips, ∀ a, (k0_off69 v4 k0_t5) a + S1.size a ≤ S32.size a) ∧
  (∀ a, (k0_off71 v4) a + S1.size a ≤ S32.size a) ∧
  (∀ a, (k0_off73 v4) a + S1.size a ≤ S32.size a) ∧
  (∀ a, (k0_off75 v4) a + S1.size a ≤ S32.size a) ∧
  (∀ a, (k0_off77 v4) a + S1.size a ≤ S32.size a) ∧
  (∀ a, (k0_off79 v4) a + S1.size a ≤ S32.size a) ∧
  (∀ k0_t6 : Fin k0_t6_loop.trips, ∀ a, (k0_off81 v4 k0_t6) a + S1.size a ≤ S32.size a) ∧
  (∀ k0_t6 : Fin k0_t6_loop.trips, ∀ a, (k0_off83 v4 k0_t6) a + S1.size a ≤ S32.size a) ∧
  (∀ k0_t6 : Fin k0_t6_loop.trips, ∀ a, (k0_off85 v4 k0_t6) a + S1.size a ≤ S32.size a) ∧
  (∀ k0_t6 : Fin k0_t6_loop.trips, ∀ a, (k0_off87 v4 k0_t6) a + S1.size a ≤ S32.size a) ∧
  (∀ a, (k0_off89 v4) a + S1.size a ≤ S32.size a) ∧
  (∀ k0_t7 : Fin k0_t7_loop.trips, ∀ a, (k0_off92 v4 k0_t7) a + S1.size a ≤ S32.size a) ∧
  (∀ k0_t7 : Fin k0_t7_loop.trips, ∀ a, (k0_off94 v4 k0_t7) a + S1.size a ≤ S32.size a) ∧
  (∀ k0_t7 : Fin k0_t7_loop.trips, ∀ a, (k0_off96 v4 k0_t7) a + S1.size a ≤ S32.size a) ∧
  (∀ k0_t7 : Fin k0_t7_loop.trips, ∀ a, (k0_off98 v4 k0_t7) a + S1.size a ≤ S32.size a) ∧
  (∀ a, (k0_off100 v4) a + S1.size a ≤ S32.size a) ∧
  (∀ a, (k0_off102 v4) a + S1.size a ≤ S32.size a) ∧
  (∀ a, (k0_off104 v4) a + S1.size a ≤ S32.size a)
def k0_chk1 (v4 : BitVec 32) : Prop :=
  k0_chk1_0 v4 ∧
  k0_chk1_1 v4
theorem k0_off2_inb : ∀ (v4 : BitVec 32) (k0_hw1 : k0_chk1 v4), ∀ a, (k0_off2 v4) a + S1.size a ≤ S32.size a := fun v4 k0_hw1 => k0_hw1.1.1
theorem k0_off3_inb : ∀ (v4 : BitVec 32) (k0_hw1 : k0_chk1 v4), ∀ a, (k0_off3 v4) a + S1.size a ≤ S32.size a := fun v4 k0_hw1 => k0_hw1.1.2.1
theorem k0_off5_inb : ∀ (v4 : BitVec 32) (k0_hw1 : k0_chk1 v4) (k0_t1 : Fin k0_t1_loop.trips), ∀ a, (k0_off5 v4 k0_t1) a + S1.size a ≤ S32.size a := fun v4 k0_hw1 k0_t1 => k0_hw1.1.2.2.1 k0_t1
theorem k0_off7_inb : ∀ (v4 : BitVec 32) (k0_hw1 : k0_chk1 v4) (k0_t1 : Fin k0_t1_loop.trips), ∀ a, (k0_off7 v4 k0_t1) a + S1.size a ≤ S32.size a := fun v4 k0_hw1 k0_t1 => k0_hw1.1.2.2.2.1 k0_t1
theorem k0_off9_inb : ∀ (v4 : BitVec 32) (k0_hw1 : k0_chk1 v4) (k0_t1 : Fin k0_t1_loop.trips), ∀ a, (k0_off9 v4 k0_t1) a + S1.size a ≤ S32.size a := fun v4 k0_hw1 k0_t1 => k0_hw1.1.2.2.2.2.1 k0_t1
theorem k0_off11_inb : ∀ (v4 : BitVec 32) (k0_hw1 : k0_chk1 v4) (k0_t1 : Fin k0_t1_loop.trips), ∀ a, (k0_off11 v4 k0_t1) a + S1.size a ≤ S32.size a := fun v4 k0_hw1 k0_t1 => k0_hw1.1.2.2.2.2.2.1 k0_t1
theorem k0_off13_inb : ∀ (v4 : BitVec 32) (k0_hw1 : k0_chk1 v4), ∀ a, (k0_off13 v4) a + S1.size a ≤ S32.size a := fun v4 k0_hw1 => k0_hw1.1.2.2.2.2.2.2.1
theorem k0_off15_inb : ∀ (v4 : BitVec 32) (k0_hw1 : k0_chk1 v4), ∀ a, (k0_off15 v4) a + S1.size a ≤ S32.size a := fun v4 k0_hw1 => k0_hw1.1.2.2.2.2.2.2.2.1
theorem k0_off17_inb : ∀ (v4 : BitVec 32) (k0_hw1 : k0_chk1 v4), ∀ a, (k0_off17 v4) a + S1.size a ≤ S32.size a := fun v4 k0_hw1 => k0_hw1.1.2.2.2.2.2.2.2.2.1
theorem k0_off19_inb : ∀ (v4 : BitVec 32) (k0_hw1 : k0_chk1 v4), ∀ a, (k0_off19 v4) a + S1.size a ≤ S32.size a := fun v4 k0_hw1 => k0_hw1.1.2.2.2.2.2.2.2.2.2.1
theorem k0_off21_inb : ∀ (v4 : BitVec 32) (k0_hw1 : k0_chk1 v4), ∀ a, (k0_off21 v4) a + S1.size a ≤ S32.size a := fun v4 k0_hw1 => k0_hw1.1.2.2.2.2.2.2.2.2.2.2.1
theorem k0_off23_inb : ∀ (v4 : BitVec 32) (k0_hw1 : k0_chk1 v4) (k0_t2 : Fin k0_t2_loop.trips), ∀ a, (k0_off23 v4 k0_t2) a + S1.size a ≤ S32.size a := fun v4 k0_hw1 k0_t2 => k0_hw1.1.2.2.2.2.2.2.2.2.2.2.2.1 k0_t2
theorem k0_off25_inb : ∀ (v4 : BitVec 32) (k0_hw1 : k0_chk1 v4) (k0_t2 : Fin k0_t2_loop.trips), ∀ a, (k0_off25 v4 k0_t2) a + S1.size a ≤ S32.size a := fun v4 k0_hw1 k0_t2 => k0_hw1.1.2.2.2.2.2.2.2.2.2.2.2.2.1 k0_t2
theorem k0_off27_inb : ∀ (v4 : BitVec 32) (k0_hw1 : k0_chk1 v4) (k0_t2 : Fin k0_t2_loop.trips), ∀ a, (k0_off27 v4 k0_t2) a + S1.size a ≤ S32.size a := fun v4 k0_hw1 k0_t2 => k0_hw1.1.2.2.2.2.2.2.2.2.2.2.2.2.2.1 k0_t2
theorem k0_off29_inb : ∀ (v4 : BitVec 32) (k0_hw1 : k0_chk1 v4) (k0_t2 : Fin k0_t2_loop.trips), ∀ a, (k0_off29 v4 k0_t2) a + S1.size a ≤ S32.size a := fun v4 k0_hw1 k0_t2 => k0_hw1.1.2.2.2.2.2.2.2.2.2.2.2.2.2.2.1 k0_t2
theorem k0_off31_inb : ∀ (v4 : BitVec 32) (k0_hw1 : k0_chk1 v4), ∀ a, (k0_off31 v4) a + S1.size a ≤ S32.size a := fun v4 k0_hw1 => k0_hw1.1.2.2.2.2.2.2.2.2.2.2.2.2.2.2.2.1
theorem k0_off34_inb : ∀ (v4 : BitVec 32) (k0_hw1 : k0_chk1 v4) (k0_t3 : Fin k0_t3_loop.trips), ∀ a, (k0_off34 v4 k0_t3) a + S1.size a ≤ S32.size a := fun v4 k0_hw1 k0_t3 => k0_hw1.1.2.2.2.2.2.2.2.2.2.2.2.2.2.2.2.2.1 k0_t3
theorem k0_off36_inb : ∀ (v4 : BitVec 32) (k0_hw1 : k0_chk1 v4) (k0_t3 : Fin k0_t3_loop.trips), ∀ a, (k0_off36 v4 k0_t3) a + S1.size a ≤ S32.size a := fun v4 k0_hw1 k0_t3 => k0_hw1.1.2.2.2.2.2.2.2.2.2.2.2.2.2.2.2.2.2.1 k0_t3
theorem k0_off38_inb : ∀ (v4 : BitVec 32) (k0_hw1 : k0_chk1 v4) (k0_t3 : Fin k0_t3_loop.trips), ∀ a, (k0_off38 v4 k0_t3) a + S1.size a ≤ S32.size a := fun v4 k0_hw1 k0_t3 => k0_hw1.1.2.2.2.2.2.2.2.2.2.2.2.2.2.2.2.2.2.2.1 k0_t3
theorem k0_off40_inb : ∀ (v4 : BitVec 32) (k0_hw1 : k0_chk1 v4) (k0_t3 : Fin k0_t3_loop.trips), ∀ a, (k0_off40 v4 k0_t3) a + S1.size a ≤ S32.size a := fun v4 k0_hw1 k0_t3 => k0_hw1.1.2.2.2.2.2.2.2.2.2.2.2.2.2.2.2.2.2.2.2.1 k0_t3
theorem k0_off42_inb : ∀ (v4 : BitVec 32) (k0_hw1 : k0_chk1 v4), ∀ a, (k0_off42 v4) a + S1.size a ≤ S32.size a := fun v4 k0_hw1 => k0_hw1.1.2.2.2.2.2.2.2.2.2.2.2.2.2.2.2.2.2.2.2.2.1
theorem k0_off44_inb : ∀ (v4 : BitVec 32) (k0_hw1 : k0_chk1 v4), ∀ a, (k0_off44 v4) a + S1.size a ≤ S32.size a := fun v4 k0_hw1 => k0_hw1.1.2.2.2.2.2.2.2.2.2.2.2.2.2.2.2.2.2.2.2.2.2.1
theorem k0_off46_inb : ∀ (v4 : BitVec 32) (k0_hw1 : k0_chk1 v4), ∀ a, (k0_off46 v4) a + S1.size a ≤ S32.size a := fun v4 k0_hw1 => k0_hw1.1.2.2.2.2.2.2.2.2.2.2.2.2.2.2.2.2.2.2.2.2.2.2.1
theorem k0_off48_inb : ∀ (v4 : BitVec 32) (k0_hw1 : k0_chk1 v4), ∀ a, (k0_off48 v4) a + S1.size a ≤ S32.size a := fun v4 k0_hw1 => k0_hw1.1.2.2.2.2.2.2.2.2.2.2.2.2.2.2.2.2.2.2.2.2.2.2.2.1
theorem k0_off50_inb : ∀ (v4 : BitVec 32) (k0_hw1 : k0_chk1 v4), ∀ a, (k0_off50 v4) a + S1.size a ≤ S32.size a := fun v4 k0_hw1 => k0_hw1.1.2.2.2.2.2.2.2.2.2.2.2.2.2.2.2.2.2.2.2.2.2.2.2.2.1
theorem k0_off52_inb : ∀ (v4 : BitVec 32) (k0_hw1 : k0_chk1 v4) (k0_t4 : Fin k0_t4_loop.trips), ∀ a, (k0_off52 v4 k0_t4) a + S1.size a ≤ S32.size a := fun v4 k0_hw1 k0_t4 => k0_hw1.1.2.2.2.2.2.2.2.2.2.2.2.2.2.2.2.2.2.2.2.2.2.2.2.2.2.1 k0_t4
theorem k0_off54_inb : ∀ (v4 : BitVec 32) (k0_hw1 : k0_chk1 v4) (k0_t4 : Fin k0_t4_loop.trips), ∀ a, (k0_off54 v4 k0_t4) a + S1.size a ≤ S32.size a := fun v4 k0_hw1 k0_t4 => k0_hw1.1.2.2.2.2.2.2.2.2.2.2.2.2.2.2.2.2.2.2.2.2.2.2.2.2.2.2.1 k0_t4
theorem k0_off56_inb : ∀ (v4 : BitVec 32) (k0_hw1 : k0_chk1 v4) (k0_t4 : Fin k0_t4_loop.trips), ∀ a, (k0_off56 v4 k0_t4) a + S1.size a ≤ S32.size a := fun v4 k0_hw1 k0_t4 => k0_hw1.1.2.2.2.2.2.2.2.2.2.2.2.2.2.2.2.2.2.2.2.2.2.2.2.2.2.2.2.1 k0_t4
theorem k0_off58_inb : ∀ (v4 : BitVec 32) (k0_hw1 : k0_chk1 v4) (k0_t4 : Fin k0_t4_loop.trips), ∀ a, (k0_off58 v4 k0_t4) a + S1.size a ≤ S32.size a := fun v4 k0_hw1 k0_t4 => k0_hw1.1.2.2.2.2.2.2.2.2.2.2.2.2.2.2.2.2.2.2.2.2.2.2.2.2.2.2.2.2.1 k0_t4
theorem k0_off60_inb : ∀ (v4 : BitVec 32) (k0_hw1 : k0_chk1 v4), ∀ a, (k0_off60 v4) a + S1.size a ≤ S32.size a := fun v4 k0_hw1 => k0_hw1.1.2.2.2.2.2.2.2.2.2.2.2.2.2.2.2.2.2.2.2.2.2.2.2.2.2.2.2.2.2.1
theorem k0_off63_inb : ∀ (v4 : BitVec 32) (k0_hw1 : k0_chk1 v4) (k0_t5 : Fin k0_t5_loop.trips), ∀ a, (k0_off63 v4 k0_t5) a + S1.size a ≤ S32.size a := fun v4 k0_hw1 k0_t5 => k0_hw1.1.2.2.2.2.2.2.2.2.2.2.2.2.2.2.2.2.2.2.2.2.2.2.2.2.2.2.2.2.2.2.1 k0_t5
theorem k0_off65_inb : ∀ (v4 : BitVec 32) (k0_hw1 : k0_chk1 v4) (k0_t5 : Fin k0_t5_loop.trips), ∀ a, (k0_off65 v4 k0_t5) a + S1.size a ≤ S32.size a := fun v4 k0_hw1 k0_t5 => k0_hw1.1.2.2.2.2.2.2.2.2.2.2.2.2.2.2.2.2.2.2.2.2.2.2.2.2.2.2.2.2.2.2.2 k0_t5
theorem k0_off67_inb : ∀ (v4 : BitVec 32) (k0_hw1 : k0_chk1 v4) (k0_t5 : Fin k0_t5_loop.trips), ∀ a, (k0_off67 v4 k0_t5) a + S1.size a ≤ S32.size a := fun v4 k0_hw1 k0_t5 => k0_hw1.2.1 k0_t5
theorem k0_off69_inb : ∀ (v4 : BitVec 32) (k0_hw1 : k0_chk1 v4) (k0_t5 : Fin k0_t5_loop.trips), ∀ a, (k0_off69 v4 k0_t5) a + S1.size a ≤ S32.size a := fun v4 k0_hw1 k0_t5 => k0_hw1.2.2.1 k0_t5
theorem k0_off71_inb : ∀ (v4 : BitVec 32) (k0_hw1 : k0_chk1 v4), ∀ a, (k0_off71 v4) a + S1.size a ≤ S32.size a := fun v4 k0_hw1 => k0_hw1.2.2.2.1
theorem k0_off73_inb : ∀ (v4 : BitVec 32) (k0_hw1 : k0_chk1 v4), ∀ a, (k0_off73 v4) a + S1.size a ≤ S32.size a := fun v4 k0_hw1 => k0_hw1.2.2.2.2.1
theorem k0_off75_inb : ∀ (v4 : BitVec 32) (k0_hw1 : k0_chk1 v4), ∀ a, (k0_off75 v4) a + S1.size a ≤ S32.size a := fun v4 k0_hw1 => k0_hw1.2.2.2.2.2.1
theorem k0_off77_inb : ∀ (v4 : BitVec 32) (k0_hw1 : k0_chk1 v4), ∀ a, (k0_off77 v4) a + S1.size a ≤ S32.size a := fun v4 k0_hw1 => k0_hw1.2.2.2.2.2.2.1
theorem k0_off79_inb : ∀ (v4 : BitVec 32) (k0_hw1 : k0_chk1 v4), ∀ a, (k0_off79 v4) a + S1.size a ≤ S32.size a := fun v4 k0_hw1 => k0_hw1.2.2.2.2.2.2.2.1
theorem k0_off81_inb : ∀ (v4 : BitVec 32) (k0_hw1 : k0_chk1 v4) (k0_t6 : Fin k0_t6_loop.trips), ∀ a, (k0_off81 v4 k0_t6) a + S1.size a ≤ S32.size a := fun v4 k0_hw1 k0_t6 => k0_hw1.2.2.2.2.2.2.2.2.1 k0_t6
theorem k0_off83_inb : ∀ (v4 : BitVec 32) (k0_hw1 : k0_chk1 v4) (k0_t6 : Fin k0_t6_loop.trips), ∀ a, (k0_off83 v4 k0_t6) a + S1.size a ≤ S32.size a := fun v4 k0_hw1 k0_t6 => k0_hw1.2.2.2.2.2.2.2.2.2.1 k0_t6
theorem k0_off85_inb : ∀ (v4 : BitVec 32) (k0_hw1 : k0_chk1 v4) (k0_t6 : Fin k0_t6_loop.trips), ∀ a, (k0_off85 v4 k0_t6) a + S1.size a ≤ S32.size a := fun v4 k0_hw1 k0_t6 => k0_hw1.2.2.2.2.2.2.2.2.2.2.1 k0_t6
theorem k0_off87_inb : ∀ (v4 : BitVec 32) (k0_hw1 : k0_chk1 v4) (k0_t6 : Fin k0_t6_loop.trips), ∀ a, (k0_off87 v4 k0_t6) a + S1.size a ≤ S32.size a := fun v4 k0_hw1 k0_t6 => k0_hw1.2.2.2.2.2.2.2.2.2.2.2.1 k0_t6
theorem k0_off89_inb : ∀ (v4 : BitVec 32) (k0_hw1 : k0_chk1 v4), ∀ a, (k0_off89 v4) a + S1.size a ≤ S32.size a := fun v4 k0_hw1 => k0_hw1.2.2.2.2.2.2.2.2.2.2.2.2.1
theorem k0_off92_inb : ∀ (v4 : BitVec 32) (k0_hw1 : k0_chk1 v4) (k0_t7 : Fin k0_t7_loop.trips), ∀ a, (k0_off92 v4 k0_t7) a + S1.size a ≤ S32.size a := fun v4 k0_hw1 k0_t7 => k0_hw1.2.2.2.2.2.2.2.2.2.2.2.2.2.1 k0_t7
theorem k0_off94_inb : ∀ (v4 : BitVec 32) (k0_hw1 : k0_chk1 v4) (k0_t7 : Fin k0_t7_loop.trips), ∀ a, (k0_off94 v4 k0_t7) a + S1.size a ≤ S32.size a := fun v4 k0_hw1 k0_t7 => k0_hw1.2.2.2.2.2.2.2.2.2.2.2.2.2.2.1 k0_t7
theorem k0_off96_inb : ∀ (v4 : BitVec 32) (k0_hw1 : k0_chk1 v4) (k0_t7 : Fin k0_t7_loop.trips), ∀ a, (k0_off96 v4 k0_t7) a + S1.size a ≤ S32.size a := fun v4 k0_hw1 k0_t7 => k0_hw1.2.2.2.2.2.2.2.2.2.2.2.2.2.2.2.1 k0_t7
theorem k0_off98_inb : ∀ (v4 : BitVec 32) (k0_hw1 : k0_chk1 v4) (k0_t7 : Fin k0_t7_loop.trips), ∀ a, (k0_off98 v4 k0_t7) a + S1.size a ≤ S32.size a := fun v4 k0_hw1 k0_t7 => k0_hw1.2.2.2.2.2.2.2.2.2.2.2.2.2.2.2.2.1 k0_t7
theorem k0_off100_inb : ∀ (v4 : BitVec 32) (k0_hw1 : k0_chk1 v4), ∀ a, (k0_off100 v4) a + S1.size a ≤ S32.size a := fun v4 k0_hw1 => k0_hw1.2.2.2.2.2.2.2.2.2.2.2.2.2.2.2.2.2.1
theorem k0_off102_inb : ∀ (v4 : BitVec 32) (k0_hw1 : k0_chk1 v4), ∀ a, (k0_off102 v4) a + S1.size a ≤ S32.size a := fun v4 k0_hw1 => k0_hw1.2.2.2.2.2.2.2.2.2.2.2.2.2.2.2.2.2.2.1
theorem k0_off104_inb : ∀ (v4 : BitVec 32) (k0_hw1 : k0_chk1 v4), ∀ a, (k0_off104 v4) a + S1.size a ≤ S32.size a := fun v4 k0_hw1 => k0_hw1.2.2.2.2.2.2.2.2.2.2.2.2.2.2.2.2.2.2.2

def k0_off105 (v990 : BitVec 32) : Fin 2 → Nat :=
  let c256_i32_1001 : BitVec 32 := 256#32
  let v992 : BitVec 32 := Scalar.muli v990 c256_i32_1001
  let v993 : Index := Scalar.indexCast v992
  let c0_1002 : Index := 0#32
  ![v993.toNat, 0]

def k0_chk52 (v990 : BitVec 32) : Prop :=
  (∀ a, (k0_off105 v990) a + S256x256.size a ≤ S8192x256.size a) ∧
  (∀ (hinb : ∀ a, (k0_off105 v990) a + S256x256.size a ≤ S8192x256.size a), (Rect.unit (s := S8192x256) (k0_off105 v990) S256x256.size hinb).PackedRows (EltTy.packing .bf16))
theorem k0_off105_inb : ∀ (v990 : BitVec 32) (k0_hw52 : k0_chk52 v990), ∀ a, (k0_off105 v990) a + S256x256.size a ≤ S8192x256.size a := fun v990 k0_hw52 => k0_hw52.1
theorem k0_off105_packedbf16 : ∀ (v990 : BitVec 32) (k0_hw52 : k0_chk52 v990), (Rect.unit (s := S8192x256) (k0_off105 v990) S256x256.size (k0_off105_inb v990 k0_hw52)).PackedRows (EltTy.packing .bf16) := fun v990 k0_hw52 => k0_hw52.2 (k0_off105_inb v990 k0_hw52)

abbrev stage0_0 : Fin 1 → Memref sig .tc .smem S32 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S32 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S512x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8192x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== ReferenceIdeal.lean ====
abbrev S8192x256 : Shape := ⟨2, ![8192, 256]⟩
abbrev S256x16384 : Shape := ⟨2, ![256, 16384]⟩
abbrev S16384x256 : Shape := ⟨2, ![16384, 256]⟩
abbrev S8192x16384 : Shape := ⟨2, ![8192, 16384]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S256x16384, .bf16⟩
  | .hbm, ⟨2, _⟩ => ⟨S16384x256, .bf16⟩
  | .hbm, ⟨3, _⟩ => ⟨S256x16384, .bf16⟩
  | .hbm, ⟨4, _⟩ => ⟨S16384x256, .bf16⟩
  | .hbm, ⟨5, _⟩ => ⟨S256x16384, .bf16⟩
  | .hbm, ⟨6, _⟩ => ⟨S16384x256, .bf16⟩
  | .hbm, ⟨7, _⟩ => ⟨S8192x16384, .f32⟩
  | .hbm, ⟨8, _⟩ => ⟨S8192x16384, .bf16⟩
  | .hbm, ⟨9, _⟩ => ⟨S_, .bf16⟩
  | .hbm, ⟨10, _⟩ => ⟨S8192x16384, .bf16⟩
  | .hbm, ⟨11, _⟩ => ⟨S8192x16384, .bf16⟩
  | .hbm, ⟨12, _⟩ => ⟨S8192x256, .f32⟩
  | .hbm, ⟨13, _⟩ => ⟨S8192x256, .bf16⟩
  | .hbm, ⟨14, _⟩ => ⟨S8192x16384, .f32⟩
  | .hbm, ⟨15, _⟩ => ⟨S8192x16384, .bf16⟩
  | .hbm, ⟨16, _⟩ => ⟨S_, .bf16⟩
  | .hbm, ⟨17, _⟩ => ⟨S8192x16384, .bf16⟩
  | .hbm, ⟨18, _⟩ => ⟨S8192x16384, .bf16⟩
  | .hbm, ⟨19, _⟩ => ⟨S8192x256, .f32⟩
  | .hbm, ⟨20, _⟩ => ⟨S8192x256, .bf16⟩
  | .hbm, ⟨21, _⟩ => ⟨S8192x16384, .f32⟩
  | .hbm, ⟨22, _⟩ => ⟨S8192x16384, .bf16⟩
  | .hbm, ⟨23, _⟩ => ⟨S_, .bf16⟩
  | .hbm, ⟨24, _⟩ => ⟨S8192x16384, .bf16⟩
  | .hbm, ⟨25, _⟩ => ⟨S8192x16384, .bf16⟩
  | .hbm, ⟨26, _⟩ => ⟨S8192x256, .f32⟩
  | .hbm, ⟨27, _⟩ => ⟨S8192x256, .bf16⟩
  | .hbm, ⟨28, _⟩ => ⟨S8192x256, .f32⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== Proof.Ideal.Prog.lean ====
/-
  The kernel's body as a structured program: one handshake-and-transfer step of the two rings (`commBoth`, `commCw`), what
  follows a step in an all-gather (`agPost`) and in a reduce-scatter (`rsPost`), and the phases built of them. The printed
  body is this program (`body_eq`), by unfolding.
-/
module

public import proofs.«01_k».proof.Proof.Gen.KernelIdeal
public import proofs.«01_k».proof.Proof.Gen.KernelIdeal.Skeleton
public import proofs.«01_k».proof.Proof.Gen.KernelIdeal.Points

@[expose] public section

set_option synthInstance.maxSize 4096

noncomputable section

namespace Cert.KernelIdeal.Hand

open Cert.KernelIdeal Cert.KernelIdeal.Gen
open Idealize.ShloMosaic Idealize.ShloMosaic.TcCoe
open Idealize.SL.Sem

variable {F : FTy → Type} [FloatOps F]

/-- The kernel's programs. -/
abbrev PT (F : FTy → Type) : Type → Type 1 := Prog (TpuEff nD τ sig (Elt F) Λ₀ .tc)

/-! ## The memrefs -/

abbrev cycM : Memref sig .tc .smem S32 .i32 := Memref.whole cc0_stg0_0
abbrev posM : Memref sig .tc .smem S32 .i32 := Memref.whole cc0_stg1_0
abbrev xM : Memref sig .tc .vmem S256x256 .bf16 := Memref.whole cc0_stg2_0
abbrev outM : Memref sig .tc .vmem S8192x256 .f32 := Memref.whole cc0_stg9_0
abbrev xgM : Memref sig .tc .vmem S8192x256 .bf16 := Memref.whole cc0_scratch0
abbrev paccM : Memref sig .tc .vmem S8192x256 .f32 := Memref.whole cc0_scratch1
abbrev rsCw : Memref sig .tc .vmem S512x256 .f32 := Memref.whole cc0_scratch2
abbrev rsCcw : Memref sig .tc .vmem S512x256 .f32 := Memref.whole cc0_scratch3
abbrev agCw : Memref sig .tc .vmem S512x256 .bf16 := Memref.whole cc0_scratch4
abbrev agCcw : Memref sig .tc .vmem S512x256 .bf16 := Memref.whole cc0_scratch5

/-- The corner of a slot in its two-slot buffer. -/
def slotO : Bool → Fin 2 → Nat
  | false => ![0, 0]
  | true => ![256, 0]

theorem slotO_inb (b : Bool) : ∀ a, slotO b a + S256x256.size a ≤ S512x256.size a := by
  cases b <;> decide

abbrev slotR (b : Bool) : Rect S512x256 := Rect.unit (s := S512x256) (slotO b) S256x256.size (slotO_inb b)

/-- A slot of a two-slot buffer. -/
def slot {t : EltTy} (m : Memref sig .tc .vmem S512x256 t) (b : Bool) : Memref sig .tc .vmem S256x256 t :=
  m.slice (slotR b) (fun _ => rfl)

def semO : Bool → Fin 1 → Nat
  | false => ![0]
  | true => ![1]

theorem semO_inb (b : Bool) : ∀ a, semO b a + S1.size a ≤ S2.size a := by
  cases b <;> decide

/-- One of a pair of transfer semaphores. -/
def sem2 (a : DmaSems sig S2) (b : Bool) : DmaSem sig :=
  ((a.slice (Rect.unit (s := S2) (semO b) S1.size (semO_inb b))).squeeze S_ squeezes_S1_S_).sem

abbrev sCw (b : Bool) : DmaSem sig := sem2 cc0_scratch6 b
abbrev rCw (b : Bool) : DmaSem sig := sem2 cc0_scratch7 b
abbrev sCcw (b : Bool) : DmaSem sig := sem2 cc0_scratch8 b
abbrev rCcw (b : Bool) : DmaSem sig := sem2 cc0_scratch9 b
abbrev fCw : Sem sig := cc0_scratch10.sem
abbrev fCcw : Sem sig := cc0_scratch11.sem
abbrev barS : Sem sig := (SemArray.scalar (sig.barrier 0 rfl) : Sems sig S_).sem

/-! ## A step of the rings -/

/-- A two-slot buffer whose slots a copy can read and write. -/
structure Ok2 {t : EltTy} (m : Memref sig .tc .vmem S512x256 t) : Prop where
  we : ∀ b, (slot m b).view.WordExact
  sc : ∀ b, (slot m b).view.ref.isScScratch = false

/-- Send slot `s` of `m` to slot `!s` of `m` on device `d`. -/
def sendSlot {t : EltTy} (m : Memref sig .tc .vmem S512x256 t) (h : Ok2 m) (d : Dev nD) (sS sR : Bool → DmaSem sig) (s : Bool) : PT F PUnit :=
  Prog.lift (.enqueueDma (slot m s) (.remote (Dev.tc d) (slot m (!s)) (.dma (sS s)) (h.sc _)) (.dma (sR (!s))) (h.we _) (h.we _)
    ⟨⟨rfl, Or.inl rfl⟩, trivial⟩)

def waitSend {t : EltTy} (m : Memref sig .tc .vmem S512x256 t) (h : Ok2 m) (sS : Bool → DmaSem sig) (s : Bool) : PT F PUnit :=
  Prog.lift (.waitDma2 (sS s) (slot m (!s)) (slot m s) (h.we _) (h.we _))

def waitRecv {t : EltTy} (m : Memref sig .tc .vmem S512x256 t) (h : Ok2 m) (sR : Bool → DmaSem sig) (s : Bool) : PT F PUnit :=
  Prog.lift (.waitDma2 (sR (!s)) (slot m s) (slot m (!s)) (h.we _) (h.we _))

/-- One step with both rings: the handshake, both copies out, both copies in. -/
def commBoth {t : EltTy} (cw ccw : Memref sig .tc .vmem S512x256 t) (hcw : Ok2 cw) (hccw : Ok2 ccw) (lft rgt : Dev nD) (s : Bool) : PT F PUnit := do
  semSignalWord lft fCw 1#32
  semSignalWord rgt fCcw 1#32
  semWaitWord fCw 1#32
  semWaitWord fCcw 1#32
  sendSlot cw hcw rgt sCw rCw s
  sendSlot ccw hccw lft sCcw rCcw s
  waitSend cw hcw sCw s
  waitRecv cw hcw rCw s
  waitSend ccw hccw sCcw s
  waitRecv ccw hccw rCcw s

/-- The last step: the clockwise ring alone, from slot 1 to slot 0. -/
def commCw {t : EltTy} (cw : Memref sig .tc .vmem S512x256 t) (hcw : Ok2 cw) (lft rgt : Dev nD) : PT F PUnit := do
  semSignalWord lft fCw 1#32
  semWaitWord fCw 1#32
  sendSlot cw hcw rgt sCw rCw true
  waitSend cw hcw sCw true
  waitRecv cw hcw rCw true

theorem ok_agCw : Ok2 agCw :=
  ⟨fun b => by cases b; exact (Memref.isWhole_whole _).wordExact_slice rfl _ wordsbf16_S512x256_S256x256_0_0
               exact (Memref.isWhole_whole _).wordExact_slice rfl _ wordsbf16_S512x256_S256x256_256_0, fun b => by cases b <;> rfl⟩
theorem ok_agCcw : Ok2 agCcw :=
  ⟨fun b => by cases b; exact (Memref.isWhole_whole _).wordExact_slice rfl _ wordsbf16_S512x256_S256x256_0_0
               exact (Memref.isWhole_whole _).wordExact_slice rfl _ wordsbf16_S512x256_S256x256_256_0, fun b => by cases b <;> rfl⟩
theorem ok_rsCw : Ok2 rsCw := ⟨fun b => View.wordExact_bits rfl, fun b => by cases b <;> rfl⟩
theorem ok_rsCcw : Ok2 rsCcw := ⟨fun b => View.wordExact_bits rfl, fun b => by cases b <;> rfl⟩

/-! ## What follows a step -/

/-- A word of the cycle table. -/
def rdCyc (o : Fin 1 → Nat) (ho : ∀ a, o a + S1.size a ≤ S32.size a) : PT F (Elt F .i32) :=
  smemLoad cycM (Rect.unit (s := S32) o S1.size ho) numel1_S1 rfl

def ldSlot {t : EltTy} (m : Memref sig .tc .vmem S512x256 t) (b : Bool) : PT F (Vec F S256x256 t) :=
  Prog.lift (.load m (slotR b).toLoadRect (View.loadsAt_vmem h_S256x256))

/-- After a step of an all-gather: the received block goes to the gathered array. -/
def agPost (m : Memref sig .tc .vmem S512x256 .bf16) (b : Bool) (o : Fin 1 → Nat) (ho : ∀ a, o a + S1.size a ≤ S32.size a) : PT F PUnit := do
  let v ← rdCyc o ho
  have h := (← Prog.lift (TpuEff.assume (k0_chk4 v) (k0_chk4.dec v))).down
  let w : Vec F S256x256 .bf16 ← ldSlot m b
  let _ : Vec F S256x256 .bf16 ← Prog.lift (.load xgM (Rect.unit (s := S8192x256) (k0_off6 v) S256x256.size (k0_off6_inb v h)).toLoadRect (View.loadsAt_vmem h_S256x256))
  Prog.lift (.store xgM (Rect.unit (s := S8192x256) (k0_off6 v) S256x256.size (k0_off6_inb v h)) (k0_pay2 w) Finset.univ
    (View.stores_vmem h_S256x256 ((Memref.isWhole_whole _).storeExact_slice rfl _ (k0_off6_packedbf16 v h)) (fun _ => rfl)) (.inl rfl))

/-- After a step of a reduce-scatter: the device's own partial block is added to the received one. -/
def rsPost (m : Memref sig .tc .vmem S512x256 .f32) (b : Bool) (o : Fin 1 → Nat) (ho : ∀ a, o a + S1.size a ≤ S32.size a) : PT F PUnit := do
  let v ← rdCyc o ho
  have h := (← Prog.lift (TpuEff.assume (k0_chk11 v) (k0_chk11.dec v))).down
  let w : Vec F S256x256 .f32 ← ldSlot m b
  let u : Vec F S256x256 .f32 ← Prog.lift (.load paccM (Rect.unit (s := S8192x256) (k0_off20 v) S256x256.size (k0_off20_inb v h)).toLoadRect (View.loadsAt_vmem h_S256x256))
  let _ : Vec F S256x256 .f32 ← ldSlot m b
  Prog.lift (.store m (slotR b) (k0_pay5 w u) Finset.univ (View.stores_vmem_bits_univ h_S256x256 rfl) (.inl rfl))

/-- Before a reduce-scatter: the first partial block of a ring. -/
def rsInit (m : Memref sig .tc .vmem S512x256 .f32) (o : Fin 1 → Nat) (ho : ∀ a, o a + S1.size a ≤ S32.size a) : PT F PUnit := do
  let v ← rdCyc o ho
  have h := (← Prog.lift (TpuEff.assume (k0_chk11 v) (k0_chk11.dec v))).down
  let u : Vec F S256x256 .f32 ← Prog.lift (.load paccM (Rect.unit (s := S8192x256) (k0_off20 v) S256x256.size (k0_off20_inb v h)).toLoadRect (View.loadsAt_vmem h_S256x256))
  let _ : Vec F S256x256 .f32 ← ldSlot m false
  Prog.lift (.store m (slotR false) (k0_pay42 u) Finset.univ (View.stores_vmem_bits_univ h_S256x256 rfl) (.inl rfl))

/-! ## The phases -/

section Phases

variable (v4 : BitVec 32) (h1 : k0_chk1 v4) (lft rgt : Dev nD)

/-- Two steps of an all-gather. -/
def agPair (k : Fin k0_t1_loop.trips) (_ : Unit) : PT F Unit := do
  commBoth agCw agCcw ok_agCw ok_agCcw lft rgt false
  agPost agCw true (k0_off5 v4 k) (k0_off5_inb v4 h1 k)
  agPost agCcw true (k0_off7 v4 k) (k0_off7_inb v4 h1 k)
  commBoth agCw agCcw ok_agCw ok_agCcw lft rgt true
  agPost agCw false (k0_off9 v4 k) (k0_off9_inb v4 h1 k)
  agPost agCcw false (k0_off11 v4 k) (k0_off11_inb v4 h1 k)
  pure ⟨⟩

/-- Two steps of a reduce-scatter. -/
def rsPair (k : Fin k0_t2_loop.trips) (_ : Unit) : PT F Unit := do
  commBoth rsCw rsCcw ok_rsCw ok_rsCcw lft rgt false
  rsPost rsCw true (k0_off23 v4 k) (k0_off23_inb v4 h1 k)
  rsPost rsCcw true (k0_off25 v4 k) (k0_off25_inb v4 h1 k)
  commBoth rsCw rsCcw ok_rsCw ok_rsCcw lft rgt true
  rsPost rsCw false (k0_off27 v4 k) (k0_off27_inb v4 h1 k)
  rsPost rsCcw false (k0_off29 v4 k) (k0_off29_inb v4 h1 k)
  pure ⟨⟩

end Phases

/-- An all-gather: seven pairs of steps, the fifteenth step, and the sixteenth, of one ring. -/
def agPhase (v4 : BitVec 32) (h1 : k0_chk1 v4) (lft rgt : Dev nD) : PT F PUnit := do
  Scf.Loop.for k0_t1_loop k0_t1_ok ⟨⟩ (agPair v4 h1 lft rgt)
  commBoth agCw agCcw ok_agCw ok_agCcw lft rgt false
  agPost agCw true (k0_off13 v4) (k0_off13_inb v4 h1)
  agPost agCcw true (k0_off15 v4) (k0_off15_inb v4 h1)
  commCw agCw ok_agCw lft rgt
  agPost agCw false (k0_off17 v4) (k0_off17_inb v4 h1)

/-- A thousand and twenty-four rows of a layer's partial product. -/
def chunk (o : Fin 2 → Nat) (ho : ∀ a, o a + S1024x256.size a ≤ S8192x256.size a) (w : Vec F S256x512 .bf16) (u : Vec F S512x256 .bf16) : PT F PUnit := do
  let x : Vec F S1024x256 .bf16 ← Prog.lift (.load xgM (Rect.unit (s := S8192x256) o S1024x256.size ho).toLoadRect (View.loadsAt_vmem h_S1024x256))
  let _ : Vec F S1024x256 .f32 ← Prog.lift (.load paccM (Rect.unit (s := S8192x256) o S1024x256.size ho).toLoadRect (View.loadsAt_vmem h_S1024x256))
  Prog.lift (.store paccM (Rect.unit (s := S8192x256) o S1024x256.size ho) (k0_pay33 w u x) Finset.univ (View.stores_vmem_bits_univ h_S1024x256 rfl) (.inl rfl))

/-- A layer's partial product on the device's slices of the two weights. -/
def compute (winM : Memref sig .tc .vmem S256x512 .bf16) (woutM : Memref sig .tc .vmem S512x256 .bf16) : PT F PUnit := do
  let w : Vec F S256x512 .bf16 ← Prog.lift (.load winM (Rect.unit (s := S256x512) ![0, 0] S256x512.size inb_S256x512_S256x512_0_0).toLoadRect (View.loadsAt_vmem h_S256x512))
  let u : Vec F S512x256 .bf16 ← Prog.lift (.load woutM (Rect.unit (s := S512x256) ![0, 0] S512x256.size inb_S512x256_S512x256_0_0).toLoadRect (View.loadsAt_vmem h_S512x256))
  chunk ![0, 0] inb_S8192x256_S1024x256_0_0 w u
  chunk ![1024, 0] inb_S8192x256_S1024x256_1024_0 w u
  chunk ![2048, 0] inb_S8192x256_S1024x256_2048_0 w u
  chunk ![3072, 0] inb_S8192x256_S1024x256_3072_0 w u
  chunk ![4096, 0] inb_S8192x256_S1024x256_4096_0 w u
  chunk ![5120, 0] inb_S8192x256_S1024x256_5120_0 w u
  chunk ![6144, 0] inb_S8192x256_S1024x256_6144_0 w u
  chunk ![7168, 0] inb_S8192x256_S1024x256_7168_0 w u

/-- The device's own block of the gathered array. -/
def stXg (d0 : Dev nD) (w : FVec F S256x256 .bf16) : PT F PUnit := do
  let _ : Vec F S256x256 .bf16 ← Prog.lift (.load xgM (Rect.unit (s := S8192x256) (k0_off4 d0) S256x256.size (k0_off4_inb d0)).toLoadRect (View.loadsAt_vmem h_S256x256))
  Prog.lift (.store xgM (Rect.unit (s := S8192x256) (k0_off4 d0) S256x256.size (k0_off4_inb d0)) w Finset.univ (View.stores_vmem h_S256x256 ((Memref.isWhole_whole _).storeExact_slice rfl _ (k0_off4_packedbf16 d0)) (fun _ => rfl)) (.inl rfl))

/-- The first slot of an all-gather's ring. -/
def stAg (m : Memref sig .tc .vmem S512x256 .bf16) (hm : m.IsWhole) (w : FVec F S256x256 .bf16) : PT F PUnit := do
  let _ : Vec F S256x256 .bf16 ← ldSlot m false
  Prog.lift (.store m (slotR false) w Finset.univ (View.stores_vmem h_S256x256 (hm.storeExact_slice rfl _ packedbf16_S512x256_S256x256_0_0) (fun _ => rfl)) (.inl rfl))

/-- A reduce-scatter, its first partial blocks and its sum; the sum, rounded, is the device's block of the next layer's input. -/
def rsPhase (d0 : Dev nD) (v4 : BitVec 32) (h1 : k0_chk1 v4) (lft rgt : Dev nD) : PT F PUnit := do
  rsInit rsCw (k0_off19 v4) (k0_off19_inb v4 h1)
  rsInit rsCcw (k0_off21 v4) (k0_off21_inb v4 h1)
  Scf.Loop.for k0_t2_loop k0_t2_ok ⟨⟩ (rsPair v4 h1 lft rgt)
  commBoth rsCw rsCcw ok_rsCw ok_rsCcw lft rgt false
  rsPost rsCw true (k0_off31 v4) (k0_off31_inb v4 h1)
  commCw rsCw ok_rsCw lft rgt
  let a : Vec F S256x256 .f32 ← ldSlot rsCw false
  let b : Vec F S256x256 .f32 ← ldSlot rsCcw true
  let c : Vec F S256x256 .f32 ← Prog.lift (.load paccM (Rect.unit (s := S8192x256) (k0_off33 d0) S256x256.size (k0_off33_inb d0)).toLoadRect (View.loadsAt_vmem h_S256x256))
  stXg d0 (k0_pay47 a b c)
  stAg agCw (Memref.isWhole_whole _) (k0_pay48 a b c)
  stAg agCcw (Memref.isWhole_whole _) (k0_pay49 a b c)

/-- A layer: its partial product, the reduce-scatter, the all-gather. -/
def layer (d0 : Dev nD) (v4 : BitVec 32) (h1 : k0_chk1 v4) (lft rgt : Dev nD) (winM : Memref sig .tc .vmem S256x512 .bf16) (woutM : Memref sig .tc .vmem S512x256 .bf16) : PT F PUnit := do
  compute winM woutM
  rsPhase d0 v4 h1 lft rgt
  agPhase v4 h1 lft rgt

/-- The barrier with both neighbours. -/
def barrier (lft rgt : Dev nD) : PT F PUnit := do
  semSignalWord lft barS 1#32
  semSignalWord rgt barS 1#32
  semWaitWord barS 2#32

/-- The device's block of the input to the gathered array and both rings. -/
def fill (d0 : Dev nD) : PT F PUnit := do
  let x : Vec F S256x256 .bf16 ← Prog.lift (.load xM (Rect.unit (s := S256x256) ![0, 0] S256x256.size inb_S256x256_S256x256_0_0).toLoadRect (View.loadsAt_vmem h_S256x256))
  stXg d0 (k0_pay24 x)
  stAg agCw (Memref.isWhole_whole _) (k0_pay25 x)
  stAg agCcw (Memref.isWhole_whole _) (k0_pay26 (k0_pay23 x))

def output : PT F PUnit := do
  let x : Vec F S8192x256 .bf16 ← Prog.lift (.load xgM (Rect.unit (s := S8192x256) ![0, 0] S8192x256.size inb_S8192x256_S8192x256_0_0).toLoadRect (View.loadsAt_vmem h_S8192x256))
  let _ : Vec F S8192x256 .f32 ← Prog.lift (.load outM (Rect.unit (s := S8192x256) ![0, 0] S8192x256.size inb_S8192x256_S8192x256_0_0).toLoadRect (View.loadsAt_vmem h_S8192x256))
  Prog.lift (.store outM (Rect.unit (s := S8192x256) ![0, 0] S8192x256.size inb_S8192x256_S8192x256_0_0) (k0_pay1 x) Finset.univ (View.stores_vmem_bits_univ h_S8192x256 rfl) (.inl rfl))

/-- The whole body after its neighbours are known. -/
def core (d0 : Dev nD) (v4 : BitVec 32) (h1 : k0_chk1 v4) (lft rgt : Dev nD) : PT F PUnit := do
  barrier lft rgt
  fill d0
  agPhase v4 h1 lft rgt
  layer d0 v4 h1 lft rgt (Memref.whole cc0_stg3_0) (Memref.whole cc0_stg4_0)
  layer d0 v4 h1 lft rgt (Memref.whole cc0_stg5_0) (Memref.whole cc0_stg6_0)
  layer d0 v4 h1 lft rgt (Memref.whole cc0_stg7_0) (Memref.whole cc0_stg8_0)
  output

/-- The kernel's body: its position, its neighbours, and the rest. -/
def handBody : PT F PUnit := do
  let d0 : Dev nD ← Prog.lift .deviceId
  let v4 : Elt F .i32 ← smemLoad posM (Rect.unit (s := S32) (k0_off1 d0) S1.size (k0_off1_inb d0)) numel1_S1 rfl
  have h1 : k0_chk1 v4 := (← Prog.lift (TpuEff.assume (k0_chk1 v4) (k0_chk1.dec v4))).down
  let v9 : Elt F .i32 ← rdCyc (k0_off2 v4) (k0_off2_inb v4 h1)
  have h3 : k0_chk3 v9 := (← Prog.lift (TpuEff.assume (k0_chk3 v9) (k0_chk3.dec v9))).down
  let v14 : Elt F .i32 ← rdCyc (k0_off3 v4) (k0_off3_inb v4 h1)
  have h2 : k0_chk2 v14 := (← Prog.lift (TpuEff.assume (k0_chk2 v14) (k0_chk2.dec v14))).down
  core d0 v4 h1 ⟨k0_dev1 v14, k0_dev1_lt v14 h2⟩ ⟨k0_dev2 v9, k0_dev2_lt v9 h3⟩

/-! ## The printed loops and body -/

set_option maxRecDepth 65536 in
theorem t1_eq (t : Fin cfg0.N) (v4 : Elt F .i32) (k0_hw1 : k0_chk1 v4) (v9 : Elt F .i32) (k0_hw3 : k0_chk3 v9) (v14 : Elt F .i32) (k0_hw2 : k0_chk2 v14) (v21 : FVec F S256x256 .bf16) (v29 : FVec F S256x256 .bf16) :
    k0_t1_body (win0_0.stage (cfg0.slots t 0)) (hstage0_0 0) (win0_1.stage (cfg0.slots t 1)) (hstage0_1 0) (win0_2.stage (cfg0.slots t 2)) (hstage0_2 0) (win0_3.stage (cfg0.slots t 3)) (hstage0_3 0) (win0_4.stage (cfg0.slots t 4)) (hstage0_4 0) (win0_5.stage (cfg0.slots t 5)) (hstage0_5 0) (win0_6.stage (cfg0.slots t 6)) (hstage0_6 0) (win0_7.stage (cfg0.slots t 7)) (hstage0_7 0) (win0_8.stage (cfg0.slots t 8)) (hstage0_8 0) (win0_9.stage (cfg0.slots t 9)) (hstage0_9 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11
      v4 k0_hw1 v9 k0_hw3 v14 k0_hw2 v21 v29 = agPair (F := F) v4 k0_hw1 ⟨k0_dev1 v14, k0_dev1_lt v14 k0_hw2⟩ ⟨k0_dev2 v9, k0_dev2_lt v9 k0_hw3⟩ := rfl

set_option maxRecDepth 65536 in
theorem t2_eq (t : Fin cfg0.N) (v4 : Elt F .i32) (k0_hw1 : k0_chk1 v4) (v9 : Elt F .i32) (k0_hw3 : k0_chk3 v9) (v14 : Elt F .i32) (k0_hw2 : k0_chk2 v14) (v224 : Vec F S256x256 .f32) :
    k0_t2_body (win0_0.stage (cfg0.slots t 0)) (hstage0_0 0) (win0_1.stage (cfg0.slots t 1)) (hstage0_1 0) (win0_2.stage (cfg0.slots t 2)) (hstage0_2 0) (win0_3.stage (cfg0.slots t 3)) (hstage0_3 0) (win0_4.stage (cfg0.slots t 4)) (hstage0_4 0) (win0_5.stage (cfg0.slots t 5)) (hstage0_5 0) (win0_6.stage (cfg0.slots t 6)) (hstage0_6 0) (win0_7.stage (cfg0.slots t 7)) (hstage0_7 0) (win0_8.stage (cfg0.slots t 8)) (hstage0_8 0) (win0_9.stage (cfg0.slots t 9)) (hstage0_9 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11
      v4 k0_hw1 v9 k0_hw3 v14 k0_hw2 v224 = rsPair (F := F) v4 k0_hw1 ⟨k0_dev1 v14, k0_dev1_lt v14 k0_hw2⟩ ⟨k0_dev2 v9, k0_dev2_lt v9 k0_hw3⟩ := rfl

set_option maxRecDepth 65536 in
theorem t3_eq (t : Fin cfg0.N) (d0 : Dev nD) (v2 : BitVec 32) (v4 : Elt F .i32) (k0_hw1 : k0_chk1 v4) (v9 : Elt F .i32) (k0_hw3 : k0_chk3 v9) (v14 : Elt F .i32) (k0_hw2 : k0_chk2 v14) :
    k0_t3_body (win0_0.stage (cfg0.slots t 0)) (hstage0_0 0) (win0_1.stage (cfg0.slots t 1)) (hstage0_1 0) (win0_2.stage (cfg0.slots t 2)) (hstage0_2 0) (win0_3.stage (cfg0.slots t 3)) (hstage0_3 0) (win0_4.stage (cfg0.slots t 4)) (hstage0_4 0) (win0_5.stage (cfg0.slots t 5)) (hstage0_5 0) (win0_6.stage (cfg0.slots t 6)) (hstage0_6 0) (win0_7.stage (cfg0.slots t 7)) (hstage0_7 0) (win0_8.stage (cfg0.slots t 8)) (hstage0_8 0) (win0_9.stage (cfg0.slots t 9)) (hstage0_9 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11
      d0 v2 v4 k0_hw1 v9 k0_hw3 v14 k0_hw2 = agPair (F := F) v4 k0_hw1 ⟨k0_dev1 v14, k0_dev1_lt v14 k0_hw2⟩ ⟨k0_dev2 v9, k0_dev2_lt v9 k0_hw3⟩ := rfl

set_option maxRecDepth 65536 in
theorem t4_eq (t : Fin cfg0.N) (v4 : Elt F .i32) (k0_hw1 : k0_chk1 v4) (v9 : Elt F .i32) (k0_hw3 : k0_chk3 v9) (v14 : Elt F .i32) (k0_hw2 : k0_chk2 v14) (v491 : FVec F S1024x256 .f32) :
    k0_t4_body (win0_0.stage (cfg0.slots t 0)) (hstage0_0 0) (win0_1.stage (cfg0.slots t 1)) (hstage0_1 0) (win0_2.stage (cfg0.slots t 2)) (hstage0_2 0) (win0_3.stage (cfg0.slots t 3)) (hstage0_3 0) (win0_4.stage (cfg0.slots t 4)) (hstage0_4 0) (win0_5.stage (cfg0.slots t 5)) (hstage0_5 0) (win0_6.stage (cfg0.slots t 6)) (hstage0_6 0) (win0_7.stage (cfg0.slots t 7)) (hstage0_7 0) (win0_8.stage (cfg0.slots t 8)) (hstage0_8 0) (win0_9.stage (cfg0.slots t 9)) (hstage0_9 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11
      v4 k0_hw1 v9 k0_hw3 v14 k0_hw2 v491 = rsPair (F := F) v4 k0_hw1 ⟨k0_dev1 v14, k0_dev1_lt v14 k0_hw2⟩ ⟨k0_dev2 v9, k0_dev2_lt v9 k0_hw3⟩ := rfl

set_option maxRecDepth 65536 in
theorem t5_eq (t : Fin cfg0.N) (d0 : Dev nD) (v2 : BitVec 32) (v4 : Elt F .i32) (k0_hw1 : k0_chk1 v4) (v9 : Elt F .i32) (k0_hw3 : k0_chk3 v9) (v14 : Elt F .i32) (k0_hw2 : k0_chk2 v14) (v594 : FVec F S256x256 .f32) :
    k0_t5_body (win0_0.stage (cfg0.slots t 0)) (hstage0_0 0) (win0_1.stage (cfg0.slots t 1)) (hstage0_1 0) (win0_2.stage (cfg0.slots t 2)) (hstage0_2 0) (win0_3.stage (cfg0.slots t 3)) (hstage0_3 0) (win0_4.stage (cfg0.slots t 4)) (hstage0_4 0) (win0_5.stage (cfg0.slots t 5)) (hstage0_5 0) (win0_6.stage (cfg0.slots t 6)) (hstage0_6 0) (win0_7.stage (cfg0.slots t 7)) (hstage0_7 0) (win0_8.stage (cfg0.slots t 8)) (hstage0_8 0) (win0_9.stage (cfg0.slots t 9)) (hstage0_9 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11
      d0 v2 v4 k0_hw1 v9 k0_hw3 v14 k0_hw2 v594 = agPair (F := F) v4 k0_hw1 ⟨k0_dev1 v14, k0_dev1_lt v14 k0_hw2⟩ ⟨k0_dev2 v9, k0_dev2_lt v9 k0_hw3⟩ := rfl

set_option maxRecDepth 65536 in
theorem t6_eq (t : Fin cfg0.N) (v4 : Elt F .i32) (k0_hw1 : k0_chk1 v4) (v9 : Elt F .i32) (k0_hw3 : k0_chk3 v9) (v14 : Elt F .i32) (k0_hw2 : k0_chk2 v14) (v791 : Vec F S256x256 .f32) :
    k0_t6_body (win0_0.stage (cfg0.slots t 0)) (hstage0_0 0) (win0_1.stage (cfg0.slots t 1)) (hstage0_1 0) (win0_2.stage (cfg0.slots t 2)) (hstage0_2 0) (win0_3.stage (cfg0.slots t 3)) (hstage0_3 0) (win0_4.stage (cfg0.slots t 4)) (hstage0_4 0) (win0_5.stage (cfg0.slots t 5)) (hstage0_5 0) (win0_6.stage (cfg0.slots t 6)) (hstage0_6 0) (win0_7.stage (cfg0.slots t 7)) (hstage0_7 0) (win0_8.stage (cfg0.slots t 8)) (hstage0_8 0) (win0_9.stage (cfg0.slots t 9)) (hstage0_9 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11
      v4 k0_hw1 v9 k0_hw3 v14 k0_hw2 v791 = rsPair (F := F) v4 k0_hw1 ⟨k0_dev1 v14, k0_dev1_lt v14 k0_hw2⟩ ⟨k0_dev2 v9, k0_dev2_lt v9 k0_hw3⟩ := rfl

set_option maxRecDepth 65536 in
theorem t7_eq (t : Fin cfg0.N) (v4 : Elt F .i32) (k0_hw1 : k0_chk1 v4) (v9 : Elt F .i32) (k0_hw3 : k0_chk3 v9) (v14 : Elt F .i32) (k0_hw2 : k0_chk2 v14) (v888 : FVec F S256x256 .bf16) (v896 : FVec F S256x256 .bf16) :
    k0_t7_body (win0_0.stage (cfg0.slots t 0)) (hstage0_0 0) (win0_1.stage (cfg0.slots t 1)) (hstage0_1 0) (win0_2.stage (cfg0.slots t 2)) (hstage0_2 0) (win0_3.stage (cfg0.slots t 3)) (hstage0_3 0) (win0_4.stage (cfg0.slots t 4)) (hstage0_4 0) (win0_5.stage (cfg0.slots t 5)) (hstage0_5 0) (win0_6.stage (cfg0.slots t 6)) (hstage0_6 0) (win0_7.stage (cfg0.slots t 7)) (hstage0_7 0) (win0_8.stage (cfg0.slots t 8)) (hstage0_8 0) (win0_9.stage (cfg0.slots t 9)) (hstage0_9 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11
      v4 k0_hw1 v9 k0_hw3 v14 k0_hw2 v888 v896 = agPair (F := F) v4 k0_hw1 ⟨k0_dev1 v14, k0_dev1_lt v14 k0_hw2⟩ ⟨k0_dev2 v9, k0_dev2_lt v9 k0_hw3⟩ := rfl

set_option maxRecDepth 65536 in
set_option maxHeartbeats 4000000 in
theorem body_eq (t : Fin cfg0.N) : bodyAt0 (F := F) t = handBody := by
  unfold bodyAt0
  simp only [cc0_body_eq_skeleton, cc0_body_skel, k0_part36_eq_skeleton, k0_part36_skel, k0_part37_eq_skeleton, k0_part37_skel, k0_part38_eq_skeleton, k0_part38_skel, k0_part39_eq_skeleton, k0_part39_skel, k0_part40_eq_skeleton, k0_part40_skel, k0_part41_eq_skeleton, k0_part41_skel, k0_part42_eq_skeleton, k0_part42_skel, k0_part43_eq_skeleton, k0_part43_skel, k0_part44_eq_skeleton, k0_part44_skel, k0_part45_eq_skeleton, k0_part45_skel, k0_part46_eq_skeleton, k0_part46_skel, k0_part47_eq_skeleton, k0_part47_skel, k0_part48_eq_skeleton, k0_part48_skel, k0_part49_eq_skeleton, k0_part49_skel, k0_part50_eq_skeleton, k0_part50_skel, k0_part51_eq_skeleton, k0_part51_skel, k0_part52_eq_skeleton, k0_part52_skel, k0_part53_eq_skeleton, k0_part53_skel, k0_part54_eq_skeleton, k0_part54_skel, k0_part55_eq_skeleton, k0_part55_skel, k0_part56_eq_skeleton, k0_part56_skel, k0_part57_eq_skeleton, k0_part57_skel, k0_part58_eq_skeleton, k0_part58_skel, k0_part59_eq_skeleton, k0_part59_skel, k0_part60_eq_skeleton, k0_part60_skel, k0_part61_eq_skeleton, k0_part61_skel, k0_part62_eq_skeleton, k0_part62_skel, k0_part63_eq_skeleton, k0_part63_skel, k0_part64_eq_skeleton, k0_part64_skel, k0_part65_eq_skeleton, k0_part65_skel, k0_part66_eq_skeleton, k0_part66_skel, k0_part67_eq_skeleton, k0_part67_skel, k0_part68_eq_skeleton, k0_part68_skel, k0_part69_eq_skeleton, k0_part69_skel, k0_part70_eq_skeleton, k0_part70_skel, k0_part71_eq_skeleton, k0_part71_skel, k0_part72_eq_skeleton, k0_part72_skel, bind_assoc, pure_bind, t1_eq, t2_eq, t3_eq, t4_eq, t5_eq, t6_eq, t7_eq]
  simp only [handBody, core, barrier, fill, layer, compute, rsPhase, agPhase, output, bind_assoc, pure_bind]
  rfl

end Cert.KernelIdeal.Hand

end
-- ==== Proof.Ideal.Ring.lean ====
/-
  The ring of the two tables: the device `k` places further along the cycle (`sh c k`), its arithmetic, and what the
  kernel's index words read there. All are finite facts about thirty-two devices.
-/
module

public import proofs.«01_k».proof.Proof.Ideal.Prog

@[expose] public section

noncomputable section

namespace Cert.KernelIdeal.Hand

open Cert.KernelIdeal Cert.KernelIdeal.Gen
open Idealize.ShloMosaic Idealize.ShloMosaic.TcCoe
open Idealize.SL.Sem

/-- The device at a place of the cycle, the places counted modulo 32. -/
def cyc (k : ℕ) : Dev nD := ⟨(lit0 ⟨k % 32, Nat.mod_lt _ (by decide)⟩).toNat % 32, Nat.mod_lt _ (by decide)⟩
/-- The place of a device. -/
def pos (c : Dev nD) : ℕ := (lit1 c).toNat % 32
/-- The device `k` places after `c`. -/
def sh (c : Dev nD) (k : ℕ) : Dev nD := cyc (pos c + k)
/-- The right and the left neighbour. -/
def nxt (c : Dev nD) : Dev nD := sh c 1
def prv (c : Dev nD) : Dev nD := sh c 31

theorem pos_lt (c : Dev nD) : pos c < 32 := Nat.mod_lt _ (by decide)
theorem cyc_mod (k : ℕ) : cyc (k % 32) = cyc k := by unfold cyc; simp only [Nat.mod_mod]
theorem cyc_pos (c : Dev nD) : cyc (pos c) = c := by revert c; decide +kernel
theorem pos_cyc (k : ℕ) : pos (cyc k) = k % 32 := by
  rw [← cyc_mod]
  have h : ∀ k : Fin 32, pos (cyc k.val) = k.val := by decide +kernel
  exact h ⟨k % 32, Nat.mod_lt _ (by decide)⟩

theorem sh_mod (c : Dev nD) {j k : ℕ} (h : j % 32 = k % 32) : sh c j = sh c k := by
  unfold sh; rw [← cyc_mod, ← cyc_mod (pos c + k)]; congr 1; omega
theorem sh_sh (c : Dev nD) (j k : ℕ) : sh (sh c j) k = sh c (j + k) := by
  unfold sh; rw [pos_cyc, ← cyc_mod, ← cyc_mod (pos c + (j + k))]; congr 1; omega
theorem sh_zero (c : Dev nD) : sh c 0 = c := cyc_pos c
theorem sh_inj (c : Dev nD) {j k : ℕ} (h : sh c j = sh c k) : j % 32 = k % 32 := by
  have := congrArg pos h; unfold sh at this; rw [pos_cyc, pos_cyc] at this; omega
theorem sh_surj (c d : Dev nD) : ∃ k, k < 32 ∧ sh c k = d := by
  refine ⟨(pos d + (32 - pos c)) % 32, Nat.mod_lt _ (by decide), ?_⟩
  unfold sh; rw [← cyc_mod]
  have := pos_lt c; have := pos_lt d
  rw [show (pos c + (pos d + (32 - pos c)) % 32) % 32 = pos d from by omega, cyc_pos]

theorem prv_nxt (c : Dev nD) : prv (nxt c) = c := by
  unfold prv nxt; rw [sh_sh, sh_mod c (k := 0) (by decide), sh_zero]
theorem nxt_prv (c : Dev nD) : nxt (prv c) = c := by
  unfold prv nxt; rw [sh_sh, sh_mod c (k := 0) (by decide), sh_zero]
theorem sh_nxt (c : Dev nD) (k : ℕ) : sh (nxt c) k = sh c (k + 1) := by unfold nxt; rw [sh_sh]; congr 1; omega
theorem sh_prv (c : Dev nD) (k : ℕ) : sh (prv c) k = sh c (k + 31) := by unfold prv; rw [sh_sh]; congr 1; omega
theorem nxt_ne_prv (c : Dev nD) : nxt c ≠ prv c := fun h => absurd (sh_inj c h) (by decide)
/-- The ring as a permutation of the devices. -/
def ring : Dev nD ≃ Dev nD := ⟨nxt, prv, prv_nxt, nxt_prv⟩

/-! ## What the words are -/

/-- A device's position word. -/
abbrev pw (c : Dev nD) : BitVec 32 := lit1 c
/-- The cycle table's word at a place. -/
def cw32 (k : ℕ) : BitVec 32 := lit0 ⟨k % 32, Nat.mod_lt _ (by decide)⟩

theorem cw32_eq (k : ℕ) : cw32 k = BitVec.ofNat 32 (cyc k).val := by
  have h : ∀ k : Fin 32, cw32 k.val = BitVec.ofNat 32 (cyc k.val).val := by decide +kernel
  have h2 := h ⟨k % 32, Nat.mod_lt _ (by decide)⟩
  rw [← cyc_mod, ← h2]; unfold cw32; simp only [Nat.mod_mod]

theorem chk1 (c : Dev nD) : k0_chk1 (pw c) := by revert c; decide +kernel
theorem chk2 (c : Dev nD) : k0_chk2 (BitVec.ofNat 32 c.val) := by revert c; decide +kernel
theorem chk3 (c : Dev nD) : k0_chk3 (BitVec.ofNat 32 c.val) := by revert c; decide +kernel
theorem chk4 (c : Dev nD) : k0_chk4 (BitVec.ofNat 32 c.val) := by revert c; decide +kernel
theorem chk11 (c : Dev nD) : k0_chk11 (BitVec.ofNat 32 c.val) := by revert c; decide +kernel
theorem dev1 (c : Dev nD) : k0_dev1 (BitVec.ofNat 32 c.val) = c.val := by revert c; decide +kernel
theorem dev2 (c : Dev nD) : k0_dev2 (BitVec.ofNat 32 c.val) = c.val := by revert c; decide +kernel

/-- The corner of a device's block of rows. -/
def blkO (c : Dev nD) : Fin 2 → ℕ := ![256 * c.val, 0]
theorem off4 (c : Dev nD) : k0_off4 c = blkO c := by
  have h : ∀ c : Fin 32, ∀ a : Fin 2, k0_off4 c a = blkO c a := by decide +kernel
  exact funext (h c)
theorem off33 (c : Dev nD) : k0_off33 c = blkO c := by
  have h : ∀ c : Fin 32, ∀ a : Fin 2, k0_off33 c a = blkO c a := by decide +kernel
  exact funext (h c)
theorem off6 (c : Dev nD) : k0_off6 (BitVec.ofNat 32 c.val) = blkO c := by
  have h : ∀ c : Fin 32, ∀ a : Fin 2, k0_off6 (BitVec.ofNat 32 c.val) a = blkO c a := by decide +kernel
  exact funext (h c)
theorem off20 (c : Dev nD) : k0_off20 (BitVec.ofNat 32 c.val) = blkO c := by
  have h : ∀ c : Fin 32, ∀ a : Fin 2, k0_off20 (BitVec.ofNat 32 c.val) a = blkO c a := by decide +kernel
  exact funext (h c)

/-- The table's word read at an offset is the device `k` places after `c`. -/
def At (o : Fin 1 → ℕ) (c : Dev nD) (k : ℕ) : Prop := o 0 = (pos c + k) % 32

theorem off1 (c : Dev nD) : k0_off1 c 0 = c.val := by revert c; decide +kernel
theorem off2 (c : Dev nD) : At (k0_off2 (pw c)) c 1 := by revert c; unfold At; decide +kernel
theorem off3 (c : Dev nD) : At (k0_off3 (pw c)) c 31 := by revert c; unfold At; decide +kernel
theorem off5 (c : Dev nD) (t : Fin 7) : At (k0_off5 (pw c) t) c (31 - 2 * t.val) := by revert c t; unfold At; decide +kernel
theorem off7 (c : Dev nD) (t : Fin 7) : At (k0_off7 (pw c) t) c (1 + 2 * t.val) := by revert c t; unfold At; decide +kernel
theorem off9 (c : Dev nD) (t : Fin 7) : At (k0_off9 (pw c) t) c (30 - 2 * t.val) := by revert c t; unfold At; decide +kernel
theorem off11 (c : Dev nD) (t : Fin 7) : At (k0_off11 (pw c) t) c (2 + 2 * t.val) := by revert c t; unfold At; decide +kernel
theorem off13 (c : Dev nD) : At (k0_off13 (pw c)) c 17 := by revert c; unfold At; decide +kernel
theorem off15 (c : Dev nD) : At (k0_off15 (pw c)) c 15 := by revert c; unfold At; decide +kernel
theorem off17 (c : Dev nD) : At (k0_off17 (pw c)) c 16 := by revert c; unfold At; decide +kernel
theorem off19 (c : Dev nD) : At (k0_off19 (pw c)) c 16 := by revert c; unfold At; decide +kernel
theorem off21 (c : Dev nD) : At (k0_off21 (pw c)) c 17 := by revert c; unfold At; decide +kernel
theorem off23 (c : Dev nD) (t : Fin 7) : At (k0_off23 (pw c) t) c (15 - 2 * t.val) := by revert c t; unfold At; decide +kernel
theorem off25 (c : Dev nD) (t : Fin 7) : At (k0_off25 (pw c) t) c (18 + 2 * t.val) := by revert c t; unfold At; decide +kernel
theorem off27 (c : Dev nD) (t : Fin 7) : At (k0_off27 (pw c) t) c (14 - 2 * t.val) := by revert c t; unfold At; decide +kernel
theorem off29 (c : Dev nD) (t : Fin 7) : At (k0_off29 (pw c) t) c (19 + 2 * t.val) := by revert c t; unfold At; decide +kernel
theorem off31 (c : Dev nD) : At (k0_off31 (pw c)) c 1 := by revert c; unfold At; decide +kernel

end Cert.KernelIdeal.Hand

end
-- ==== Proof.Ideal.Common.lean ====
/-
  The protocol of the two rings: its cells, what each duty of a round hands over, what every device owes, and the order of
  the waits. A phase `P` of seven is an all-gather (even) or a reduce-scatter (odd) of sixteen steps; step `h` of phase `P`
  is number `16 P + h` of the whole run, and its units stand at the indices `2 (16 P + h) + 2` (the handshake) and
  `2 (16 P + h) + 3` (the copies).
-/
module

public import proofs.«01_k».proof.Proof.Ideal.Ring
public import Idealize.ShloMosaic.Lib.Pipeline.Launch
public import Idealize.ShloMosaic.Lib.Rounds.Family
public import Idealize.ShloMosaic.Lib.Tactic

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources -/

/-- The pipeline's rounds, and the rings' with their duties named by a truth value (the barrier's round has two). -/
abbrev URP (nD : Nat) (τ : Topo) : Type := URounds (GSem nD τ sig) Unit
abbrev URR (nD : Nat) (τ : Topo) : Type := URounds (GSem nD τ sig) Bool
abbrev UU (nD : Nat) (τ : Topo) : Type := URP nD τ × URR nD τ

local notation "𝕄" => MT nD τ sig ℕ (Elt F) ℕ (UU nD τ) ℕ

def EP : Emb (URP nD τ) (MT nD τ sig ℕ (Elt F) ℕ (UU nD τ) ℕ) :=
  (Emb.inl : Emb (URP nD τ) (UU nD τ)).trans (uEmb (nD := nD) (sig := sig) (Ix := ℕ) (Val := Elt F) (Name := ℕ) (U := UU nD τ) (Lvl := ℕ)).toEmb
def ER : Emb (URR nD τ) (MT nD τ sig ℕ (Elt F) ℕ (UU nD τ) ℕ) :=
  (Emb.inr : Emb (URR nD τ) (UU nD τ)).trans (uEmb (nD := nD) (sig := sig) (Ix := ℕ) (Val := Elt F) (Name := ℕ) (U := UU nD τ) (Lvl := ℕ)).toEmb
instance EP_landsIn : (EP : Emb (URP nD τ) 𝕄).LandsIn (upEmb : UEmb _ 𝕄) := by unfold EP; infer_instance
instance ER_landsIn : (ER : Emb (URR nD τ) 𝕄).LandsIn (upEmb : UEmb _ 𝕄) := by unfold ER; infer_instance

/-! ## The cells -/

/-- The eleven semaphores of the protocol. -/
inductive K
  | bar | fcw | fccw
  | rcw (b : Bool) | rccw (b : Bool) | scw (b : Bool) | sccw (b : Bool)
deriving DecidableEq

def semOf : K → SemLoc sig
  | .bar => .reg barS
  | .fcw => .reg fCw
  | .fccw => .reg fCcw
  | .rcw b => .dma (rCw b)
  | .rccw b => .dma (rCcw b)
  | .scw b => .dma (sCw b)
  | .sccw b => .dma (sCcw b)

def allK : List K := [.bar, .fcw, .fccw, .rcw false, .rcw true, .rccw false, .rccw true, .scw false, .scw true, .sccw false, .sccw true]

def kindOf (s : SemLoc sig) : Option K := allK.find? fun k => decide (semOf k = s)

theorem kindOf_semOf (k : K) : kindOf (semOf k) = some k := by
  rcases k with _ | _ | _ | b | b | b | b <;> first | decide +kernel | (cases b <;> decide +kernel)

theorem semOf_inj {k k' : K} (h : semOf k = semOf k') : k = k' := by
  have := congrArg kindOf h; rw [kindOf_semOf, kindOf_semOf] at this; exact Option.some.inj this

/-- A device's cell. -/
abbrev cell (c : Dev nD) (k : K) : GSem nD τ sig := ((c : Thread nD τ), semOf k)

/-! ## Rounds and steps -/

/-- Whether a step's number is odd: the slot it sends from. -/
def odd (h : ℕ) : Bool := decide (h % 2 = 1)

/-- How many rounds a cell has. -/
def nRounds : K → ℕ
  | .bar => 1
  | .fcw => 112
  | .fccw => 105
  | .rcw _ => 56
  | .scw _ => 56
  | .rccw b => cond b 56 49
  | .sccw b => cond b 49 56

/-- The round a cell is at before step `h` of phase `P`. -/
def rnd : K → ℕ → ℕ → ℕ
  | .bar, _, _ => 1
  | .fcw, P, h => 16 * P + h
  | .fccw, P, h => 15 * P + min h 15
  | .rcw b, P, h => 8 * P + (h + b.toNat) / 2
  | .scw b, P, h => 8 * P + (h + (!b).toNat) / 2
  | .rccw b, P, h => cond b 8 7 * P + (min h 15 + b.toNat) / 2
  | .sccw b, P, h => cond b 7 8 * P + (min h 15 + (!b).toNat) / 2

/-- The phase and the step of a round of a cell. -/
def dec : K → ℕ → ℕ × ℕ
  | .bar, _ => (0, 0)
  | .fcw, R => (R / 16, R % 16)
  | .fccw, R => (R / 15, R % 15)
  | .rcw b, R => (R / 8, 2 * (R % 8) + (!b).toNat)
  | .scw b, R => (R / 8, 2 * (R % 8) + b.toNat)
  | .rccw b, R => (R / cond b 8 7, 2 * (R % cond b 8 7) + (!b).toNat)
  | .sccw b, R => (R / cond b 7 8, 2 * (R % cond b 7 8) + b.toNat)

theorem dec_fcw {P h : ℕ} (hh : h < 16) : dec .fcw (rnd .fcw P h) = (P, h) := by
  simp only [dec, rnd, Prod.mk.injEq]; omega
theorem dec_fccw {P h : ℕ} (hh : h < 15) : dec .fccw (rnd .fccw P h) = (P, h) := by
  simp only [dec, rnd, Prod.mk.injEq]; omega
theorem dec_rcw {P h : ℕ} (hh : h < 16) : dec (.rcw (!odd h)) (rnd (.rcw (!odd h)) P h) = (P, h) := by
  rcases Nat.mod_two_eq_zero_or_one h with h2 | h2 <;> simp [dec, rnd, odd, h2] <;> omega
theorem dec_scw {P h : ℕ} (hh : h < 16) : dec (.scw (odd h)) (rnd (.scw (odd h)) P h) = (P, h) := by
  rcases Nat.mod_two_eq_zero_or_one h with h2 | h2 <;> simp [dec, rnd, odd, h2] <;> omega
theorem dec_rccw {P h : ℕ} (hh : h < 15) : dec (.rccw (!odd h)) (rnd (.rccw (!odd h)) P h) = (P, h) := by
  rcases Nat.mod_two_eq_zero_or_one h with h2 | h2 <;> simp [dec, rnd, odd, h2] <;> omega
theorem dec_sccw {P h : ℕ} (hh : h < 15) : dec (.sccw (odd h)) (rnd (.sccw (odd h)) P h) = (P, h) := by
  rcases Nat.mod_two_eq_zero_or_one h with h2 | h2 <;> simp [dec, rnd, odd, h2] <;> omega

/-! ## The values -/

/-- The inputs of every device. -/
structure Inp (F : FTy → Type) where
  x : Dev nD → Vec F S256x256 .bf16
  win : ℕ → Dev nD → Vec F S256x512 .bf16
  wout : ℕ → Dev nD → Vec F S512x256 .bf16

theorem blk_lt {i j : ℕ} (hi : i < 32) (hj : j < 256) : 256 * i + j < 8192 := by omega

/-- An index of a device's block of rows, in the whole. -/
def blkIdx (d : Dev nD) (i : S256x256.Idx) : S8192x256.Idx :=
  Fin.cons (⟨256 * d.val + (i 0).val, blk_lt d.isLt (i 0).isLt⟩ : Fin 8192) (Fin.cons (⟨(i 1).val, (i 1).isLt⟩ : Fin 256) finZeroElim)
/-- A device's block of rows. -/
def blk {α : Type} (f : S8192x256.Idx → α) (d : Dev nD) : S256x256.Idx → α := fun i => f (blkIdx d i)

/-- The device and the index in its block of an index of the whole. -/
def ownerOf (j : S8192x256.Idx) : Dev nD := ⟨(j 0).val / 256, Nat.div_lt_of_lt_mul (j 0).isLt⟩
def inBlk (j : S8192x256.Idx) : S256x256.Idx :=
  Fin.cons (⟨(j 0).val % 256, Nat.mod_lt _ (by decide)⟩ : Fin 256) (Fin.cons (⟨(j 1).val, (j 1).isLt⟩ : Fin 256) finZeroElim)
theorem blkIdx_inBlk (j : S8192x256.Idx) : blkIdx (ownerOf j) (inBlk j) = j := by
  funext a; refine Fin.ext ?_
  match a with
  | 0 => exact Nat.div_add_mod (j 0).val 256
  | 1 => rfl
theorem ownerOf_blkIdx (d : Dev nD) (i : S256x256.Idx) : ownerOf (blkIdx d i) = d := by
  refine Fin.ext ?_
  have h : (i 0).val < 256 := (i 0).isLt
  show (256 * d.val + (i 0).val) / 256 = d.val
  omega
theorem inBlk_blkIdx (d : Dev nD) (i : S256x256.Idx) : inBlk (blkIdx d i) = i := by
  funext a; refine Fin.ext ?_
  have h : (i 0).val < 256 := (i 0).isLt
  match a with
  | 0 => show (256 * d.val + (i 0).val) % 256 = (i 0).val; omega
  | 1 => rfl

/-- The whole of all the blocks. -/
def asm {α : Type} (X : Dev nD → S256x256.Idx → α) : S8192x256.Idx → α := fun j => X (ownerOf j) (inBlk j)
theorem blk_asm {α : Type} (X : Dev nD → S256x256.Idx → α) (d : Dev nD) : blk (asm X) d = X d := by
  funext i; unfold blk asm; rw [ownerOf_blkIdx, inBlk_blkIdx]
theorem eq_asm {α : Type} {f : S8192x256.Idx → α} {X : Dev nD → S256x256.Idx → α} (h : ∀ d, blk f d = X d) : f = asm X := by
  funext j; unfold asm; rw [← h]; unfold blk; rw [blkIdx_inBlk]

/-- An index of a thousand and twenty-four rows, in the whole, and back. -/
def chIdx (k : Fin 8) (i : S1024x256.Idx) : S8192x256.Idx :=
  Fin.cons (⟨1024 * k.val + (i 0).val, by have : (i 0).val < 1024 := (i 0).isLt; omega⟩ : Fin 8192) (Fin.cons (⟨(i 1).val, (i 1).isLt⟩ : Fin 256) finZeroElim)
def chOf (j : S8192x256.Idx) : Fin 8 := ⟨(j 0).val / 1024, Nat.div_lt_of_lt_mul (j 0).isLt⟩
def inCh (j : S8192x256.Idx) : S1024x256.Idx :=
  Fin.cons (⟨(j 0).val % 1024, Nat.mod_lt _ (by decide)⟩ : Fin 1024) (Fin.cons (⟨(j 1).val, (j 1).isLt⟩ : Fin 256) finZeroElim)

/-- A device's partial product of a layer. -/
def part (w : Vec F S256x512 .bf16) (u : Vec F S512x256 .bf16) (x : Vec F S8192x256 .bf16) : Vec F S8192x256 .f32 :=
  fun j => k0_pay33 w u (fun i => x (chIdx (chOf j) i)) (inCh j)

/-- What a clockwise slot holds when step `h` of a reduce-scatter begins: the partial sums gathered on the way. -/
def cwV (p : Dev nD → Vec F S8192x256 .f32) : ℕ → Dev nD → Vec F S256x256 .f32
  | 0, c => k0_pay42 (blk (p c) (sh c 16))
  | h + 1, c => k0_pay5 (cwV p h (prv c)) (blk (p c) (sh c (47 - h)))
/-- The same of the other ring. -/
def ccwV (p : Dev nD → Vec F S8192x256 .f32) : ℕ → Dev nD → Vec F S256x256 .f32
  | 0, c => k0_pay42 (blk (p c) (sh c 17))
  | h + 1, c => k0_pay5 (ccwV p h (nxt c)) (blk (p c) (sh c (18 + h)))
/-- A device's block of the next layer's input. -/
def sumV (p : Dev nD → Vec F S8192x256 .f32) (c : Dev nD) : Vec F S256x256 .bf16 :=
  k0_pay47 (cwV p 15 (prv c)) (ccwV p 14 (nxt c)) (blk (p c) c)

namespace Inp
variable (I : Inp F)
/-- The layers' inputs, by block. -/
def X : ℕ → Dev nD → Vec F S256x256 .bf16
  | 0 => fun c => k0_pay24 (I.x c)
  | l + 1 => sumV fun c => part (I.win l c) (I.wout l c) (asm (X l))
/-- The layers' partial products. -/
def prt (l : ℕ) (c : Dev nD) : Vec F S8192x256 .f32 := part (I.win l c) (I.wout l c) (asm (I.X l))
theorem X_succ (l : ℕ) : I.X (l + 1) = sumV (I.prt l) := rfl
end Inp

/-! ## Slots -/

/-- A slot of a device's buffer, holding a value; holding anything. -/
def slotPts {t : EltTy} (m : Memref sig .tc .vmem S512x256 t) (c : Dev nD) (b : Bool) (v : Vec F S256x256 t) : sProp 𝕄 :=
  iprop(∃ f : Buf (Elt F) ((slot m b).view.loc (c : Thread nD τ)), ⌜(slot m b).view.read (Elt F) f = v⌝
    ∗ ((slot m b).view.loc (c : Thread nD τ) ↦[(slot m b).view.set]{fullShare} f))
def slotAny {t : EltTy} (m : Memref sig .tc .vmem S512x256 t) (c : Dev nD) (b : Bool) : sProp 𝕄 :=
  iprop(∃ f : Buf (Elt F) ((slot m b).view.loc (c : Thread nD τ)), ((slot m b).view.loc (c : Thread nD τ) ↦[(slot m b).view.set]{fullShare} f))

omit [FloatOps F] in
theorem slot_any {t : EltTy} (m : Memref sig .tc .vmem S512x256 t) (c : Dev nD) (b : Bool) (v : Vec F S256x256 t) :
    (slotPts m c b v : sProp 𝕄) ⊢ slotAny m c b := by
  unfold slotPts slotAny; iintro ⟨%f, -, H⟩; iexists f; iexact H

/-- A phase's slots: its clockwise and its counter-clockwise ring's. -/
def cwAny (P : ℕ) (c : Dev nD) (b : Bool) : sProp 𝕄 := if P % 2 = 0 then slotAny agCw c b else slotAny rsCw c b
def ccwAny (P : ℕ) (c : Dev nD) (b : Bool) : sProp 𝕄 := if P % 2 = 0 then slotAny agCcw c b else slotAny rsCcw c b

variable (I : Inp F)
/-- What a device's slot holds once step `h`'s copy has landed. -/
def cwHas (P h : ℕ) (c : Dev nD) (b : Bool) : sProp 𝕄 :=
  if P % 2 = 0 then slotPts agCw c b (I.X (P / 2) (sh c (31 - h))) else slotPts rsCw c b (cwV (I.prt (P / 2)) h (prv c))
def ccwHas (P h : ℕ) (c : Dev nD) (b : Bool) : sProp 𝕄 :=
  if P % 2 = 0 then slotPts agCcw c b (I.X (P / 2) (sh c (h + 1))) else slotPts rsCcw c b (ccwV (I.prt (P / 2)) h (nxt c))

/-! ## The schedule -/

/-- What a copy of a slot credits, in either element type. -/
def nB : ℕ := (slot agCw false).view.dmaCredit
def nF : ℕ := (slot rsCw false).view.dmaCredit
theorem nB_pos : 0 < nB := View.dmaCredit_pos _ (by decide)
theorem nF_pos : 0 < nF := View.dmaCredit_pos _ (by decide)
def amt (P : ℕ) : ℕ := if P % 2 = 0 then nB else nF
theorem amt_pos (P : ℕ) : 0 < amt P := by unfold amt; split; exact nB_pos; exact nF_pos

def kAmount (k : K) (R : ℕ) : ℕ :=
  match k with
  | .bar => 1
  | .fcw => 1
  | .fccw => 1
  | k => amt (dec k R).1

def kDuties (k : K) (R : ℕ) : Finset Bool := if R < nRounds k then (if k = .bar then {false, true} else {false}) else ∅

def kPay (k : K) (c : Dev nD) (R : ℕ) (d : Bool) : sProp 𝕄 :=
  match k with
  | .bar => if d then reached ER (cell (prv c) .fcw) 0 else reached ER (cell (nxt c) .fccw) 0
  | .fcw => iprop(cwAny (dec .fcw R).1 (nxt c) (!odd (dec .fcw R).2)
      ∗ reached ER (cell (nxt c) (.rcw (!odd (dec .fcw R).2))) (rnd (.rcw (!odd (dec .fcw R).2)) (dec .fcw R).1 (dec .fcw R).2))
  | .fccw => iprop(ccwAny (dec .fccw R).1 (prv c) (!odd (dec .fccw R).2)
      ∗ reached ER (cell (prv c) (.rccw (!odd (dec .fccw R).2))) (rnd (.rccw (!odd (dec .fccw R).2)) (dec .fccw R).1 (dec .fccw R).2))
  | .rcw b => iprop(cwHas I (dec (.rcw b) R).1 (dec (.rcw b) R).2 c b
      ∗ reached ER (cell (prv c) .fcw) (rnd .fcw (dec (.rcw b) R).1 ((dec (.rcw b) R).2 + 1)))
  | .rccw b => iprop(ccwHas I (dec (.rccw b) R).1 (dec (.rccw b) R).2 c b
      ∗ reached ER (cell (nxt c) .fccw) (rnd .fccw (dec (.rccw b) R).1 ((dec (.rccw b) R).2 + 1)))
  | .scw b => cwAny (dec (.scw b) R).1 c b
  | .sccw b => ccwAny (dec (.sccw b) R).1 c b

instance slotPts_storable {t : EltTy} (m : Memref sig .tc .vmem S512x256 t) (c : Dev nD) (b : Bool) (v : Vec F S256x256 t) :
    BI.Storable (upEmb : UEmb _ 𝕄) (slotPts m c b v : sProp 𝕄) := by unfold slotPts; infer_instance
instance slotAny_storable {t : EltTy} (m : Memref sig .tc .vmem S512x256 t) (c : Dev nD) (b : Bool) :
    BI.Storable (upEmb : UEmb _ 𝕄) (slotAny m c b : sProp 𝕄) := by unfold slotAny; infer_instance
instance cwAny_storable (P : ℕ) (c : Dev nD) (b : Bool) : BI.Storable (upEmb : UEmb _ 𝕄) (cwAny P c b : sProp 𝕄) := by
  unfold cwAny; split <;> infer_instance
instance ccwAny_storable (P : ℕ) (c : Dev nD) (b : Bool) : BI.Storable (upEmb : UEmb _ 𝕄) (ccwAny P c b : sProp 𝕄) := by
  unfold ccwAny; split <;> infer_instance
instance cwHas_storable (P h : ℕ) (c : Dev nD) (b : Bool) : BI.Storable (upEmb : UEmb _ 𝕄) (cwHas I P h c b : sProp 𝕄) := by
  unfold cwHas; split <;> infer_instance
instance ccwHas_storable (P h : ℕ) (c : Dev nD) (b : Bool) : BI.Storable (upEmb : UEmb _ 𝕄) (ccwHas I P h c b : sProp 𝕄) := by
  unfold ccwHas; split <;> infer_instance
instance kPay_storable (k : K) (c : Dev nD) (R : ℕ) (d : Bool) : BI.Storable (upEmb : UEmb _ 𝕄) (kPay I k c R d : sProp 𝕄) := by
  unfold kPay; cases k <;> dsimp only <;> first | infer_instance | (split <;> infer_instance)

def sched : Rounds.Schedule (GSem nD τ sig) Bool 𝕄 where
  duties g R := if g.1.2 = .tc then (match kindOf g.2 with | some k => kDuties k R | none => ∅) else ∅
  amount g R _ := match kindOf g.2 with | some k => kAmount k R | none => 1
  payload g R d := match kindOf g.2 with | some k => kPay I k g.1.1 R d | none => iprop(emp)
  amount_pos g R d _ := by
    split
    · next k _ => unfold kAmount; cases k <;> first | exact Nat.one_pos | exact amt_pos _
    · exact Nat.one_pos

instance sched_storable (g : GSem nD τ sig) (r : ℕ) (d : Bool) : BI.Storable (upEmb : UEmb _ 𝕄) ((sched I).payload g r d) := by
  dsimp only [sched]; split <;> infer_instance

theorem duties_eq (c : Dev nD) (k : K) (R : ℕ) : (sched I).duties (cell c k) R = kDuties k R := by
  dsimp only [sched]; rw [if_pos rfl, kindOf_semOf]
theorem amount_eq (c : Dev nD) (k : K) (R : ℕ) (d : Bool) : (sched I).amount (cell c k) R d = kAmount k R := by
  dsimp only [sched]; rw [kindOf_semOf]
theorem payload_eq (c : Dev nD) (k : K) (R : ℕ) (d : Bool) : (sched I).payload (cell c k) R d = kPay I k c R d := by
  dsimp only [sched]; rw [kindOf_semOf]
theorem duties_late (c : Dev nD) (k : K) {R : ℕ} (h : nRounds k ≤ R) : (sched I).duties (cell c k) R = ∅ := by
  rw [duties_eq]; unfold kDuties; rw [if_neg (by omega)]

/-- A cell of one duty a round: not the barrier. -/
theorem duties_one (c : Dev nD) {k : K} (hk : k ≠ .bar) {R : ℕ} (h : R < nRounds k) : (sched I).duties (cell c k) R = {false} := by
  rw [duties_eq]; unfold kDuties; rw [if_pos h, if_neg hk]
theorem mem_one (c : Dev nD) {k : K} (hk : k ≠ .bar) {R : ℕ} (h : R < nRounds k) : false ∈ (sched I).duties (cell c k) R := by
  rw [duties_one I c hk h]; exact Finset.mem_singleton_self _
theorem expect_one (c : Dev nD) {k : K} (hk : k ≠ .bar) {R : ℕ} (h : R < nRounds k) : (sched I).expect (cell c k) R = kAmount k R := by
  unfold Schedule.expect Schedule.amountOf; rw [duties_one I c hk h, Finset.sum_singleton, amount_eq]
theorem rest_one (c : Dev nD) {k : K} (hk : k ≠ .bar) {R : ℕ} (h : R < nRounds k) :
    bigSep ((sched I).duties (cell c k) R \ ∅) (fun d => (sched I).payload (cell c k) R d) = kPay I k c R false := by
  rw [Finset.sdiff_empty, duties_one I c hk h, bigSep_singleton, payload_eq]
theorem mem_bar (c : Dev nD) (d : Bool) : d ∈ (sched I).duties (cell c .bar) 0 := by
  rw [duties_eq]; cases d <;> decide
theorem expect_bar (c : Dev nD) : (sched I).expect (cell c .bar) 0 = 2 := by
  unfold Schedule.expect Schedule.amountOf; rw [duties_eq]
  show ∑ d ∈ ({false, true} : Finset Bool), _ = 2
  rw [Finset.sum_pair (by decide), amount_eq, amount_eq]; rfl
theorem rest_bar (c : Dev nD) :
    bigSep ((sched I).duties (cell c .bar) 0 \ ∅) (fun d => (sched I).payload (cell c .bar) 0 d)
      = iprop(reached ER (cell (nxt c) .fccw) 0 ∗ reached ER (cell (prv c) .fcw) 0) := by
  rw [Finset.sdiff_empty, duties_eq]
  show bigSep ({false, true} : Finset Bool) _ = _
  rw [bigSep_insert (by decide), bigSep_singleton, payload_eq, payload_eq]; rfl

/-! ## What the devices owe, and the order -/

abbrev fIx (P h : ℕ) : ℕ := 2 * (16 * P + h) + 2
abbrev cIx (P h : ℕ) : ℕ := 2 * (16 * P + h) + 3

def debtCw (c : Dev nD) (P h : ℕ) : CellTallies nD τ sig ℕ :=
  tallyAt (cell (nxt c) (.rcw (!odd h))) (cIx P h) (amt P) + tallyAt (cell (prv c) .fcw) (fIx P h) 1
def debtCcw (c : Dev nD) (P h : ℕ) : CellTallies nD τ sig ℕ :=
  tallyAt (cell (prv c) (.rccw (!odd h))) (cIx P h) (amt P) + tallyAt (cell (nxt c) .fccw) (fIx P h) 1
def hopDebt (c : Dev nD) (H : ℕ) : CellTallies nD τ sig ℕ :=
  debtCw c (H / 16) (H % 16) + (if H % 16 < 15 then debtCcw c (H / 16) (H % 16) else 0)
/-- What a device owes before step `H` of the run. -/
def Owe (c : Dev nD) (H : ℕ) : CellTallies nD τ sig ℕ := ∑ i ∈ Finset.Ico H 112, hopDebt c i
/-- What it owes at launch. -/
def O₀ (c : Dev nD) : CellTallies nD τ sig ℕ :=
  (Owe c 0 + tallyAt (cell (nxt c) .bar) 1 1) + tallyAt (cell (prv c) .bar) 1 1

theorem Owe_succ (c : Dev nD) {H : ℕ} (h : H < 112) : Owe c H = Owe c (H + 1) + hopDebt c H := by
  have e : Finset.Ico H 112 = insert H (Finset.Ico (H + 1) 112) := by
    ext i; simp only [Finset.mem_Ico, Finset.mem_insert]; omega
  unfold Owe; rw [e, Finset.sum_insert (by simp), add_comm]
theorem Owe_last (c : Dev nD) : Owe c 112 = 0 := by unfold Owe; rw [Finset.Ico_self, Finset.sum_empty]

def L (g : GSem nD τ sig) : Finset ℕ := if g.1.2 = .tc then Finset.range 240 else ∅
def lv (_ : GSem nD τ sig) (n : ℕ) : ℕ := n
theorem L_of_ne (g : GSem nD τ sig) (h : g.1.2 ≠ .tc) : L g = ∅ := if_neg h

/-- Everything owed stands at or above an index. -/
def Above (n : ℕ) (O : CellTallies nD τ sig ℕ) : Prop := ∀ g u, 0 < O g u → n ≤ u ∧ u < 240 ∧ g.1.2 = .tc
theorem Above.mono {n n' : ℕ} {O : CellTallies nD τ sig ℕ} (h : Above n O) (hn : n' ≤ n) : Above n' O :=
  fun g u hg => ⟨hn.trans (h g u hg).1, (h g u hg).2⟩
theorem above_zero (n : ℕ) : Above n 0 := fun g u h => absurd h (Nat.lt_irrefl 0)
theorem above_add {n : ℕ} {O O' : CellTallies nD τ sig ℕ} (h : Above n O) (h' : Above n O') : Above n (O + O') := fun g u hg => by
  rw [Pi.add_apply, Finsupp.add_apply] at hg
  rcases Nat.eq_zero_or_pos (O g u) with h0 | h0
  · rw [h0, Nat.zero_add] at hg; exact h' g u hg
  · exact h g u h0
theorem above_tally {n : ℕ} (c : Dev nD) (k : K) {i a : ℕ} (hi : n ≤ i) (hi' : i < 240) : Above n (tallyAt (cell c k) i a) := fun g u hg => by
  rw [tallyAt_apply] at hg
  split at hg
  · next h => obtain ⟨rfl, rfl⟩ := h; exact ⟨hi, hi', rfl⟩
  · exact absurd hg (Nat.lt_irrefl 0)
theorem above_sum {n : ℕ} {s : Finset ℕ} {f : ℕ → CellTallies nD τ sig ℕ} (h : ∀ i ∈ s, Above n (f i)) : Above n (∑ i ∈ s, f i) := by
  induction s using Finset.induction_on with
  | empty => exact above_zero n
  | insert a s ha ih =>
    rw [Finset.sum_insert ha]
    exact above_add (h a (Finset.mem_insert_self _ _)) (ih fun i hi => h i (Finset.mem_insert_of_mem hi))
theorem above_hop (c : Dev nD) {n H : ℕ} (h : n ≤ 2 * H + 2) (hH : H < 112) : Above n (hopDebt c H) := by
  have e : 16 * (H / 16) + H % 16 = H := Nat.div_add_mod H 16
  unfold hopDebt debtCw debtCcw fIx cIx
  refine above_add (above_add (above_tally _ _ (by omega) (by omega)) (above_tally _ _ (by omega) (by omega))) ?_
  split
  · exact above_add (above_tally _ _ (by omega) (by omega)) (above_tally _ _ (by omega) (by omega))
  · exact above_zero n
theorem above_owe (c : Dev nD) {n H : ℕ} (h : n ≤ 2 * H + 2) : Above n (Owe c H) :=
  above_sum fun i hi => above_hop c (by have := (Finset.mem_Ico.mp hi).1; omega) (Finset.mem_Ico.mp hi).2

omit [FloatOps F] in
/-- A device may wait at an index below everything it owes. -/
theorem mayWait (c : Dev nD) (sm : SemLoc sig) {n : ℕ} {O : CellTallies nD τ sig ℕ} (h : Above (n + 1) O) (hn : n < 240) :
    (levAts L lv : sProp 𝕄) ⊢ MayWait (c : Thread nD τ) sm n O :=
  MayOwe.of_cut (L := L) (lev := lv) n
    (fun p hp => by rw [Finset.mem_singleton.mp hp]; unfold L; rw [if_pos rfl]; exact Finset.mem_range.mpr hn)
    (fun g u hg => by unfold L; rw [if_pos (h g u hg).2.2]; exact Finset.mem_range.mpr (h g u hg).2.1)
    (fun p hp => by rw [Finset.mem_singleton.mp hp]; exact le_refl n)
    (fun g u hg => (h g u hg).1)

end Cert.KernelIdeal.Hand

end
-- ==== Proof.Ideal.Dir.lean ====
/-
  The two directions of the ring under one name (`true` is the clockwise one), and what a step's rounds hand over in either.
-/
module

public import proofs.«01_k».proof.Proof.Ideal.Common

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ (UU nD τ) ℕ

/-! ## Directions -/

def Kf (d : Bool) : K := if d then .fcw else .fccw
def Kr (d b : Bool) : K := if d then .rcw b else .rccw b
def Ks (d b : Bool) : K := if d then .scw b else .sccw b
def fSem (d : Bool) : Sem sig := if d then fCw else fCcw
def rSem (d b : Bool) : DmaSem sig := if d then rCw b else rCcw b
def sSem (d b : Bool) : DmaSem sig := if d then sCw b else sCcw b
/-- The device a direction's copies go to, and the one they come from. -/
def up (d : Bool) (c : Dev nD) : Dev nD := if d then nxt c else prv c
def dn (d : Bool) (c : Dev nD) : Dev nD := if d then prv c else nxt c
def lim (d : Bool) : ℕ := if d then 16 else 15
def dAny (d : Bool) (P : ℕ) (c : Dev nD) (b : Bool) : sProp 𝕄 := if d then cwAny P c b else ccwAny P c b
def dHas (I : Inp F) (d : Bool) (P h : ℕ) (c : Dev nD) (b : Bool) : sProp 𝕄 := if d then cwHas I P h c b else ccwHas I P h c b

theorem dn_up (d : Bool) (c : Dev nD) : dn d (up d c) = c := by
  cases d
  · simp only [up, dn, Bool.false_eq_true, if_false, nxt_prv]
  · simp only [up, dn, if_true, prv_nxt]
theorem up_dn (d : Bool) (c : Dev nD) : up d (dn d c) = c := by
  cases d
  · simp only [up, dn, Bool.false_eq_true, if_false, prv_nxt]
  · simp only [up, dn, if_true, nxt_prv]
theorem semOf_Kf (d : Bool) : semOf (Kf d) = .reg (fSem d) := by cases d <;> rfl
theorem semOf_Kr (d b : Bool) : semOf (Kr d b) = .dma (rSem d b) := by cases d <;> rfl
theorem semOf_Ks (d b : Bool) : semOf (Ks d b) = .dma (sSem d b) := by cases d <;> rfl
theorem Kf_ne (d : Bool) : Kf d ≠ .bar := by cases d <;> decide
theorem Kr_ne (d b : Bool) : Kr d b ≠ .bar := by cases d <;> simp [Kr]
theorem Ks_ne (d b : Bool) : Ks d b ≠ .bar := by cases d <;> simp [Ks]

variable (I : Inp F)

section Facts
variable {d : Bool} {P h : ℕ} (hP : P < 7) (hh : h < lim d)
include hP hh

theorem rnd_lt_f : rnd (Kf d) P h < nRounds (Kf d) := by
  cases d <;> simp [Kf, lim, rnd, nRounds] at hh ⊢ <;> omega
theorem rnd_lt_r : rnd (Kr d (!odd h)) P h < nRounds (Kr d (!odd h)) := by
  rcases Nat.mod_two_eq_zero_or_one h with h2 | h2 <;> cases d <;> simp [Kr, lim, rnd, nRounds, odd, h2] at hh ⊢ <;> omega
theorem rnd_lt_s : rnd (Ks d (odd h)) P h < nRounds (Ks d (odd h)) := by
  rcases Nat.mod_two_eq_zero_or_one h with h2 | h2 <;> cases d <;> simp [Ks, lim, rnd, nRounds, odd, h2] at hh ⊢ <;> omega
omit hP
theorem rnd_succ_f : rnd (Kf d) P (h + 1) = rnd (Kf d) P h + 1 := by
  cases d <;> simp [Kf, lim, rnd] at hh ⊢ <;> omega
theorem rnd_succ_r : rnd (Kr d (!odd h)) P (h + 1) = rnd (Kr d (!odd h)) P h + 1 := by
  rcases Nat.mod_two_eq_zero_or_one h with h2 | h2 <;> cases d <;> simp [Kr, lim, rnd, odd, h2] at hh ⊢ <;> omega
theorem rnd_succ_s : rnd (Ks d (odd h)) P (h + 1) = rnd (Ks d (odd h)) P h + 1 := by
  rcases Nat.mod_two_eq_zero_or_one h with h2 | h2 <;> cases d <;> simp [Ks, lim, rnd, odd, h2] at hh ⊢ <;> omega
theorem rnd_same_r : rnd (Kr d (odd h)) P (h + 1) = rnd (Kr d (odd h)) P h := by
  rcases Nat.mod_two_eq_zero_or_one h with h2 | h2 <;> cases d <;> simp [Kr, lim, rnd, odd, h2] at hh ⊢ <;> omega
theorem rnd_same_s : rnd (Ks d (!odd h)) P (h + 1) = rnd (Ks d (!odd h)) P h := by
  rcases Nat.mod_two_eq_zero_or_one h with h2 | h2 <;> cases d <;> simp [Ks, lim, rnd, odd, h2] at hh ⊢ <;> omega

theorem pay_f (c : Dev nD) : kPay I (Kf d) c (rnd (Kf d) P h) false
    = iprop(dAny d P (up d c) (!odd h) ∗ reached ER (cell (up d c) (Kr d (!odd h))) (rnd (Kr d (!odd h)) P h)) := by
  cases d
  · simp only [Kf, Kr, dAny, up, kPay, Bool.false_eq_true, if_false]; rw [dec_fccw hh]
  · simp only [Kf, Kr, dAny, up, kPay, if_true]; rw [dec_fcw hh]
theorem pay_r (c : Dev nD) : kPay I (Kr d (!odd h)) c (rnd (Kr d (!odd h)) P h) false
    = iprop(dHas I d P h c (!odd h) ∗ reached ER (cell (dn d c) (Kf d)) (rnd (Kf d) P (h + 1))) := by
  cases d
  · simp only [Kf, Kr, dHas, dn, kPay, Bool.false_eq_true, if_false]; rw [dec_rccw hh]
  · simp only [Kf, Kr, dHas, dn, kPay, if_true]; rw [dec_rcw hh]
theorem pay_s (c : Dev nD) : kPay I (Ks d (odd h)) c (rnd (Ks d (odd h)) P h) false = dAny d P c (odd h) := by
  cases d
  · simp only [Ks, dAny, kPay, Bool.false_eq_true, if_false]; rw [dec_sccw hh]
  · simp only [Ks, dAny, kPay, if_true]; rw [dec_scw hh]
omit [FloatOps F] in
theorem kam_f : kAmount (Kf d) (rnd (Kf d) P h) = 1 := by cases d <;> rfl
theorem kam_r : kAmount (Kr d (!odd h)) (rnd (Kr d (!odd h)) P h) = amt P := by
  cases d
  · simp only [Kr, kAmount, Bool.false_eq_true, if_false]; rw [dec_rccw hh]
  · simp only [Kr, kAmount, if_true]; rw [dec_rcw hh]
theorem kam_s : kAmount (Ks d (odd h)) (rnd (Ks d (odd h)) P h) = amt P := by
  cases d
  · simp only [Ks, kAmount, Bool.false_eq_true, if_false]; rw [dec_sccw hh]
  · simp only [Ks, kAmount, if_true]; rw [dec_scw hh]
end Facts

/-! ## What every device knows -/

instance K_fintype : Fintype K := ⟨allK.toFinset, fun k => by rcases k with _ | _ | _ | b | b | b | b <;> first | decide | (cases b <;> decide)⟩

def cells : Finset (GSem nD τ sig) := Finset.univ.image fun x : Dev nD × K => cell x.1 x.2
theorem cell_mem (c : Dev nD) (k : K) : cell c k ∈ cells := Finset.mem_image.mpr ⟨(c, k), Finset.mem_univ _, rfl⟩

/-- Every cell's invariant and the levels. -/
def ctx (κ : GSem nD τ sig → ℕ) : sProp 𝕄 := iprop(bigSep cells (fun g => cellInv ER (sched I) (κ g) g) ∗ levAts L lv)
instance ctx_persistent (κ : GSem nD τ sig → ℕ) : BI.Persistent (ctx I κ) := by unfold ctx; infer_instance

variable (κ : GSem nD τ sig → ℕ)

theorem ctx_cell (c : Dev nD) (k : K) : ctx I κ ⊢ cellInv ER (sched I) (κ (cell c k)) (cell c k) := by
  unfold ctx
  iintro ⟨H, -⟩
  iapply (show bigSep cells (fun g => cellInv ER (sched I) (κ g) g) ⊢ cellInv ER (sched I) (κ (cell c k)) (cell c k) from BI.bigSep_elim (cell_mem c k)) $$ H
theorem ctx_wait (c : Dev nD) (sm : SemLoc sig) {n : ℕ} {O : CellTallies nD τ sig ℕ} (h : Above (n + 1) O) (hn : n < 240) :
    ctx I κ ⊢ MayWait (c : Thread nD τ) sm n O := by
  unfold ctx
  iintro ⟨-, H⟩
  iapply (mayWait c sm h hn) $$ H

def owesX (c : Dev nD) (O : CellTallies nD τ sig ℕ) : sProp 𝕄 := iprop(∃ W, owes (c : Thread nD τ) O W)

/-- A device's position at one of its cells, before step `h` of phase `P`. -/
def ps (c : Dev nD) (k : K) (P h : ℕ) : sProp 𝕄 := iprop(atPos ER (cell c k) (rnd k P h) ∅ 0 ∗ reached ER (cell c k) (rnd k P h))

end Cert.KernelIdeal.Hand

end
-- ==== Proof.Ideal.Comm.lean ====
/-
  One operation of a ring's step at a time — the handshake's two halves, the copy, the two waits —, for either direction
  (`true` is the clockwise ring), and the two forms of a step.
-/
module

public import proofs.«01_k».proof.Proof.Ideal.Dir

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ (UU nD τ) ℕ
local notation "𝒱₀" => Variants.none

/-! ## The operations -/

variable {I : Inp F} {κ : GSem nD τ sig → ℕ}

section Ops
variable {t : EltTy} {m : Memref sig .tc .vmem S512x256 t} (hm : Ok2 m) {d : Bool} {P h : ℕ} (hP : P < 7) (hh : h < lim d)
  (hany : ∀ (c : Dev nD) (b : Bool), (dAny (F := F) d P c b : sProp (MT nD τ sig ℕ (Elt F) ℕ (UU nD τ) ℕ)) = slotAny m c b) (ham : ∀ b, (slot m b).view.dmaCredit = amt P)
  (c : Dev nD)

include hP hh hany in
/-- Tell the sender that the slot it writes next is free. -/
theorem op_signal {Q : PUnit → sProp 𝕄} {k : PUnit → PT F PUnit} (O : CellTallies nD τ sig ℕ) :
    iprop(ctx I κ ∗ owesX c (O + tallyAt (cell (dn d c) (Kf d)) (fIx P h) 1) ∗ dutyTok ER (cell (dn d c) (Kf d)) (rnd (Kf d) P h) false
        ∗ slotAny m c (!odd h) ∗ reached ER (cell c (Kr d (!odd h))) (rnd (Kr d (!odd h)) P h) ∗ reached ER (cell (dn d c) (Kf d)) (rnd (Kf d) P h))
      ⊢ iprop((owesX c O -∗ wp frame (wpE (defs₀ (F := F)) 𝒱₀ (c : Thread nD τ) none) Set.univ (k ⟨⟩) Q)
          -∗ wp frame (wpE (defs₀ (F := F)) 𝒱₀ (c : Thread nD τ) none) Set.univ (semSignalWord (dn d c) (fSem d) 1#32 >>= k) Q) := by
  iintro ⟨#HC, HO, Htok, Hs, #Hr, #Hr'⟩ Hk
  unfold owesX
  icases HO with ⟨%W, HO⟩
  have e := semOf_Kf d
  iapply (Rounds.wp_signal 𝒱₀ ER (sched I) (c : Thread nD τ) none (dst := (dn d c : Thread nD τ)) (sem := fSem d) (κ := κ (cell (dn d c) (Kf d)))
      (r := rnd (Kf d) P h) (d := false) (k' := 1) (k := k) (by rw [← e]; exact mem_one I _ (Kf_ne d) (rnd_lt_f hP hh))
      (by rw [← e]; exact (amount_eq I _ _ _ _).trans (kam_f hh)) (fIx P h) O (by rw [← e])) $$ [HO Htok Hs]
  · rw [← e, payload_eq I (dn d c) (Kf d), pay_f I hh, up_dn, hany]
    isplitr; · iapply (ctx_cell I κ (dn d c) (Kf d)); iexact HC
    isplitl [HO]; · iexact HO
    isplitl [Htok]; · iexact Htok
    isplitl [Hs]
    · isplitl [Hs]; · iexact Hs
      iexact Hr
    iexact Hr'
  iintro HO
  iapply Hk
  iexists W; iexact HO

include hP hh hany in
/-- Wait until the slot the device writes next is free, and have it. -/
theorem op_free {Q : PUnit → sProp 𝕄} {k : PUnit → PT F PUnit} {O : CellTallies nD τ sig ℕ} (hO : Above (fIx P h + 1) O) :
    iprop(ctx I κ ∗ cred (tallyAt (cell c (Kf d)) (fIx P h) 1) ∗ owesX c O ∗ ps c (Kf d) P h)
      ⊢ iprop(((owesX c O ∗ ps c (Kf d) P (h + 1) ∗ slotAny m (up d c) (!odd h)
              ∗ reached ER (cell (up d c) (Kr d (!odd h))) (rnd (Kr d (!odd h)) P h))
            -∗ wp frame (wpE (defs₀ (F := F)) 𝒱₀ (c : Thread nD τ) none) Set.univ (k ⟨⟩) Q)
          -∗ wp frame (wpE (defs₀ (F := F)) 𝒱₀ (c : Thread nD τ) none) Set.univ (semWaitWord (fSem d) 1#32 >>= k) Q) := by
  iintro ⟨#HC, Hc, HO, Hps⟩ Hk
  unfold owesX ps
  icases HO with ⟨%W, HO⟩
  icases Hps with ⟨Hat, -⟩
  have e := semOf_Kf d
  have hlt : fIx P h < 240 := by have : lim d ≤ 16 := by (cases d <;> decide)
                                 unfold fIx; omega
  have hx := expect_one I c (Kf_ne d) (rnd_lt_f hP hh)
  have hrest := rest_one I c (Kf_ne d) (rnd_lt_f hP hh)
  rw [pay_f I hh, hany] at hrest
  unfold cell at hrest hx ⊢
  rw [e] at hrest hx ⊢
  iapply (Rounds.wp_wait_rest_token 𝒱₀ ER (sched I) (c : Thread nD τ) none (κ := κ (cell c (Kf d))) (k := k) (sm := .reg (fSem d))
      (wpE_semWait_eq 𝒱₀ (c : Thread nD τ) none Set.univ) (Set.mem_univ _) (fIx P h) (O := O) (W := W) (R := rnd (Kf d) P h) (m := 0) (T := ∅)
      (by rw [hx, kam_f hh]; decide)) $$ [Hc HO Hat]
  · isplitr; · rw [← e]; iapply (ctx_cell I κ c (Kf d)); iexact HC
    isplitl [Hc]; · iexact Hc
    isplitl [HO]; · iexact HO
    isplitr; · iapply (ctx_wait I κ c _ hO hlt); iexact HC
    iexact Hat
  iintro ⟨HO, Hat, Hr, Hpay⟩
  ihave Hp := (Entails.of_eq hrest) $$ Hpay
  icases Hp with ⟨Hs, Hr'⟩
  iapply Hk
  rw [rnd_succ_f hh]
  isplitl [HO]; · iexists _; iexact HO
  isplitl [Hat Hr]
  · isplitl [Hat]; · iexact Hat
    iexact Hr
  isplitl [Hs]; · iexact Hs
  iexact Hr'

include hP hh hany ham in
/-- Send the slot. -/
theorem op_send {Q : PUnit → sProp 𝕄} {k : PUnit → PT F PUnit} {O : CellTallies nD τ sig ℕ} {V : Vec F S256x256 t}
    (hhas : (dHas I d P h (up d c) (!odd h) : sProp 𝕄) = slotPts m (up d c) (!odd h) V) :
    iprop(ctx I κ ∗ slotPts m c (odd h) V ∗ slotAny m (up d c) (!odd h)
        ∗ owesX c (O + tallyAt (cell (up d c) (Kr d (!odd h))) (cIx P h) (amt P))
        ∗ dutyTok ER (cell c (Ks d (odd h))) (rnd (Ks d (odd h)) P h) false ∗ reached ER (cell c (Ks d (odd h))) (rnd (Ks d (odd h)) P h)
        ∗ dutyTok ER (cell (up d c) (Kr d (!odd h))) (rnd (Kr d (!odd h)) P h) false
        ∗ reached ER (cell (up d c) (Kr d (!odd h))) (rnd (Kr d (!odd h)) P h) ∗ reached ER (cell c (Kf d)) (rnd (Kf d) P (h + 1)))
      ⊢ iprop(((cred (tallyAt (cell c (Ks d (odd h))) (cIx P h) (amt P)) ∗ owesX c O)
            -∗ wp frame (wpE (defs₀ (F := F)) 𝒱₀ (c : Thread nD τ) none) Set.univ (k ⟨⟩) Q)
          -∗ wp frame (wpE (defs₀ (F := F)) 𝒱₀ (c : Thread nD τ) none) Set.univ (sendSlot m hm (up d c) (sSem d) (rSem d) (odd h) >>= k) Q) := by
  iintro ⟨#HC, Hs, Hd, HO, Ht1, #Hr1, Ht2, #Hr2, #Hr3⟩ Hk
  unfold owesX slotPts slotAny
  icases HO with ⟨%W, HO⟩
  icases Hs with ⟨%fs, %hfs, Hs⟩
  icases Hd with ⟨%fd, Hd⟩
  have e1 := semOf_Ks d (odd h)
  have e2 := semOf_Kr d (!odd h)
  iapply (Rounds.wp_send_pointsTo_with 𝒱₀ ER (sched I) (c : Thread nD τ) none (c' := (up d c : Thread nD τ)) (src := slot m (odd h)) (dst := slot m (!odd h))
      (sS := .dma (sSem d (odd h))) (sem := .dma (rSem d (!odd h))) (k := k) (q := fullShare) (fs := fs) (fd := fd)
      (F := reached ER (cell c (Kf d)) (rnd (Kf d) P (h + 1)))
      (r₁ := rnd (Ks d (odd h)) P h) (r₂ := rnd (Kr d (!odd h)) P h) (d₁ := false) (d₂ := false)
      (κ₁ := κ (cell c (Ks d (odd h)))) (κ₂ := κ (cell (up d c) (Kr d (!odd h))))
      (by rw [← e1]; exact mem_one I _ (Ks_ne d _) (rnd_lt_s hP hh)) (by rw [← e2]; exact mem_one I _ (Kr_ne d _) (rnd_lt_r hP hh))
      (cIx P h) (cIx P h) (amt P) (ham _)
      (by rw [← e1]; exact (amount_eq I _ _ _ _).trans (kam_s hh)) (by rw [← e2]; exact (amount_eq I _ _ _ _).trans (kam_r hh))
      O (by rw [← e2])
      (by rw [← e1, payload_eq I c (Ks d (odd h)), pay_s I hh, hany]; unfold slotAny; iintro H; iexists fs; iexact H)
      (by
        rw [← e2, payload_eq I (up d c) (Kr d (!odd h)), pay_r I hh, hhas, dn_up]; unfold slotPts
        iintro ⟨H, Hr⟩
        isplitl [H]
        · iexists _
          isplitr; · ipureintro; exact (View.read_write_univ (v := (slot m (!odd h)).view) fd _).trans hfs
          iexact H
        iexact Hr))
    $$ [Hs Hd HO Ht1 Ht2]
  · rw [← e1, ← e2]
    isplitr; · iapply (ctx_cell I κ c (Ks d (odd h))); iexact HC
    isplitr; · iapply (ctx_cell I κ (up d c) (Kr d (!odd h))); iexact HC
    isplitl [Hs]; · iexact Hs
    isplitl [Hd]
    · isplitl [Hd]; · iexact Hd
      iexact Hr3
    isplitl [HO]; · iexact HO
    isplitl [Ht1]; · iexact Ht1
    isplitr; · iexact Hr1
    isplitl [Ht2]; · iexact Ht2
    iexact Hr2
  rw [← e1]
  iintro ⟨Hc, HO⟩
  iapply Hk
  isplitl [Hc]; · iexact Hc
  iexists W; iexact HO

include hP hh hany ham in
/-- Wait until the sent slot has been read. -/
theorem op_waitSend {Q : PUnit → sProp 𝕄} {k : PUnit → PT F PUnit} {O : CellTallies nD τ sig ℕ} (hO : Above (cIx P h + 1) O) :
    iprop(ctx I κ ∗ cred (tallyAt (cell c (Ks d (odd h))) (cIx P h) (amt P)) ∗ owesX c O ∗ ps c (Ks d (odd h)) P h)
      ⊢ iprop(((owesX c O ∗ ps c (Ks d (odd h)) P (h + 1) ∗ slotAny m c (odd h))
            -∗ wp frame (wpE (defs₀ (F := F)) 𝒱₀ (c : Thread nD τ) none) Set.univ (k ⟨⟩) Q)
          -∗ wp frame (wpE (defs₀ (F := F)) 𝒱₀ (c : Thread nD τ) none) Set.univ (waitSend m hm (sSem d) (odd h) >>= k) Q) := by
  iintro ⟨#HC, Hc, HO, Hps⟩ Hk
  unfold owesX ps
  icases HO with ⟨%W, HO⟩
  icases Hps with ⟨Hat, -⟩
  have e := semOf_Ks d (odd h)
  have hlt : cIx P h < 240 := by have : lim d ≤ 16 := by (cases d <;> decide)
                                 unfold cIx; omega
  have hx := expect_one I c (Ks_ne d (odd h)) (rnd_lt_s hP hh)
  have hrest := rest_one I c (Ks_ne d (odd h)) (rnd_lt_s hP hh)
  rw [pay_s I hh, hany] at hrest
  unfold cell at hrest hx ⊢
  rw [e] at hrest hx ⊢
  iapply (Rounds.wp_wait_rest_token 𝒱₀ ER (sched I) (c : Thread nD τ) none (κ := κ (cell c (Ks d (odd h)))) (k := k) (sm := .dma (sSem d (odd h)))
      (k' := (slot m (odd h)).view.dmaCredit)
      (wpE_waitDma2_eq 𝒱₀ (c : Thread nD τ) none Set.univ) (Set.mem_univ _) (cIx P h) (O := O) (W := W) (R := rnd (Ks d (odd h)) P h) (m := 0) (T := ∅)
      (by rw [hx, kam_s hh, ham, Nat.zero_add])) $$ [Hc HO Hat]
  · rw [ham]
    isplitr; · rw [← e]; iapply (ctx_cell I κ c (Ks d (odd h))); iexact HC
    isplitl [Hc]; · iexact Hc
    isplitl [HO]; · iexact HO
    isplitr; · iapply (ctx_wait I κ c _ hO hlt); iexact HC
    iexact Hat
  iintro ⟨HO, Hat, Hr, Hpay⟩
  ihave Hp := (Entails.of_eq hrest) $$ Hpay
  iapply Hk
  rw [rnd_succ_s hh]
  isplitl [HO]; · iexists _; iexact HO
  isplitl [Hat Hr]
  · isplitl [Hat]; · iexact Hat
    iexact Hr
  iexact Hp

include hP hh ham in
/-- Wait until the received slot has been written. -/
theorem op_waitRecv {Q : PUnit → sProp 𝕄} {k : PUnit → PT F PUnit} {O : CellTallies nD τ sig ℕ} (hO : Above (cIx P h + 1) O) {R : Vec F S256x256 t}
    (hhas : (dHas I d P h c (!odd h) : sProp 𝕄) = slotPts m c (!odd h) R) :
    iprop(ctx I κ ∗ cred (tallyAt (cell c (Kr d (!odd h))) (cIx P h) (amt P)) ∗ owesX c O ∗ ps c (Kr d (!odd h)) P h)
      ⊢ iprop(((owesX c O ∗ ps c (Kr d (!odd h)) P (h + 1) ∗ slotPts m c (!odd h) R ∗ reached ER (cell (dn d c) (Kf d)) (rnd (Kf d) P (h + 1)))
            -∗ wp frame (wpE (defs₀ (F := F)) 𝒱₀ (c : Thread nD τ) none) Set.univ (k ⟨⟩) Q)
          -∗ wp frame (wpE (defs₀ (F := F)) 𝒱₀ (c : Thread nD τ) none) Set.univ (waitRecv m hm (rSem d) (odd h) >>= k) Q) := by
  iintro ⟨#HC, Hc, HO, Hps⟩ Hk
  unfold owesX ps
  icases HO with ⟨%W, HO⟩
  icases Hps with ⟨Hat, -⟩
  have e := semOf_Kr d (!odd h)
  have hlt : cIx P h < 240 := by have : lim d ≤ 16 := by (cases d <;> decide)
                                 unfold cIx; omega
  have hx := expect_one I c (Kr_ne d (!odd h)) (rnd_lt_r hP hh)
  have hrest := rest_one I c (Kr_ne d (!odd h)) (rnd_lt_r hP hh)
  rw [pay_r I hh, hhas] at hrest
  unfold cell at hrest hx ⊢
  rw [e] at hrest hx ⊢
  iapply (Rounds.wp_wait_rest_token 𝒱₀ ER (sched I) (c : Thread nD τ) none (κ := κ (cell c (Kr d (!odd h)))) (k := k) (sm := .dma (rSem d (!odd h)))
      (k' := (slot m (!odd h)).view.dmaCredit)
      (wpE_waitDma2_eq 𝒱₀ (c : Thread nD τ) none Set.univ) (Set.mem_univ _) (cIx P h) (O := O) (W := W) (R := rnd (Kr d (!odd h)) P h) (m := 0) (T := ∅)
      (by rw [hx, kam_r hh, ham, Nat.zero_add])) $$ [Hc HO Hat]
  · rw [ham]
    isplitr; · rw [← e]; iapply (ctx_cell I κ c (Kr d (!odd h))); iexact HC
    isplitl [Hc]; · iexact Hc
    isplitl [HO]; · iexact HO
    isplitr; · iapply (ctx_wait I κ c _ hO hlt); iexact HC
    iexact Hat
  iintro ⟨HO, Hat, Hr, Hpay⟩
  ihave Hp := (Entails.of_eq hrest) $$ Hpay
  icases Hp with ⟨Hs, Hr'⟩
  iapply Hk
  rw [rnd_succ_r hh]
  isplitl [HO]; · iexists _; iexact HO
  isplitl [Hat Hr]
  · isplitl [Hat]; · iexact Hat
    iexact Hr
  isplitl [Hs]; · iexact Hs
  iexact Hr'

end Ops

/-! ## A step -/

theorem odd_succ (h : ℕ) : odd (h + 1) = !odd h := by
  unfold odd; rcases Nat.mod_two_eq_zero_or_one h with e | e <;> simp [e] <;> omega

/-- A device's positions at one direction's cells, and what it knows of its neighbour, before step `h` of phase `P`. -/
def side (d : Bool) (c : Dev nD) (P h : ℕ) : sProp 𝕄 :=
  iprop(ps c (Kf d) P h ∗ ps c (Kr d (!odd h)) P h ∗ ps c (Ks d (odd h)) P h ∗ ps c (Kr d (odd h)) P h ∗ ps c (Ks d (!odd h)) P h
    ∗ reached ER (cell (dn d c) (Kf d)) (rnd (Kf d) P h))

/-- What a device brings to a step of one direction: the duties it pays and the credits it waits with. -/
def tick (d : Bool) (c : Dev nD) (P h : ℕ) : sProp 𝕄 :=
  iprop(dutyTok ER (cell (dn d c) (Kf d)) (rnd (Kf d) P h) false ∗ dutyTok ER (cell (up d c) (Kr d (!odd h))) (rnd (Kr d (!odd h)) P h) false
    ∗ dutyTok ER (cell c (Ks d (odd h))) (rnd (Ks d (odd h)) P h) false
    ∗ cred (tallyAt (cell c (Kf d)) (fIx P h) 1) ∗ cred (tallyAt (cell c (Kr d (!odd h))) (cIx P h) (amt P)))

theorem owe_both (c : Dev nD) {P h : ℕ} (hP : P < 7) (hh : h < 15) : Owe c (16 * P + h)
    = (((Owe c (16 * P + h + 1) + tallyAt (cell (up false c) (Kr false (!odd h))) (cIx P h) (amt P))
        + tallyAt (cell (up true c) (Kr true (!odd h))) (cIx P h) (amt P))
        + tallyAt (cell (dn false c) (Kf false)) (fIx P h) 1) + tallyAt (cell (dn true c) (Kf true)) (fIx P h) 1 := by
  rw [Owe_succ c (by omega)]
  unfold hopDebt debtCw debtCcw
  rw [show (16 * P + h) / 16 = P by omega, show (16 * P + h) % 16 = h by omega, if_pos hh]
  simp only [up, dn, Kr, Kf, if_true, Bool.false_eq_true, if_false]
  ac_rfl
theorem owe_cw (c : Dev nD) {P : ℕ} (hP : P < 7) : Owe c (16 * P + 15)
    = (Owe c (16 * P + 15 + 1) + tallyAt (cell (up true c) (Kr true (!odd 15))) (cIx P 15) (amt P))
        + tallyAt (cell (dn true c) (Kf true)) (fIx P 15) 1 := by
  rw [Owe_succ c (by omega)]
  unfold hopDebt debtCw debtCcw
  rw [show (16 * P + 15) / 16 = P by omega, show (16 * P + 15) % 16 = 15 by omega, if_neg (by decide), add_zero]
  simp only [up, dn, Kr, Kf, if_true]
  ac_rfl

theorem ps_same_r {d : Bool} {P h : ℕ} (hh : h < lim d) (c : Dev nD) : (ps c (Kr d (odd h)) P (h + 1) : sProp 𝕄) = ps c (Kr d (odd h)) P h := by
  unfold ps; rw [rnd_same_r hh]
theorem ps_same_s {d : Bool} {P h : ℕ} (hh : h < lim d) (c : Dev nD) : (ps c (Ks d (!odd h)) P (h + 1) : sProp 𝕄) = ps c (Ks d (!odd h)) P h := by
  unfold ps; rw [rnd_same_s hh]

theorem side_next {d : Bool} {P h : ℕ} (hh : h < lim d) (c : Dev nD) :
    iprop(ps c (Kf d) P (h + 1) ∗ ps c (Kr d (!odd h)) P (h + 1) ∗ ps c (Ks d (odd h)) P (h + 1) ∗ ps c (Kr d (odd h)) P h ∗ ps c (Ks d (!odd h)) P h
      ∗ reached ER (cell (dn d c) (Kf d)) (rnd (Kf d) P (h + 1))) ⊢ (side d c P (h + 1) : sProp 𝕄) := by
  unfold side
  rw [odd_succ, Bool.not_not, ps_same_r hh, ps_same_s hh]
  iintro ⟨H1, H2, H3, H4, H5, H6⟩
  isplitl [H1]; · iexact H1
  isplitl [H4]; · iexact H4
  isplitl [H5]; · iexact H5
  isplitl [H2]; · iexact H2
  isplitl [H3]; · iexact H3
  iexact H6

variable {t : EltTy} {cw ccw : Memref sig .tc .vmem S512x256 t} (hcw : Ok2 cw) (hccw : Ok2 ccw) {P : ℕ} (hP : P < 7)
  (hany : ∀ (c : Dev nD) (b : Bool), (dAny (F := F) true P c b : sProp (MT nD τ sig ℕ (Elt F) ℕ (UU nD τ) ℕ)) = slotAny cw c b)
  (hany' : ∀ (c : Dev nD) (b : Bool), (dAny (F := F) false P c b : sProp (MT nD τ sig ℕ (Elt F) ℕ (UU nD τ) ℕ)) = slotAny ccw c b)
  (ham : ∀ b, (slot cw b).view.dmaCredit = amt P) (ham' : ∀ b, (slot ccw b).view.dmaCredit = amt P) (c : Dev nD)

include hP hany hany' ham ham' in
/-- A step of both rings. -/
theorem comm_both {Q : PUnit → sProp 𝕄} {k : PUnit → PT F PUnit} {h : ℕ} (hh : h < 15) {V R V' R' : Vec F S256x256 t}
    (hV : (cwHas I P h (nxt c) (!odd h) : sProp 𝕄) = slotPts cw (nxt c) (!odd h) V)
    (hR : (cwHas I P h c (!odd h) : sProp 𝕄) = slotPts cw c (!odd h) R)
    (hV' : (ccwHas I P h (prv c) (!odd h) : sProp 𝕄) = slotPts ccw (prv c) (!odd h) V')
    (hR' : (ccwHas I P h c (!odd h) : sProp 𝕄) = slotPts ccw c (!odd h) R') :
    iprop(ctx I κ ∗ side true c P h ∗ side false c P h ∗ tick true c P h ∗ tick false c P h ∗ owesX c (Owe c (16 * P + h))
        ∗ slotPts cw c (odd h) V ∗ slotAny cw c (!odd h) ∗ slotPts ccw c (odd h) V' ∗ slotAny ccw c (!odd h))
      ⊢ iprop(((side true c P (h + 1) ∗ side false c P (h + 1) ∗ owesX c (Owe c (16 * P + h + 1))
            ∗ slotAny cw c (odd h) ∗ slotPts cw c (!odd h) R ∗ slotAny ccw c (odd h) ∗ slotPts ccw c (!odd h) R')
            -∗ wp frame (wpE (defs₀ (F := F)) 𝒱₀ (c : Thread nD τ) none) Set.univ (k ⟨⟩) Q)
          -∗ wp frame (wpE (defs₀ (F := F)) 𝒱₀ (c : Thread nD τ) none) Set.univ (commBoth cw ccw hcw hccw (prv c) (nxt c) (odd h) >>= k) Q) := by
  have ht : h < lim true := by show h < 16; omega
  have hf : h < lim false := hh
  have ab : Above (2 * (16 * P + h) + 4) (Owe c (16 * P + h + 1)) := above_owe c (by omega)
  have ab1 : Above (cIx P h) (Owe c (16 * P + h + 1) + tallyAt (cell (up false c) (Kr false (!odd h))) (cIx P h) (amt P)) :=
    above_add (ab.mono (by unfold cIx; omega)) (above_tally _ _ (le_refl _) (by unfold cIx; omega))
  have ab2 := above_add ab1 (above_tally (n := cIx P h) (i := cIx P h) (a := amt P) (up true c) (Kr true (!odd h)) (le_refl _) (by unfold cIx; omega))
  have sn := side_next (F := F) (P := P) ht c
  have sn' := side_next (F := F) (P := P) hf c
  unfold side at sn sn'
  unfold side tick
  rw [owe_both c hP hh]
  unfold commBoth
  simp only [bind_assoc]
  iintro ⟨#HC, ⟨Af, Ar, As, Ar', As', #An⟩, ⟨Bf, Br, Bs, Br', Bs', #Bn⟩, ⟨Tf, Tr, Ts, Cf, Cr⟩, ⟨Uf, Ur, Us, Df, Dr⟩, HO, Ps, Pa, Qs, Qa⟩ Hk
  ihave #HAr := (show (ps c (Kr true (!odd h)) P h : sProp 𝕄) ⊢ reached ER (cell c (Kr true (!odd h))) (rnd (Kr true (!odd h)) P h) from sep_elim_right) $$ Ar
  ihave #HBr := (show (ps c (Kr false (!odd h)) P h : sProp 𝕄) ⊢ reached ER (cell c (Kr false (!odd h))) (rnd (Kr false (!odd h)) P h) from sep_elim_right) $$ Br
  ihave #HAs := (show (ps c (Ks true (odd h)) P h : sProp 𝕄) ⊢ reached ER (cell c (Ks true (odd h))) (rnd (Ks true (odd h)) P h) from sep_elim_right) $$ As
  ihave #HBs := (show (ps c (Ks false (odd h)) P h : sProp 𝕄) ⊢ reached ER (cell c (Ks false (odd h))) (rnd (Ks false (odd h)) P h) from sep_elim_right) $$ Bs
  iapply (op_signal (I := I) (κ := κ) (d := true) hP ht hany c _) $$ [HO Tf Pa]
  · isplitr; · iexact HC
    isplitl [HO]; · iexact HO
    isplitl [Tf]; · iexact Tf
    isplitl [Pa]; · iexact Pa
    isplitr; · iexact HAr
    iexact An
  iintro HO
  iapply (op_signal (I := I) (κ := κ) (d := false) hP hf hany' c _) $$ [HO Uf Qa]
  · isplitr; · iexact HC
    isplitl [HO]; · iexact HO
    isplitl [Uf]; · iexact Uf
    isplitl [Qa]; · iexact Qa
    isplitr; · iexact HBr
    iexact Bn
  iintro HO
  iapply (op_free (I := I) (κ := κ) (d := true) hP ht hany c ab2) $$ [HO Cf Af]
  · isplitr; · iexact HC
    isplitl [Cf]; · iexact Cf
    isplitl [HO]; · iexact HO
    iexact Af
  iintro ⟨HO, Af, Pd, #HPd⟩
  ihave #HAf := (show (ps c (Kf true) P (h + 1) : sProp 𝕄) ⊢ reached ER (cell c (Kf true)) (rnd (Kf true) P (h + 1)) from sep_elim_right) $$ Af
  iapply (op_free (I := I) (κ := κ) (d := false) hP hf hany' c ab2) $$ [HO Df Bf]
  · isplitr; · iexact HC
    isplitl [Df]; · iexact Df
    isplitl [HO]; · iexact HO
    iexact Bf
  iintro ⟨HO, Bf, Qd, #HQd⟩
  ihave #HBf := (show (ps c (Kf false) P (h + 1) : sProp 𝕄) ⊢ reached ER (cell c (Kf false)) (rnd (Kf false) P (h + 1)) from sep_elim_right) $$ Bf
  iapply (op_send hcw (I := I) (κ := κ) (d := true) hP ht hany ham c hV) $$ [Ps Pd HO Ts Tr]
  · isplitr; · iexact HC
    isplitl [Ps]; · iexact Ps
    isplitl [Pd]; · iexact Pd
    isplitl [HO]; · iexact HO
    isplitl [Ts]; · iexact Ts
    isplitr; · iexact HAs
    isplitl [Tr]; · iexact Tr
    isplitr; · iexact HPd
    iexact HAf
  iintro ⟨Cs, HO⟩
  iapply (op_send hccw (I := I) (κ := κ) (d := false) hP hf hany' ham' c hV') $$ [Qs Qd HO Us Ur]
  · isplitr; · iexact HC
    isplitl [Qs]; · iexact Qs
    isplitl [Qd]; · iexact Qd
    isplitl [HO]; · iexact HO
    isplitl [Us]; · iexact Us
    isplitr; · iexact HBs
    isplitl [Ur]; · iexact Ur
    isplitr; · iexact HQd
    iexact HBf
  iintro ⟨Ds, HO⟩
  iapply (op_waitSend hcw (I := I) (κ := κ) (d := true) hP ht hany ham c ab) $$ [Cs HO As]
  · isplitr; · iexact HC
    isplitl [Cs]; · iexact Cs
    isplitl [HO]; · iexact HO
    iexact As
  iintro ⟨HO, As, Ps⟩
  iapply (op_waitRecv hcw (I := I) (κ := κ) (d := true) hP ht ham c ab hR) $$ [Cr HO Ar]
  · isplitr; · iexact HC
    isplitl [Cr]; · iexact Cr
    isplitl [HO]; · iexact HO
    iexact Ar
  iintro ⟨HO, Ar, Pr, #An'⟩
  iapply (op_waitSend hccw (I := I) (κ := κ) (d := false) hP hf hany' ham' c ab) $$ [Ds HO Bs]
  · isplitr; · iexact HC
    isplitl [Ds]; · iexact Ds
    isplitl [HO]; · iexact HO
    iexact Bs
  iintro ⟨HO, Bs, Qs⟩
  iapply (op_waitRecv hccw (I := I) (κ := κ) (d := false) hP hf ham' c ab hR') $$ [Dr HO Br]
  · isplitr; · iexact HC
    isplitl [Dr]; · iexact Dr
    isplitl [HO]; · iexact HO
    iexact Br
  iintro ⟨HO, Br, Qr, #Bn'⟩
  iapply Hk
  isplitl [Af Ar As Ar' As']
  · iapply sn
    isplitl [Af]; · iexact Af
    isplitl [Ar]; · iexact Ar
    isplitl [As]; · iexact As
    isplitl [Ar']; · iexact Ar'
    isplitl [As']; · iexact As'
    iexact An'
  isplitl [Bf Br Bs Br' Bs']
  · iapply sn'
    isplitl [Bf]; · iexact Bf
    isplitl [Br]; · iexact Br
    isplitl [Bs]; · iexact Bs
    isplitl [Br']; · iexact Br'
    isplitl [Bs']; · iexact Bs'
    iexact Bn'
  isplitl [HO]; · iexact HO
  isplitl [Ps]; · iexact Ps
  isplitl [Pr]; · iexact Pr
  isplitl [Qs]; · iexact Qs
  iexact Qr

include hP hany ham in
/-- The last step of a phase, of the clockwise ring alone. -/
theorem comm_cw {Q : PUnit → sProp 𝕄} {k : PUnit → PT F PUnit} {V R : Vec F S256x256 t}
    (hV : (cwHas I P 15 (nxt c) false : sProp 𝕄) = slotPts cw (nxt c) false V)
    (hR : (cwHas I P 15 c false : sProp 𝕄) = slotPts cw c false R) :
    iprop(ctx I κ ∗ side true c P 15 ∗ tick true c P 15 ∗ owesX c (Owe c (16 * P + 15)) ∗ slotPts cw c true V ∗ slotAny cw c false)
      ⊢ iprop(((side true c P 16 ∗ owesX c (Owe c (16 * P + 16)) ∗ slotAny cw c true ∗ slotPts cw c false R)
            -∗ wp frame (wpE (defs₀ (F := F)) 𝒱₀ (c : Thread nD τ) none) Set.univ (k ⟨⟩) Q)
          -∗ wp frame (wpE (defs₀ (F := F)) 𝒱₀ (c : Thread nD τ) none) Set.univ (commCw cw hcw (prv c) (nxt c) >>= k) Q) := by
  have ht : 15 < lim true := by decide
  have ab : Above (2 * (16 * P + 15) + 4) (Owe c (16 * P + 15 + 1)) := above_owe c (by omega)
  have ab1 : Above (cIx P 15) (Owe c (16 * P + 15 + 1) + tallyAt (cell (up true c) (Kr true (!odd 15))) (cIx P 15) (amt P)) :=
    above_add (ab.mono (by unfold cIx; omega)) (above_tally _ _ (le_refl _) (by unfold cIx; omega))
  have sn : _ ⊢ (side true c P 16 : sProp 𝕄) := side_next (F := F) (P := P) (h := 15) ht c
  unfold side at sn
  unfold side tick
  rw [owe_cw c hP]
  unfold commCw
  simp only [bind_assoc]
  iintro ⟨#HC, ⟨Af, Ar, As, Ar', As', #An⟩, ⟨Tf, Tr, Ts, Cf, Cr⟩, HO, Ps, Pa⟩ Hk
  ihave #HAr := (show (ps c (Kr true (!odd 15)) P 15 : sProp 𝕄) ⊢ reached ER (cell c (Kr true (!odd 15))) (rnd (Kr true (!odd 15)) P 15) from sep_elim_right) $$ Ar
  ihave #HAs := (show (ps c (Ks true (odd 15)) P 15 : sProp 𝕄) ⊢ reached ER (cell c (Ks true (odd 15))) (rnd (Ks true (odd 15)) P 15) from sep_elim_right) $$ As
  iapply (op_signal (I := I) (κ := κ) (d := true) hP ht hany c _) $$ [HO Tf Pa]
  · isplitr; · iexact HC
    isplitl [HO]; · iexact HO
    isplitl [Tf]; · iexact Tf
    isplitl [Pa]; · iexact Pa
    isplitr; · iexact HAr
    iexact An
  iintro HO
  iapply (op_free (I := I) (κ := κ) (d := true) hP ht hany c ab1) $$ [HO Cf Af]
  · isplitr; · iexact HC
    isplitl [Cf]; · iexact Cf
    isplitl [HO]; · iexact HO
    iexact Af
  iintro ⟨HO, Af, Pd, #HPd⟩
  ihave #HAf := (show (ps c (Kf true) P (15 + 1) : sProp 𝕄) ⊢ reached ER (cell c (Kf true)) (rnd (Kf true) P (15 + 1)) from sep_elim_right) $$ Af
  iapply (op_send hcw (I := I) (κ := κ) (d := true) hP ht hany ham c hV) $$ [Ps Pd HO Ts Tr]
  · isplitr; · iexact HC
    isplitl [Ps]; · iexact Ps
    isplitl [Pd]; · iexact Pd
    isplitl [HO]; · iexact HO
    isplitl [Ts]; · iexact Ts
    isplitr; · iexact HAs
    isplitl [Tr]; · iexact Tr
    isplitr; · iexact HPd
    iexact HAf
  iintro ⟨Cs, HO⟩
  iapply (op_waitSend hcw (I := I) (κ := κ) (d := true) hP ht hany ham c ab) $$ [Cs HO As]
  · isplitr; · iexact HC
    isplitl [Cs]; · iexact Cs
    isplitl [HO]; · iexact HO
    iexact As
  iintro ⟨HO, As, Ps⟩
  iapply (op_waitRecv hcw (I := I) (κ := κ) (d := true) hP ht ham c ab hR) $$ [Cr HO Ar]
  · isplitr; · iexact HC
    isplitl [Cr]; · iexact Cr
    isplitl [HO]; · iexact HO
    iexact Ar
  iintro ⟨HO, Ar, Pr, #An'⟩
  iapply Hk
  isplitl [Af Ar As Ar' As']
  · iapply sn
    isplitl [Af]; · iexact Af
    isplitl [Ar]; · iexact Ar
    isplitl [As]; · iexact As
    isplitl [Ar']; · iexact Ar'
    isplitl [As']; · iexact As'
    iexact An'
  isplitl [HO]; · iexact HO
  isplitl [Ps]; · iexact Ps
  iexact Pr

end Cert.KernelIdeal.Hand

end
-- ==== Proof.Ideal.Local.lean ====
/-
  The loads and stores of the body: a slot, a word of the tables, a part of the gathered array or of the partial products.
-/
module

public import proofs.«01_k».proof.Proof.Ideal.Comm

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ (UU nD τ) ℕ

/-! ## Slots -/

section Slots
theorem slot_access {t : EltTy} (m : Memref sig .tc .vmem S512x256 t) (b : Bool) : (slot m b).view = m.access (slotR b) := rfl

variable {t : EltTy} {m : Memref sig .tc .vmem S512x256 t} {b : Bool} {c : Dev nD} {Q : PUnit.{1} → sProp (MT nD τ sig ℕ (Elt F) ℕ (UU nD τ) ℕ)}

theorem ld_slot {k : Vec F S256x256 t → PT F PUnit} {v : Vec F S256x256 t} :
    (slotPts m c b v : sProp 𝕄) ⊢ iprop((slotPts m c b v -∗ wp frame (wpE (defs₀ (F := F)) Variants.none (c : Thread nD τ) none) Set.univ (k v) Q) -∗ wp frame (wpE (defs₀ (F := F)) Variants.none (c : Thread nD τ) none) Set.univ (ldSlot m b >>= k) Q) := by
  unfold slotPts
  rw [slot_access]
  iintro ⟨%f, %hf, H⟩ Hk
  iapply (wp_load_rect Variants.none (c : Thread nD τ) none Set.univ (m := m) (r := slotR b) (k := k) (q := fullShare) (f := f)
    (S := (m.access (slotR b)).set) (Finset.Subset.refl _)) $$ H
  iintro H
  rw [show (m.access (slotR b)).read (Elt F) f = v from hf]
  iapply Hk
  iexists f
  isplitr; · ipureintro; exact hf
  iexact H

theorem ld_any {k : Vec F S256x256 t → PT F PUnit} :
    (slotAny m c b : sProp 𝕄) ⊢ iprop((slotAny m c b -∗ ∀ v, wp frame (wpE (defs₀ (F := F)) Variants.none (c : Thread nD τ) none) Set.univ (k v) Q) -∗ wp frame (wpE (defs₀ (F := F)) Variants.none (c : Thread nD τ) none) Set.univ (ldSlot m b >>= k) Q) := by
  unfold slotAny
  rw [slot_access]
  iintro ⟨%f, H⟩ Hk
  iapply (wp_load_rect Variants.none (c : Thread nD τ) none Set.univ (m := m) (r := slotR b) (k := k) (q := fullShare) (f := f)
    (S := (m.access (slotR b)).set) (Finset.Subset.refl _)) $$ H
  iintro H
  ihave Hk' := Hk $$ [H]
  · iexists f; iexact H
  iapply Hk'

theorem st_slot {k : PUnit → PT F PUnit} {w : Vec F S256x256 t} {hx : (m.access (slotR b)).Stores Finset.univ} {hm : (Finset.univ : Finset (slotR b).shape.Idx) = Finset.univ ∨ ∀ a, (slotR b).stride a = 1} :
    (slotAny m c b : sProp 𝕄) ⊢ iprop((slotPts m c b w -∗ wp frame (wpE (defs₀ (F := F)) Variants.none (c : Thread nD τ) none) Set.univ (k ⟨⟩) Q) -∗ wp frame (wpE (defs₀ (F := F)) Variants.none (c : Thread nD τ) none) Set.univ ((Prog.lift (.store m (slotR b) w Finset.univ hx hm) : PT F PUnit) >>= k) Q) := by
  unfold slotAny slotPts
  rw [slot_access]
  iintro ⟨%f, H⟩ Hk
  iapply (wp_store Variants.none (c : Thread nD τ) none Set.univ (m := m) (r := slotR b) (w := w) (Mk := Finset.univ) (k := k) (f := f)
    (S := (m.access (slotR b)).set) (Finset.Subset.refl _)) $$ H
  iintro H
  iapply Hk
  iexists _
  isplitr; rotate_left
  · iexact H
  ipureintro
  exact View.read_write_univ (v := m.access (slotR b)) f w

end Slots

/-! ## The cycle table -/

/-- The table as the kernel holds it. -/
def cycT : Vec F S32 .i32 := fun i => lit0 (S32.rowMajor i)
def posT : Vec F S32 .i32 := fun i => lit1 (S32.rowMajor i)
def cycPts (c : Dev nD) : sProp 𝕄 := ((c : Thread nD τ).loc cc0_stg0_0) ↦{fullShare} (cycT : Vec F S32 .i32)
def posPts (c : Dev nD) : sProp 𝕄 := ((c : Thread nD τ).loc cc0_stg1_0) ↦{fullShare} (posT : Vec F S32 .i32)

theorem tab_rm (o : Fin 1 → Nat) (ho : ∀ a, o a + S1.size a ≤ S32.size a) (x : S1.Idx) :
    (S32.rowMajor ((Rect.unit (s := S32) o S1.size ho).emb x)).val = o 0 := by
  refine (Shape.rowMajor_val_one _).trans ?_
  rw [Rect.emb_apply]
  have : (x 0).val < 1 := (x 0).isLt
  show o 0 + 1 * (x 0).val = o 0
  omega

theorem rd_cyc {c : Dev nD} {Q : PUnit → sProp 𝕄} {o : Fin 1 → Nat} {ho : ∀ a, o a + S1.size a ≤ S32.size a} {k : BitVec 32 → PT F PUnit} {j : ℕ} (h : At o c j) :
    (cycPts c : sProp 𝕄) ⊢ iprop((cycPts c -∗ wp frame (wpE (defs₀ (F := F)) Variants.none (c : Thread nD τ) none) Set.univ (k (BitVec.ofNat 32 (sh c j).val)) Q) -∗ wp frame (wpE (defs₀ (F := F)) Variants.none (c : Thread nD τ) none) Set.univ ((rdCyc o ho : PT F (Elt F .i32)) >>= k) Q) := by
  unfold cycPts
  iintro H Hk
  iapply (wp_smemLoadElt Variants.none (c : Thread nD τ) none Set.univ (m := cycM) (r := Rect.unit (s := S32) o S1.size ho)
    (hw := View.loads_smem_one rfl numel1_S1) (x := Shape.Idx.first (numel1_S1.symm ▸ Nat.one_pos)) (k := k) (q := fullShare) (f := (cycT : Vec F S32 .i32)) (S := Finset.univ) (Finset.subset_univ _)) $$ H
  iintro H
  have e : ∀ x, (cycM.access (Rect.unit (s := S32) o S1.size ho)).read (Elt F) (cycT : Vec F S32 .i32) x = BitVec.ofNat 32 (sh c j).val := fun x => by
    show lit0 (S32.rowMajor ((Rect.unit (s := S32) o S1.size ho).emb x)) = _
    unfold sh
    rw [← cw32_eq]
    unfold cw32
    exact congrArg lit0 (Fin.ext ((tab_rm o ho x).trans h))
  rw [e]
  iapply Hk; iexact H

theorem rd_pos {c : Dev nD} {Q : PUnit → sProp 𝕄} {ho : ∀ a, k0_off1 c a + S1.size a ≤ S32.size a} {k : BitVec 32 → PT F PUnit} :
    (posPts c : sProp 𝕄) ⊢ iprop((posPts c -∗ wp frame (wpE (defs₀ (F := F)) Variants.none (c : Thread nD τ) none) Set.univ (k (pw c)) Q)
      -∗ wp frame (wpE (defs₀ (F := F)) Variants.none (c : Thread nD τ) none) Set.univ ((smemLoad posM (Rect.unit (s := S32) (k0_off1 c) S1.size ho) numel1_S1 rfl : PT F (Elt F .i32)) >>= k) Q) := by
  unfold posPts
  iintro H Hk
  iapply (wp_smemLoadElt Variants.none (c : Thread nD τ) none Set.univ (m := posM) (r := Rect.unit (s := S32) (k0_off1 c) S1.size ho)
    (hw := View.loads_smem_one rfl numel1_S1) (x := Shape.Idx.first (numel1_S1.symm ▸ Nat.one_pos)) (k := k) (q := fullShare) (f := (posT : Vec F S32 .i32)) (S := Finset.univ) (Finset.subset_univ _)) $$ H
  iintro H
  have e : ∀ x, (posM.access (Rect.unit (s := S32) (k0_off1 c) S1.size ho)).read (Elt F) (posT : Vec F S32 .i32) x = pw c := fun x => by
    show lit1 (S32.rowMajor ((Rect.unit (s := S32) (k0_off1 c) S1.size ho).emb x)) = lit1 c
    exact congrArg lit1 (Fin.ext ((tab_rm _ ho x).trans (off1 c)))
  rw [e]
  iapply Hk; iexact H

/-! ## The gathered array and the partial products -/

def xgPts (c : Dev nD) (f : Vec F S8192x256 .bf16) : sProp 𝕄 := ((c : Thread nD τ).loc cc0_scratch0) ↦{fullShare} f
def paccPts (c : Dev nD) (f : Vec F S8192x256 .f32) : sProp 𝕄 := ((c : Thread nD τ).loc cc0_scratch1) ↦{fullShare} f

theorem emb_blk (d : Dev nD) (ho : ∀ a, blkO d a + S256x256.size a ≤ S8192x256.size a) (i : S256x256.Idx) :
    (Rect.unit (s := S8192x256) (blkO d) S256x256.size ho).emb i = blkIdx d i := by
  funext a; refine Fin.ext ?_
  rw [Rect.emb_apply]
  match a with
  | 0 => show 256 * d.val + 1 * (i 0).val = 256 * d.val + (i 0).val; rw [Nat.one_mul]
  | 1 => show 0 + 1 * (i 1).val = (i 1).val; rw [Nat.one_mul, Nat.zero_add]

theorem emb_ch (k : Fin 8) (o : Fin 2 → ℕ) (e : o = ![1024 * k.val, 0]) (ho : ∀ a, o a + S1024x256.size a ≤ S8192x256.size a) (i : S1024x256.Idx) :
    (Rect.unit (s := S8192x256) o S1024x256.size ho).emb i = chIdx k i := by
  subst e
  funext a; refine Fin.ext ?_
  rw [Rect.emb_apply]
  match a with
  | 0 => show 1024 * k.val + 1 * (i 0).val = 1024 * k.val + (i 0).val; rw [Nat.one_mul]
  | 1 => show 0 + 1 * (i 1).val = (i 1).val; rw [Nat.one_mul, Nat.zero_add]

theorem chIdx_inCh (j : S8192x256.Idx) : chIdx (chOf j) (inCh j) = j := by
  funext a; refine Fin.ext ?_
  match a with
  | 0 => exact Nat.div_add_mod (j 0).val 1024
  | 1 => rfl
theorem chOf_chIdx (k : Fin 8) (i : S1024x256.Idx) : chOf (chIdx k i) = k := by
  refine Fin.ext ?_
  have h : (i 0).val < 1024 := (i 0).isLt
  show (1024 * k.val + (i 0).val) / 1024 = k.val
  omega
theorem inCh_chIdx (k : Fin 8) (i : S1024x256.Idx) : inCh (chIdx k i) = i := by
  funext a; refine Fin.ext ?_
  have h : (i 0).val < 1024 := (i 0).isLt
  match a with
  | 0 => show (1024 * k.val + (i 0).val) % 1024 = (i 0).val; omega
  | 1 => rfl

section Arrays
variable {c : Dev nD} {Q : PUnit.{1} → sProp (MT nD τ sig ℕ (Elt F) ℕ (UU nD τ) ℕ)}

theorem ld_xg {r : Rect S8192x256} {hl : (xgM).view.LoadsAt r.toLoadRect} {f : Vec F S8192x256 .bf16} {k : Vec F r.shape .bf16 → PT F PUnit} :
    (xgPts c f : sProp 𝕄) ⊢ iprop((xgPts c f -∗ wp frame (wpE (defs₀ (F := F)) Variants.none (c : Thread nD τ) none) Set.univ (k (fun i => f (r.emb i))) Q) -∗ wp frame (wpE (defs₀ (F := F)) Variants.none (c : Thread nD τ) none) Set.univ ((Prog.lift (.load xgM r.toLoadRect hl) : PT F (Vec F r.shape .bf16)) >>= k) Q) := by
  unfold xgPts
  iintro H Hk
  iapply (wp_load_rect Variants.none (c : Thread nD τ) none Set.univ (m := xgM) (r := r) (k := k) (q := fullShare) (f := f)
    (S := Finset.univ) (Finset.subset_univ _)) $$ H
  iexact Hk

theorem ld_pacc {r : Rect S8192x256} {hl : (paccM).view.LoadsAt r.toLoadRect} {f : Vec F S8192x256 .f32} {k : Vec F r.shape .f32 → PT F PUnit} :
    (paccPts c f : sProp 𝕄) ⊢ iprop((paccPts c f -∗ wp frame (wpE (defs₀ (F := F)) Variants.none (c : Thread nD τ) none) Set.univ (k (fun i => f (r.emb i))) Q) -∗ wp frame (wpE (defs₀ (F := F)) Variants.none (c : Thread nD τ) none) Set.univ ((Prog.lift (.load paccM r.toLoadRect hl) : PT F (Vec F r.shape .f32)) >>= k) Q) := by
  unfold paccPts
  iintro H Hk
  iapply (wp_load_rect Variants.none (c : Thread nD τ) none Set.univ (m := paccM) (r := r) (k := k) (q := fullShare) (f := f)
    (S := Finset.univ) (Finset.subset_univ _)) $$ H
  iexact Hk

theorem st_xg {r : Rect S8192x256} {w : Vec F r.shape .bf16} {hx : (xgM.access r).Stores Finset.univ} {hm : (Finset.univ : Finset r.shape.Idx) = Finset.univ ∨ ∀ a, r.stride a = 1}
    {f : Vec F S8192x256 .bf16} {k : PUnit → PT F PUnit} :
    (xgPts c f : sProp 𝕄) ⊢ iprop((∀ f' : Vec F S8192x256 .bf16, ⌜(∀ i, f' (r.emb i) = w i) ∧ ∀ j, (∀ i, r.emb i ≠ j) → f' j = f j⌝ -∗ xgPts c f' -∗ wp frame (wpE (defs₀ (F := F)) Variants.none (c : Thread nD τ) none) Set.univ (k ⟨⟩) Q)
      -∗ wp frame (wpE (defs₀ (F := F)) Variants.none (c : Thread nD τ) none) Set.univ ((Prog.lift (.store xgM r w Finset.univ hx hm) : PT F PUnit) >>= k) Q) := by
  unfold xgPts
  iintro H Hk
  iapply (wp_store Variants.none (c : Thread nD τ) none Set.univ (m := xgM) (r := r) (w := w) (Mk := Finset.univ) (k := k) (f := f)
    (S := Finset.univ) (Finset.subset_univ _)) $$ H
  iintro H
  iapply Hk $$ %((xgM.access r).write (Elt F) f w Finset.univ) [] H
  ipureintro
  refine ⟨fun i => View.write_emb_of_mem (v := xgM.access r) f w (Finset.mem_univ i), fun j hj => View.write_of_not_mem (v := xgM.access r) f w Finset.univ ?_⟩
  intro hm
  obtain ⟨i, -, hi⟩ := Finset.mem_map.mp hm
  exact hj i hi

theorem st_pacc {r : Rect S8192x256} {w : Vec F r.shape .f32} {hx : (paccM.access r).Stores Finset.univ} {hm : (Finset.univ : Finset r.shape.Idx) = Finset.univ ∨ ∀ a, r.stride a = 1}
    {f : Vec F S8192x256 .f32} {k : PUnit → PT F PUnit} :
    (paccPts c f : sProp 𝕄) ⊢ iprop((∀ f' : Vec F S8192x256 .f32, ⌜(∀ i, f' (r.emb i) = w i) ∧ ∀ j, (∀ i, r.emb i ≠ j) → f' j = f j⌝ -∗ paccPts c f' -∗ wp frame (wpE (defs₀ (F := F)) Variants.none (c : Thread nD τ) none) Set.univ (k ⟨⟩) Q)
      -∗ wp frame (wpE (defs₀ (F := F)) Variants.none (c : Thread nD τ) none) Set.univ ((Prog.lift (.store paccM r w Finset.univ hx hm) : PT F PUnit) >>= k) Q) := by
  unfold paccPts
  iintro H Hk
  iapply (wp_store Variants.none (c : Thread nD τ) none Set.univ (m := paccM) (r := r) (w := w) (Mk := Finset.univ) (k := k) (f := f)
    (S := Finset.univ) (Finset.subset_univ _)) $$ H
  iintro H
  iapply Hk $$ %((paccM.access r).write (Elt F) f w Finset.univ) [] H
  ipureintro
  refine ⟨fun i => View.write_emb_of_mem (v := paccM.access r) f w (Finset.mem_univ i), fun j hj => View.write_of_not_mem (v := paccM.access r) f w Finset.univ ?_⟩
  intro hm
  obtain ⟨i, -, hi⟩ := Finset.mem_map.mp hm
  exact hj i hi

end Arrays

end Cert.KernelIdeal.Hand

end
-- ==== Proof.Ideal.Post.lean ====
/-
  What follows a step, and the tickets of a phase.
-/
module

public import proofs.«01_k».proof.Proof.Ideal.Local

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ (UU nD τ) ℕ

variable {I : Inp F} {κ : GSem nD τ sig → ℕ}

/-! ## Facts of the two kinds of phases -/

theorem any_ag {P : ℕ} (hP : P % 2 = 0) (c : Dev nD) (b : Bool) : (dAny (F := F) true P c b : sProp 𝕄) = slotAny agCw c b := by
  unfold dAny cwAny; rw [if_pos rfl, if_pos hP]
theorem any_ag' {P : ℕ} (hP : P % 2 = 0) (c : Dev nD) (b : Bool) : (dAny (F := F) false P c b : sProp 𝕄) = slotAny agCcw c b := by
  unfold dAny ccwAny; rw [if_neg Bool.false_ne_true, if_pos hP]
theorem any_rs {P : ℕ} (hP : ¬P % 2 = 0) (c : Dev nD) (b : Bool) : (dAny (F := F) true P c b : sProp 𝕄) = slotAny rsCw c b := by
  unfold dAny cwAny; rw [if_pos rfl, if_neg hP]
theorem any_rs' {P : ℕ} (hP : ¬P % 2 = 0) (c : Dev nD) (b : Bool) : (dAny (F := F) false P c b : sProp 𝕄) = slotAny rsCcw c b := by
  unfold dAny ccwAny; rw [if_neg Bool.false_ne_true, if_neg hP]
omit [FloatOps F] in
theorem am_ag {P : ℕ} (hP : P % 2 = 0) (b : Bool) : (slot agCw b).view.dmaCredit = amt P := by
  unfold amt; rw [if_pos hP]; cases b <;> rfl
omit [FloatOps F] in
theorem am_ag' {P : ℕ} (hP : P % 2 = 0) (b : Bool) : (slot agCcw b).view.dmaCredit = amt P := by
  unfold amt; rw [if_pos hP]; cases b <;> rfl
omit [FloatOps F] in
theorem am_rs {P : ℕ} (hP : ¬P % 2 = 0) (b : Bool) : (slot rsCw b).view.dmaCredit = amt P := by
  unfold amt; rw [if_neg hP]; cases b <;> rfl
omit [FloatOps F] in
theorem am_rs' {P : ℕ} (hP : ¬P % 2 = 0) (b : Bool) : (slot rsCcw b).view.dmaCredit = amt P := by
  unfold amt; rw [if_neg hP]; cases b <;> rfl

/-! ## The tickets -/

theorem sep_insert {J : Type} [DecidableEq J] {s : Finset J} {i : J} (hi : i ∉ s) (Φ : J → sProp 𝕄) :
    bigSep (insert i s) Φ = iprop(Φ i ∗ bigSep s Φ) := BI.bigSep_insert hi

/-- The tickets of a phase from a step on. -/
def ticks (c : Dev nD) (P h : ℕ) : sProp 𝕄 :=
  iprop(bigSep (Finset.Ico h 16) (fun i => tick true c P i) ∗ bigSep (Finset.Ico h 15) (fun i => tick false c P i))
theorem Ico_head {a b : ℕ} (h : a < b) : Finset.Ico a b = insert a (Finset.Ico (a + 1) b) := by
  ext i; simp only [Finset.mem_Ico, Finset.mem_insert]; omega
theorem ticks_both (c : Dev nD) (P : ℕ) {h : ℕ} (hh : h < 15) :
    (ticks c P h : sProp 𝕄) ⊢ iprop(tick true c P h ∗ tick false c P h ∗ ticks c P (h + 1)) := by
  unfold ticks
  rw [Ico_head (a := h) (b := 16) (by omega), Ico_head hh, sep_insert (by simp), sep_insert (by simp)]
  iintro ⟨⟨H1, H2⟩, H3, H4⟩
  isplitl [H1]; · iexact H1
  isplitl [H3]; · iexact H3
  isplitl [H2]; · iexact H2
  iexact H4
theorem ticks_last (c : Dev nD) (P : ℕ) : (ticks c P 15 : sProp 𝕄) ⊢ tick true c P 15 := by
  unfold ticks
  rw [Ico_head (a := 15) (b := 16) (by omega), sep_insert (by simp)]
  iintro ⟨⟨H1, -⟩, -⟩
  iexact H1

/-- The protocol's part of a device's state before a step. -/
def net (c : Dev nD) (P h : ℕ) : sProp 𝕄 :=
  iprop(side true c P h ∗ side false c P h ∗ owesX c (Owe c (16 * P + h)) ∗ ticks c P h)
/-- At a phase's end. -/
def netEnd (c : Dev nD) (P : ℕ) : sProp 𝕄 := iprop(side true c P 16 ∗ side false c P 15 ∗ owesX c (Owe c (16 * P + 16)))

theorem rnd_next_t (k : K) (hk : k = Kf true ∨ (∃ b, k = Kr true b) ∨ ∃ b, k = Ks true b) (P : ℕ) : rnd k P 16 = rnd k (P + 1) 0 := by
  rcases hk with rfl | ⟨b, rfl⟩ | ⟨b, rfl⟩
  · simp only [Kf, rnd, if_true]; omega
  · cases b <;> simp [Kr, rnd] <;> omega
  · cases b <;> simp [Ks, rnd] <;> omega
theorem rnd_next_f (k : K) (hk : k = Kf false ∨ (∃ b, k = Kr false b) ∨ ∃ b, k = Ks false b) (P : ℕ) : rnd k P 15 = rnd k (P + 1) 0 := by
  rcases hk with rfl | ⟨b, rfl⟩ | ⟨b, rfl⟩
  · simp [Kf, rnd]; omega
  · cases b <;> simp [Kr, rnd] <;> omega
  · cases b <;> simp [Ks, rnd] <;> omega

theorem side_phase_t (c : Dev nD) (P : ℕ) : (side true c P 16 : sProp 𝕄) ⊢ side true c (P + 1) 0 := by
  unfold side ps
  simp only [show odd 16 = false from rfl, show odd 0 = false from rfl]
  rw [rnd_next_t (Kf true) (.inl rfl), rnd_next_t (Kr true (!false)) (.inr (.inl ⟨_, rfl⟩)), rnd_next_t (Ks true false) (.inr (.inr ⟨_, rfl⟩)),
    rnd_next_t (Kr true false) (.inr (.inl ⟨_, rfl⟩)), rnd_next_t (Ks true (!false)) (.inr (.inr ⟨_, rfl⟩))]
theorem side_phase_f (c : Dev nD) (P : ℕ) : (side false c P 15 : sProp 𝕄) ⊢ side false c (P + 1) 0 := by
  unfold side ps
  simp only [show odd 15 = true from rfl, show odd 0 = false from rfl, Bool.not_true, Bool.not_false]
  rw [rnd_next_f (Kf false) (.inl rfl), rnd_next_f (Kr false true) (.inr (.inl ⟨_, rfl⟩)), rnd_next_f (Ks false false) (.inr (.inr ⟨_, rfl⟩)),
    rnd_next_f (Kr false false) (.inr (.inl ⟨_, rfl⟩)), rnd_next_f (Ks false true) (.inr (.inr ⟨_, rfl⟩))]
  iintro ⟨H1, H2, H3, H4, H5, H6⟩
  isplitl [H1]; · iexact H1
  isplitl [H4]; · iexact H4
  isplitl [H5]; · iexact H5
  isplitl [H2]; · iexact H2
  isplitl [H3]; · iexact H3
  iexact H6
theorem net_next (c : Dev nD) (P : ℕ) : iprop(netEnd c P ∗ ticks c (P + 1) 0) ⊢ (net c (P + 1) 0 : sProp 𝕄) := by
  unfold netEnd net
  rw [show 16 * (P + 1) + 0 = 16 * P + 16 by omega]
  iintro ⟨⟨H1, H2, H3⟩, H4⟩
  isplitl [H1]; · iapply (side_phase_t c P); iexact H1
  isplitl [H2]; · iapply (side_phase_f c P); iexact H2
  isplitl [H3]; · iexact H3
  iexact H4

/-! ## After a step -/

theorem pay2_eq (v : Vec F S256x256 .bf16) : k0_pay2 v = v := funext fun i => congrArg v (Shape.reshapeEquiv_self _ i)
theorem pay42_eq (v : Vec F S256x256 .f32) : k0_pay42 v = v := funext fun i => congrArg v (Shape.reshapeEquiv_self _ i)

variable {c : Dev nD} {Q : PUnit.{1} → sProp (MT nD τ sig ℕ (Elt F) ℕ (UU nD τ) ℕ)}

theorem ld_blk_xg {o : Fin 2 → ℕ} {ho : ∀ a, o a + S256x256.size a ≤ S8192x256.size a} {hl} {d : Dev nD} (e : o = blkO d) {f : Vec F S8192x256 .bf16} {k : Vec F S256x256 .bf16 → PT F PUnit} :
    (xgPts c f : sProp 𝕄) ⊢ iprop((xgPts c f -∗ wp frame (wpE (defs₀ (F := F)) Variants.none (c : Thread nD τ) none) Set.univ (k (blk f d)) Q)
      -∗ wp frame (wpE (defs₀ (F := F)) Variants.none (c : Thread nD τ) none) Set.univ ((Prog.lift (.load xgM (Rect.unit (s := S8192x256) o S256x256.size ho).toLoadRect hl) : PT F (Vec F S256x256 .bf16)) >>= k) Q) := by
  subst e
  iintro H Hk
  iapply (ld_xg (r := Rect.unit (s := S8192x256) (blkO d) S256x256.size ho) (k := k)) $$ H
  rw [show (fun i => f ((Rect.unit (s := S8192x256) (blkO d) S256x256.size ho).emb i)) = blk f d from funext fun i => congrArg f (emb_blk d ho i)]
  iexact Hk
theorem ld_blk_pacc {o : Fin 2 → ℕ} {ho : ∀ a, o a + S256x256.size a ≤ S8192x256.size a} {hl} {d : Dev nD} (e : o = blkO d) {f : Vec F S8192x256 .f32} {k : Vec F S256x256 .f32 → PT F PUnit} :
    (paccPts c f : sProp 𝕄) ⊢ iprop((paccPts c f -∗ wp frame (wpE (defs₀ (F := F)) Variants.none (c : Thread nD τ) none) Set.univ (k (blk f d)) Q)
      -∗ wp frame (wpE (defs₀ (F := F)) Variants.none (c : Thread nD τ) none) Set.univ ((Prog.lift (.load paccM (Rect.unit (s := S8192x256) o S256x256.size ho).toLoadRect hl) : PT F (Vec F S256x256 .f32)) >>= k) Q) := by
  subst e
  iintro H Hk
  iapply (ld_pacc (r := Rect.unit (s := S8192x256) (blkO d) S256x256.size ho) (k := k)) $$ H
  rw [show (fun i => f ((Rect.unit (s := S8192x256) (blkO d) S256x256.size ho).emb i)) = blk f d from funext fun i => congrArg f (emb_blk d ho i)]
  iexact Hk
theorem st_blk_xg {o : Fin 2 → ℕ} {ho : ∀ a, o a + S256x256.size a ≤ S8192x256.size a} {w : Vec F S256x256 .bf16} {hx} {hm} {d : Dev nD} (e : o = blkO d) {f : Vec F S8192x256 .bf16} {k : PUnit → PT F PUnit} :
    (xgPts c f : sProp 𝕄) ⊢ iprop((∀ f' : Vec F S8192x256 .bf16, ⌜blk f' d = w ∧ ∀ d', d' ≠ d → blk f' d' = blk f d'⌝ -∗ xgPts c f' -∗ wp frame (wpE (defs₀ (F := F)) Variants.none (c : Thread nD τ) none) Set.univ (k ⟨⟩) Q)
      -∗ wp frame (wpE (defs₀ (F := F)) Variants.none (c : Thread nD τ) none) Set.univ ((Prog.lift (.store xgM (Rect.unit (s := S8192x256) o S256x256.size ho) w Finset.univ hx hm) : PT F PUnit) >>= k) Q) := by
  subst e
  iintro H Hk
  iapply (st_xg (r := Rect.unit (s := S8192x256) (blkO d) S256x256.size ho) (k := k)) $$ H
  iintro %f' %hf' H
  iapply Hk $$ %f' [] H
  ipureintro
  refine ⟨funext fun i => ?_, fun d' hd => funext fun i => ?_⟩
  · have := hf'.1 i; rw [emb_blk] at this; exact this
  · refine hf'.2 _ fun i' h => hd ?_
    rw [emb_blk] at h
    rw [← ownerOf_blkIdx d' i, ← h, ownerOf_blkIdx]

theorem ag_post {m : Memref sig .tc .vmem S512x256 .bf16} {b : Bool} {o : Fin 1 → Nat} {ho : ∀ a, o a + S1.size a ≤ S32.size a} {j : ℕ} (h : At o c j)
    {v : Vec F S256x256 .bf16} {f : Vec F S8192x256 .bf16} {k : PUnit → PT F PUnit} :
    iprop(slotPts m c b v ∗ cycPts c ∗ xgPts c f)
      ⊢ iprop((∀ f' : Vec F S8192x256 .bf16, ⌜blk f' (sh c j) = v ∧ ∀ d', d' ≠ sh c j → blk f' d' = blk f d'⌝
          -∗ (slotPts m c b v ∗ cycPts c ∗ xgPts c f') -∗ wp frame (wpE (defs₀ (F := F)) Variants.none (c : Thread nD τ) none) Set.univ (k ⟨⟩) Q)
        -∗ wp frame (wpE (defs₀ (F := F)) Variants.none (c : Thread nD τ) none) Set.univ ((agPost m b o ho : PT F PUnit) >>= k) Q) := by
  unfold agPost
  simp only [bind_assoc]
  iintro ⟨Hs, Hc, Hx⟩ Hk
  iapply (rd_cyc h) $$ Hc
  iintro Hc
  iapply (wp_assume Variants.none (c : Thread nD τ) none Set.univ (chk4 (sh c j)))
  iapply ld_slot $$ Hs
  iintro Hs
  iapply (ld_blk_xg (off6 (sh c j))) $$ Hx
  iintro Hx
  rw [pay2_eq]
  iapply (st_blk_xg (off6 (sh c j))) $$ Hx
  iintro %f' %hf' Hx
  iapply Hk $$ %f' %hf'
  isplitl [Hs]; · iexact Hs
  isplitl [Hc]; · iexact Hc
  iexact Hx

theorem rs_post {m : Memref sig .tc .vmem S512x256 .f32} {b : Bool} {o : Fin 1 → Nat} {ho : ∀ a, o a + S1.size a ≤ S32.size a} {j : ℕ} (h : At o c j)
    {v : Vec F S256x256 .f32} {f : Vec F S8192x256 .f32} {k : PUnit → PT F PUnit} :
    iprop(slotPts m c b v ∗ cycPts c ∗ paccPts c f)
      ⊢ iprop(((slotPts m c b (k0_pay5 v (blk f (sh c j))) ∗ cycPts c ∗ paccPts c f) -∗ wp frame (wpE (defs₀ (F := F)) Variants.none (c : Thread nD τ) none) Set.univ (k ⟨⟩) Q)
        -∗ wp frame (wpE (defs₀ (F := F)) Variants.none (c : Thread nD τ) none) Set.univ ((rsPost m b o ho : PT F PUnit) >>= k) Q) := by
  unfold rsPost
  simp only [bind_assoc]
  iintro ⟨Hs, Hc, Hx⟩ Hk
  iapply (rd_cyc h) $$ Hc
  iintro Hc
  iapply (wp_assume Variants.none (c : Thread nD τ) none Set.univ (chk11 (sh c j)))
  iapply ld_slot $$ Hs
  iintro Hs
  iapply (ld_blk_pacc (off20 (sh c j))) $$ Hx
  iintro Hx
  iapply ld_slot $$ Hs
  iintro Hs
  ihave Hs := (slot_any m c b v) $$ Hs
  iapply st_slot $$ Hs
  iintro Hs
  iapply Hk
  isplitl [Hs]; · iexact Hs
  isplitl [Hc]; · iexact Hc
  iexact Hx

theorem rs_init {m : Memref sig .tc .vmem S512x256 .f32} {o : Fin 1 → Nat} {ho : ∀ a, o a + S1.size a ≤ S32.size a} {j : ℕ} (h : At o c j)
    {f : Vec F S8192x256 .f32} {k : PUnit → PT F PUnit} :
    iprop(slotAny m c false ∗ cycPts c ∗ paccPts c f)
      ⊢ iprop(((slotPts m c false (k0_pay42 (blk f (sh c j))) ∗ cycPts c ∗ paccPts c f) -∗ wp frame (wpE (defs₀ (F := F)) Variants.none (c : Thread nD τ) none) Set.univ (k ⟨⟩) Q)
        -∗ wp frame (wpE (defs₀ (F := F)) Variants.none (c : Thread nD τ) none) Set.univ ((rsInit m o ho : PT F PUnit) >>= k) Q) := by
  unfold rsInit
  simp only [bind_assoc]
  iintro ⟨Hs, Hc, Hx⟩ Hk
  iapply (rd_cyc h) $$ Hc
  iintro Hc
  iapply (wp_assume Variants.none (c : Thread nD τ) none Set.univ (chk11 (sh c j)))
  iapply (ld_blk_pacc (off20 (sh c j))) $$ Hx
  iintro Hx
  iapply ld_any $$ Hs
  iintro Hs %v
  iapply st_slot $$ Hs
  iintro Hs
  iapply Hk
  isplitl [Hs]; · iexact Hs
  isplitl [Hc]; · iexact Hc
  iexact Hx

end Cert.KernelIdeal.Hand

end
-- ==== Proof.Ideal.PhaseA.lean ====
/-
  The all-gather.
-/
module

public import proofs.«01_k».proof.Proof.Ideal.Post

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ (UU nD τ) ℕ

variable {I : Inp F} {κ : GSem nD τ sig → ℕ}
variable {c : Dev nD} {Q : PUnit.{1} → sProp (MT nD τ sig ℕ (Elt F) ℕ (UU nD τ) ℕ)}

/-! ## The all-gather -/

/-- The gathered array holds the blocks that arrived before a step. -/
def agK (c : Dev nD) (X : Dev nD → Vec F S256x256 .bf16) (h : ℕ) (f : Vec F S8192x256 .bf16) : Prop :=
  ∀ i, i < 32 → (i ≤ h ∨ 32 - h ≤ i) → blk f (sh c i) = X (sh c i)

omit [FloatOps F] in
theorem agK_next {X : Dev nD → Vec F S256x256 .bf16} {h : ℕ} (hh : h < 16) {f f' f'' : Vec F S8192x256 .bf16} (hf : agK c X h f)
    (h1 : blk f' (sh c (31 - h)) = X (sh c (31 - h)) ∧ ∀ d', d' ≠ sh c (31 - h) → blk f' d' = blk f d')
    (h2 : blk f'' (sh c (1 + h)) = X (sh c (h + 1)) ∧ ∀ d', d' ≠ sh c (1 + h) → blk f'' d' = blk f' d') : agK c X (h + 1) f'' := by
  intro i hi hc
  by_cases e2 : sh c i = sh c (1 + h)
  · rw [e2, h2.1, Nat.add_comm]
  rw [h2.2 _ e2]
  by_cases e1 : sh c i = sh c (31 - h)
  · rw [e1, h1.1]
  rw [h1.2 _ e1]
  refine hf i hi ?_
  have n2 : i ≠ 1 + h := fun e => e2 (e ▸ rfl)
  have n1 : i ≠ 31 - h := fun e => e1 (e ▸ rfl)
  omega

/-- A device's state before a step of an all-gather. -/
def agSt (I : Inp F) (κ : GSem nD τ sig → ℕ) (c : Dev nD) (P h : ℕ) : sProp 𝕄 :=
  iprop(ctx I κ ∗ net c P h ∗ slotPts agCw c (odd h) (I.X (P / 2) (sh c (32 - h))) ∗ slotAny agCw c (!odd h)
    ∗ slotPts agCcw c (odd h) (I.X (P / 2) (sh c h)) ∗ slotAny agCcw c (!odd h)
    ∗ cycPts c ∗ ∃ f, ⌜agK c (I.X (P / 2)) h f⌝ ∗ xgPts c f)

/-- And after the last. -/
def agEnd (I : Inp F) (κ : GSem nD τ sig → ℕ) (c : Dev nD) (P : ℕ) : sProp 𝕄 :=
  iprop(ctx I κ ∗ netEnd c P ∗ slotAny agCw c false ∗ slotAny agCw c true ∗ slotAny agCcw c false ∗ slotAny agCcw c true
    ∗ cycPts c ∗ xgPts c (asm (I.X (P / 2))))

theorem ag_vals {P : ℕ} (hP : P % 2 = 0) {h : ℕ} (hh : h < 16) (b : Bool) :
    (cwHas I P h (nxt c) b : sProp 𝕄) = slotPts agCw (nxt c) b (I.X (P / 2) (sh c (32 - h))) := by
  unfold cwHas; rw [if_pos hP, sh_nxt, show 31 - h + 1 = 32 - h by omega]
theorem ag_vals' {P : ℕ} (hP : P % 2 = 0) {h : ℕ} (b : Bool) :
    (ccwHas I P h (prv c) b : sProp 𝕄) = slotPts agCcw (prv c) b (I.X (P / 2) (sh c h)) := by
  unfold ccwHas; rw [if_pos hP, sh_prv, show sh c (h + 1 + 31) = sh c h from sh_mod c (by omega)]
theorem ag_got {P : ℕ} (hP : P % 2 = 0) {h : ℕ} (b : Bool) :
    (cwHas I P h c b : sProp 𝕄) = slotPts agCw c b (I.X (P / 2) (sh c (31 - h))) := by
  unfold cwHas; rw [if_pos hP]
theorem ag_got' {P : ℕ} (hP : P % 2 = 0) {h : ℕ} (b : Bool) :
    (ccwHas I P h c b : sProp 𝕄) = slotPts agCcw c b (I.X (P / 2) (sh c (h + 1))) := by
  unfold ccwHas; rw [if_pos hP]

theorem ag_step {P : ℕ} (hP : P < 7) (hP2 : P % 2 = 0) {h : ℕ} (hh : h < 15) {s s' : Bool} (hs : odd h = s) (hs' : (!s) = s')
    {o : Fin 1 → Nat} {ho : ∀ a, o a + S1.size a ≤ S32.size a} (hat : At o c (31 - h))
    {o' : Fin 1 → Nat} {ho' : ∀ a, o' a + S1.size a ≤ S32.size a} (hat' : At o' c (1 + h)) {k : PUnit → PT F PUnit} :
    (agSt I κ c P h : sProp 𝕄) ⊢ iprop((agSt I κ c P (h + 1) -∗ wp frame (wpE (defs₀ (F := F)) Variants.none (c : Thread nD τ) none) Set.univ (k ⟨⟩) Q)
      -∗ wp frame (wpE (defs₀ (F := F)) Variants.none (c : Thread nD τ) none) Set.univ ((commBoth agCw agCcw ok_agCw ok_agCcw (prv c) (nxt c) s : PT F PUnit) >>= fun _ => agPost agCw s' o ho >>= fun _ => agPost agCcw s' o' ho' >>= k) Q) := by
  subst hs hs'
  unfold agSt net
  rw [odd_succ, Bool.not_not]
  iintro ⟨#HC, ⟨S1, S2, HO, HT⟩, P1, P2, P3, P4, Hc, %f, %hf, Hx⟩ Hk
  ihave HT := (ticks_both c P hh) $$ HT
  icases HT with ⟨T1, T2, HT⟩
  iapply (comm_both (I := I) (κ := κ) (cw := agCw) (ccw := agCcw) ok_agCw ok_agCcw hP (any_ag hP2) (any_ag' hP2) (am_ag hP2) (am_ag' hP2) c hh
    (ag_vals hP2 (by omega) _) (ag_got hP2 _) (ag_vals' hP2 _) (ag_got' hP2 _)) $$ [S1 S2 HO T1 T2 P1 P2 P3 P4]
  · isplitr; · iexact HC
    isplitl [S1]; · iexact S1
    isplitl [S2]; · iexact S2
    isplitl [T1]; · iexact T1
    isplitl [T2]; · iexact T2
    isplitl [HO]; · iexact HO
    isplitl [P1]; · iexact P1
    isplitl [P2]; · iexact P2
    isplitl [P3]; · iexact P3
    iexact P4
  iintro ⟨S1, S2, HO, P1, P2, P3, P4⟩
  iapply (ag_post hat) $$ [P2 Hc Hx]
  · isplitl [P2]; · iexact P2
    isplitl [Hc]; · iexact Hc
    iexact Hx
  iintro %f1 %h1 ⟨P2, Hc, Hx⟩
  iapply (ag_post hat') $$ [P4 Hc Hx]
  · isplitl [P4]; · iexact P4
    isplitl [Hc]; · iexact Hc
    iexact Hx
  iintro %f2 %h2 ⟨P4, Hc, Hx⟩
  iapply Hk
  isplitr; · iexact HC
  isplitl [S1 S2 HO HT]
  · isplitl [S1]; · iexact S1
    isplitl [S2]; · iexact S2
    isplitl [HO]; · iexact HO
    iexact HT
  rw [show 32 - (h + 1) = 31 - h by omega]
  isplitl [P2]; · iexact P2
  isplitl [P1]; · iexact P1
  isplitl [P4]; · iexact P4
  isplitl [P3]; · iexact P3
  isplitl [Hc]; · iexact Hc
  iexists f2
  isplitr
  · ipureintro; exact agK_next (by omega) hf h1 h2
  iexact Hx

theorem ag_last {P : ℕ} (hP : P < 7) (hP2 : P % 2 = 0)
    {o : Fin 1 → Nat} {ho : ∀ a, o a + S1.size a ≤ S32.size a} (hat : At o c 16) {k : PUnit → PT F PUnit} :
    (agSt I κ c P 15 : sProp 𝕄) ⊢ iprop((agEnd I κ c P -∗ wp frame (wpE (defs₀ (F := F)) Variants.none (c : Thread nD τ) none) Set.univ (k ⟨⟩) Q)
      -∗ wp frame (wpE (defs₀ (F := F)) Variants.none (c : Thread nD τ) none) Set.univ ((commCw agCw ok_agCw (prv c) (nxt c) : PT F PUnit) >>= fun _ => agPost agCw false o ho >>= k) Q) := by
  unfold agSt agEnd net netEnd
  simp only [show odd 15 = true from rfl, Bool.not_true]
  iintro ⟨#HC, ⟨S1, S2, HO, HT⟩, P1, P2, P3, P4, Hc, %f, %hf, Hx⟩ Hk
  ihave T1 := (ticks_last c P) $$ HT
  iapply (comm_cw (I := I) (κ := κ) (cw := agCw) ok_agCw hP (any_ag hP2) (am_ag hP2) c
    (ag_vals hP2 (by omega) _) (ag_got hP2 _)) $$ [S1 HO T1 P1 P2]
  · isplitr; · iexact HC
    isplitl [S1]; · iexact S1
    isplitl [T1]; · iexact T1
    isplitl [HO]; · iexact HO
    isplitl [P1]; · iexact P1
    iexact P2
  iintro ⟨S1, HO, P1, P2⟩
  iapply (ag_post hat) $$ [P2 Hc Hx]
  · isplitl [P2]; · iexact P2
    isplitl [Hc]; · iexact Hc
    iexact Hx
  iintro %f1 %h1 ⟨P2, Hc, Hx⟩
  ihave P2 := (slot_any _ _ _ _) $$ P2
  ihave P3 := (slot_any _ _ _ _) $$ P3
  iapply Hk
  isplitr; · iexact HC
  isplitl [S1 S2 HO]
  · isplitl [S1]; · iexact S1
    isplitl [S2]; · iexact S2
    iexact HO
  isplitl [P2]; · iexact P2
  isplitl [P1]; · iexact P1
  isplitl [P4]; · iexact P4
  isplitl [P3]; · iexact P3
  isplitl [Hc]; · iexact Hc
  have e : f1 = asm (I.X (P / 2)) := eq_asm fun d => by
    obtain ⟨i, hi, rfl⟩ := sh_surj c d
    by_cases e1 : sh c i = sh c 16
    · rw [e1]; exact h1.1
    · rw [h1.2 _ e1]
      exact hf i hi (by have : i ≠ 16 := fun e => e1 (e ▸ rfl); omega)
  rw [e]
  iexact Hx

theorem trips1 : k0_t1_loop.trips = 7 := by decide
theorem trips2 : k0_t2_loop.trips = 7 := by decide

theorem ag_phase {P : ℕ} (hP : P < 7) (hP2 : P % 2 = 0) (h1 : k0_chk1 (pw c)) {k : PUnit → PT F PUnit} :
    (agSt I κ c P 0 : sProp 𝕄) ⊢ iprop((agEnd I κ c P -∗ wp frame (wpE (defs₀ (F := F)) Variants.none (c : Thread nD τ) none) Set.univ (k ⟨⟩) Q)
      -∗ wp frame (wpE (defs₀ (F := F)) Variants.none (c : Thread nD τ) none) Set.univ ((agPhase (pw c) h1 (prv c) (nxt c) : PT F PUnit) >>= k) Q) := by
  unfold agPhase
  simp only [bind_assoc]
  iintro H Hk
  iapply (Scf.wp_for_bind frame (wpE (defs₀ (F := F)) Variants.none (c : Thread nD τ) none) Set.univ _ _ _ _ _ _
    (fun n _ => (agSt I κ c P (2 * n) : sProp 𝕄)) ?_) $$ H
  · intro n acc
    have hn : n.val < 7 := n.isLt
    unfold agPair
    iintro H
    iapply (ag_step hP hP2 (h := 2 * n.val) (by omega) (s := false) (s' := true) (by simp [odd]) rfl
      (off5 c n) (off7 c n)) $$ H
    iintro H
    iapply (ag_step hP hP2 (h := 2 * n.val + 1) (by omega) (s := true) (s' := false) (by simp [odd]) rfl
      (o := k0_off9 (pw c) n) (by rw [show 31 - (2 * n.val + 1) = 30 - 2 * n.val by omega]; exact off9 c n)
      (o' := k0_off11 (pw c) n) (by rw [show 1 + (2 * n.val + 1) = 2 + 2 * n.val by omega]; exact off11 c n)) $$ H
    iintro H
    rw [Prog.pure_eq_ret, wp_ret]
    imodintro
    iexact H
  iintro %acc H
  have H14 : (agSt I κ c P (2 * k0_t1_loop.trips) : sProp 𝕄) = agSt I κ c P 14 := by rw [trips1]
  ihave H := (show (agSt I κ c P (2 * k0_t1_loop.trips) : sProp 𝕄) ⊢ agSt I κ c P 14 from H14 ▸ BIBase.Entails.rfl) $$ H
  iapply (ag_step hP hP2 (h := 14) (by omega) (s := false) (s' := true) rfl rfl (off13 c) (off15 c)) $$ H
  iintro H
  iapply (ag_last hP hP2 (off17 c)) $$ H
  iexact Hk

end Cert.KernelIdeal.Hand

end
-- ==== Proof.Ideal.PhaseR.lean ====
/-
  The reduce-scatter and the partial products.
-/
module

public import proofs.«01_k».proof.Proof.Ideal.PhaseA

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ (UU nD τ) ℕ

variable {I : Inp F} {κ : GSem nD τ sig → ℕ}
variable {c : Dev nD} {Q : PUnit.{1} → sProp (MT nD τ sig ℕ (Elt F) ℕ (UU nD τ) ℕ)}

/-! ## The reduce-scatter -/

/-- Both slots of both of an all-gather's buffers, holding anything; of a reduce-scatter's. -/
def agAny (c : Dev nD) : sProp 𝕄 := iprop(slotAny agCw c false ∗ slotAny agCw c true ∗ slotAny agCcw c false ∗ slotAny agCcw c true)
def rsAny (c : Dev nD) : sProp 𝕄 := iprop(slotAny rsCw c false ∗ slotAny rsCw c true ∗ slotAny rsCcw c false ∗ slotAny rsCcw c true)

/-- A device's state before a step of a reduce-scatter. -/
def rsSt (I : Inp F) (κ : GSem nD τ sig → ℕ) (c : Dev nD) (P h : ℕ) : sProp 𝕄 :=
  iprop(ctx I κ ∗ net c P h ∗ slotPts rsCw c (odd h) (cwV (I.prt (P / 2)) h c) ∗ slotAny rsCw c (!odd h)
    ∗ slotPts rsCcw c (odd h) (ccwV (I.prt (P / 2)) h c) ∗ slotAny rsCcw c (!odd h)
    ∗ cycPts c ∗ paccPts c (I.prt (P / 2) c))

/-- And after the last. -/
def rsEnd (I : Inp F) (κ : GSem nD τ sig → ℕ) (c : Dev nD) (P : ℕ) : sProp 𝕄 :=
  iprop(ctx I κ ∗ netEnd c P ∗ slotPts rsCw c false (cwV (I.prt (P / 2)) 15 (prv c)) ∗ slotAny rsCw c true
    ∗ slotAny rsCcw c false ∗ slotPts rsCcw c true (ccwV (I.prt (P / 2)) 14 (nxt c))
    ∗ cycPts c ∗ paccPts c (I.prt (P / 2) c))

theorem rs_vals {P : ℕ} (hP : ¬P % 2 = 0) {h : ℕ} (b : Bool) :
    (cwHas I P h (nxt c) b : sProp 𝕄) = slotPts rsCw (nxt c) b (cwV (I.prt (P / 2)) h c) := by
  unfold cwHas; rw [if_neg hP, prv_nxt]
theorem rs_vals' {P : ℕ} (hP : ¬P % 2 = 0) {h : ℕ} (b : Bool) :
    (ccwHas I P h (prv c) b : sProp 𝕄) = slotPts rsCcw (prv c) b (ccwV (I.prt (P / 2)) h c) := by
  unfold ccwHas; rw [if_neg hP, nxt_prv]
theorem rs_got {P : ℕ} (hP : ¬P % 2 = 0) {h : ℕ} (b : Bool) :
    (cwHas I P h c b : sProp 𝕄) = slotPts rsCw c b (cwV (I.prt (P / 2)) h (prv c)) := by
  unfold cwHas; rw [if_neg hP]
theorem rs_got' {P : ℕ} (hP : ¬P % 2 = 0) {h : ℕ} (b : Bool) :
    (ccwHas I P h c b : sProp 𝕄) = slotPts rsCcw c b (ccwV (I.prt (P / 2)) h (nxt c)) := by
  unfold ccwHas; rw [if_neg hP]

theorem cwV_next (p : Dev nD → Vec F S8192x256 .f32) {h : ℕ} (hh : h < 16) :
    k0_pay5 (cwV p h (prv c)) (blk (p c) (sh c (15 - h))) = cwV p (h + 1) c := by
  rw [cwV, show sh c (15 - h) = sh c (47 - h) from sh_mod c (by omega)]

theorem rs_step {P : ℕ} (hP : P < 7) (hP2 : ¬P % 2 = 0) {h : ℕ} (hh : h < 14) {s s' : Bool} (hs : odd h = s) (hs' : (!s) = s')
    {o : Fin 1 → Nat} {ho : ∀ a, o a + S1.size a ≤ S32.size a} (hat : At o c (15 - h))
    {o' : Fin 1 → Nat} {ho' : ∀ a, o' a + S1.size a ≤ S32.size a} (hat' : At o' c (18 + h)) {k : PUnit → PT F PUnit} :
    (rsSt I κ c P h : sProp 𝕄) ⊢ iprop((rsSt I κ c P (h + 1) -∗ wp frame (wpE (defs₀ (F := F)) Variants.none (c : Thread nD τ) none) Set.univ (k ⟨⟩) Q)
      -∗ wp frame (wpE (defs₀ (F := F)) Variants.none (c : Thread nD τ) none) Set.univ ((commBoth rsCw rsCcw ok_rsCw ok_rsCcw (prv c) (nxt c) s : PT F PUnit) >>= fun _ => rsPost rsCw s' o ho >>= fun _ => rsPost rsCcw s' o' ho' >>= k) Q) := by
  subst hs hs'
  unfold rsSt net
  rw [odd_succ, Bool.not_not]
  iintro ⟨#HC, ⟨S1, S2, HO, HT⟩, P1, P2, P3, P4, Hc, Hx⟩ Hk
  ihave HT := (ticks_both c P (by omega)) $$ HT
  icases HT with ⟨T1, T2, HT⟩
  iapply (comm_both (I := I) (κ := κ) (cw := rsCw) (ccw := rsCcw) ok_rsCw ok_rsCcw hP (any_rs hP2) (any_rs' hP2) (am_rs hP2) (am_rs' hP2) c (by omega)
    (rs_vals hP2 _) (rs_got hP2 _) (rs_vals' hP2 _) (rs_got' hP2 _)) $$ [S1 S2 HO T1 T2 P1 P2 P3 P4]
  · isplitr; · iexact HC
    isplitl [S1]; · iexact S1
    isplitl [S2]; · iexact S2
    isplitl [T1]; · iexact T1
    isplitl [T2]; · iexact T2
    isplitl [HO]; · iexact HO
    isplitl [P1]; · iexact P1
    isplitl [P2]; · iexact P2
    isplitl [P3]; · iexact P3
    iexact P4
  iintro ⟨S1, S2, HO, P1, P2, P3, P4⟩
  iapply (rs_post hat) $$ [P2 Hc Hx]
  · isplitl [P2]; · iexact P2
    isplitl [Hc]; · iexact Hc
    iexact Hx
  iintro ⟨P2, Hc, Hx⟩
  iapply (rs_post hat') $$ [P4 Hc Hx]
  · isplitl [P4]; · iexact P4
    isplitl [Hc]; · iexact Hc
    iexact Hx
  iintro ⟨P4, Hc, Hx⟩
  iapply Hk
  isplitr; · iexact HC
  isplitl [S1 S2 HO HT]
  · isplitl [S1]; · iexact S1
    isplitl [S2]; · iexact S2
    isplitl [HO]; · iexact HO
    iexact HT
  rw [cwV_next _ (by omega)]
  isplitl [P2]; · iexact P2
  isplitl [P1]; · iexact P1
  isplitl [P4]; · iexact P4
  isplitl [P3]; · iexact P3
  isplitl [Hc]; · iexact Hc
  iexact Hx

theorem rs_last {P : ℕ} (hP : P < 7) (hP2 : ¬P % 2 = 0)
    {o : Fin 1 → Nat} {ho : ∀ a, o a + S1.size a ≤ S32.size a} (hat : At o c 1) {k : PUnit → PT F PUnit} :
    (rsSt I κ c P 14 : sProp 𝕄) ⊢ iprop((rsEnd I κ c P -∗ wp frame (wpE (defs₀ (F := F)) Variants.none (c : Thread nD τ) none) Set.univ (k ⟨⟩) Q)
      -∗ wp frame (wpE (defs₀ (F := F)) Variants.none (c : Thread nD τ) none) Set.univ ((commBoth rsCw rsCcw ok_rsCw ok_rsCcw (prv c) (nxt c) false : PT F PUnit) >>= fun _ => rsPost rsCw true o ho >>= fun _ =>
        commCw rsCw ok_rsCw (prv c) (nxt c) >>= k) Q) := by
  unfold rsSt rsEnd net netEnd
  simp only [show odd 14 = false from rfl, Bool.not_false]
  iintro ⟨#HC, ⟨S1, S2, HO, HT⟩, P1, P2, P3, P4, Hc, Hx⟩ Hk
  ihave HT := (ticks_both c P (by omega)) $$ HT
  icases HT with ⟨T1, T2, HT⟩
  iapply (comm_both (I := I) (κ := κ) (cw := rsCw) (ccw := rsCcw) ok_rsCw ok_rsCcw hP (any_rs hP2) (any_rs' hP2) (am_rs hP2) (am_rs' hP2) c (h := 14) (by omega)
    (rs_vals hP2 _) (rs_got hP2 _) (rs_vals' hP2 _) (rs_got' hP2 _)) $$ [S1 S2 HO T1 T2 P1 P2 P3 P4]
  · isplitr; · iexact HC
    isplitl [S1]; · iexact S1
    isplitl [S2]; · iexact S2
    isplitl [T1]; · iexact T1
    isplitl [T2]; · iexact T2
    isplitl [HO]; · iexact HO
    isplitl [P1]; · iexact P1
    isplitl [P2]; · iexact P2
    isplitl [P3]; · iexact P3
    iexact P4
  iintro ⟨S1, S2, HO, P1, P2, P3, P4⟩
  iapply (rs_post (b := true) hat) $$ [P2 Hc Hx]
  · isplitl [P2]; · iexact P2
    isplitl [Hc]; · iexact Hc
    iexact Hx
  rw [show sh c 1 = sh c (15 - 14) from rfl, cwV_next _ (by omega)]
  iintro ⟨P2, Hc, Hx⟩
  ihave T1 := (ticks_last c P) $$ HT
  iapply (comm_cw (I := I) (κ := κ) (cw := rsCw) ok_rsCw hP (any_rs hP2) (am_rs hP2) c
    (rs_vals hP2 _) (rs_got hP2 _)) $$ [S1 HO T1 P1 P2]
  · isplitr; · iexact HC
    isplitl [S1]; · iexact S1
    isplitl [T1]; · iexact T1
    isplitl [HO]; · iexact HO
    isplitl [P2]; · iexact P2
    iexact P1
  iintro ⟨S1, HO, P1, P2⟩
  iapply Hk
  isplitr; · iexact HC
  isplitl [S1 S2 HO]
  · isplitl [S1]; · iexact S1
    isplitl [S2]; · iexact S2
    iexact HO
  isplitl [P2]; · iexact P2
  isplitl [P1]; · iexact P1
  isplitl [P3]; · iexact P3
  isplitl [P4]; · iexact P4
  isplitl [Hc]; · iexact Hc
  iexact Hx

/-! ## Stores of a block -/

theorem st_xg_own {w : FVec F S256x256 .bf16} {f : Vec F S8192x256 .bf16} {k : PUnit → PT F PUnit} :
    (xgPts c f : sProp 𝕄) ⊢ iprop((∀ f' : Vec F S8192x256 .bf16, ⌜blk f' c = w⌝ -∗ xgPts c f' -∗ wp frame (wpE (defs₀ (F := F)) Variants.none (c : Thread nD τ) none) Set.univ (k ⟨⟩) Q) -∗ wp frame (wpE (defs₀ (F := F)) Variants.none (c : Thread nD τ) none) Set.univ ((stXg c w : PT F PUnit) >>= k) Q) := by
  unfold stXg
  simp only [bind_assoc]
  iintro Hx Hk
  iapply (ld_blk_xg (off4 c)) $$ Hx
  iintro Hx
  iapply (st_blk_xg (off4 c)) $$ Hx
  iintro %f' %hf' Hx
  iapply Hk $$ %f' [] Hx
  ipureintro; exact hf'.1

theorem st_ag {m : Memref sig .tc .vmem S512x256 .bf16} {hm : m.IsWhole} {w : FVec F S256x256 .bf16} {k : PUnit → PT F PUnit} :
    (slotAny m c false : sProp 𝕄) ⊢ iprop((slotPts m c false w -∗ wp frame (wpE (defs₀ (F := F)) Variants.none (c : Thread nD τ) none) Set.univ (k ⟨⟩) Q) -∗ wp frame (wpE (defs₀ (F := F)) Variants.none (c : Thread nD τ) none) Set.univ ((stAg m hm w : PT F PUnit) >>= k) Q) := by
  unfold stAg
  simp only [bind_assoc]
  iintro Hs Hk
  iapply ld_any $$ Hs
  iintro Hs %v
  iapply st_slot $$ Hs
  iexact Hk

/-- The state at the start of an all-gather, from its parts. -/
theorem ag_start {P : ℕ} {f : Vec F S8192x256 .bf16} (hf : blk f c = I.X (P / 2) c) :
    iprop(ctx I κ ∗ net c P 0 ∗ slotPts agCw c false (I.X (P / 2) c) ∗ slotAny agCw c true ∗ slotPts agCcw c false (I.X (P / 2) c) ∗ slotAny agCcw c true ∗ cycPts c ∗ xgPts c f)
      ⊢ (agSt I κ c P 0 : sProp 𝕄) := by
  unfold agSt
  simp only [show odd 0 = false from rfl, Bool.not_false]
  rw [show sh c (32 - 0) = c from (show sh c 32 = sh c 0 from sh_mod c (by omega)).trans (sh_zero c), sh_zero]
  iintro ⟨H1, H2, H3, H4, H5, H6, H7, H8⟩
  isplitl [H1]; · iexact H1
  isplitl [H2]; · iexact H2
  isplitl [H3]; · iexact H3
  isplitl [H4]; · iexact H4
  isplitl [H5]; · iexact H5
  isplitl [H6]; · iexact H6
  isplitl [H7]; · iexact H7
  iexists f
  isplitr
  · ipureintro
    intro i hi hc
    have : i = 0 := by omega
    subst this
    rw [sh_zero]; exact hf
  iexact H8

theorem rs_phase {l : ℕ} (hl : l < 3) (h1 : k0_chk1 (pw c)) {f : Vec F S8192x256 .bf16} {k : PUnit → PT F PUnit} :
    iprop(ctx I κ ∗ net c (2 * l + 1) 0 ∗ ticks c (2 * l + 2) 0 ∗ rsAny c ∗ agAny c ∗ cycPts c ∗ paccPts c (I.prt l c) ∗ xgPts c f)
      ⊢ iprop(((agSt I κ c (2 * l + 2) 0 ∗ rsAny c ∗ paccPts c (I.prt l c)) -∗ wp frame (wpE (defs₀ (F := F)) Variants.none (c : Thread nD τ) none) Set.univ (k ⟨⟩) Q)
      -∗ wp frame (wpE (defs₀ (F := F)) Variants.none (c : Thread nD τ) none) Set.univ ((rsPhase c (pw c) h1 (prv c) (nxt c) : PT F PUnit) >>= k) Q) := by
  have hP : 2 * l + 1 < 7 := by omega
  have hP2 : ¬(2 * l + 1) % 2 = 0 := by omega
  have hl2 : (2 * l + 1) / 2 = l := by omega
  have hl3 : (2 * l + 2) / 2 = l + 1 := by omega
  unfold rsPhase rsAny agAny
  simp only [bind_assoc]
  iintro ⟨#HC, HN, HT, ⟨R1, R2, R3, R4⟩, ⟨A1, A2, A3, A4⟩, Hc, Hp, Hx⟩ Hk
  iapply (rs_init (off19 c)) $$ [R1 Hc Hp]
  · isplitl [R1]; · iexact R1
    isplitl [Hc]; · iexact Hc
    iexact Hp
  iintro ⟨R1, Hc, Hp⟩
  iapply (rs_init (off21 c)) $$ [R3 Hc Hp]
  · isplitl [R3]; · iexact R3
    isplitl [Hc]; · iexact Hc
    iexact Hp
  iintro ⟨R3, Hc, Hp⟩
  have start : iprop(ctx I κ ∗ net c (2 * l + 1) 0 ∗ slotPts rsCw c false (k0_pay42 (blk (I.prt l c) (sh c 16))) ∗ slotAny rsCw c true
      ∗ slotPts rsCcw c false (k0_pay42 (blk (I.prt l c) (sh c 17))) ∗ slotAny rsCcw c true ∗ cycPts c ∗ paccPts c (I.prt l c))
      ⊢ (rsSt I κ c (2 * l + 1) (2 * 0) : sProp 𝕄) := by
    unfold rsSt
    rw [hl2]
    exact BIBase.Entails.rfl
  ihave H := start $$ [HN R1 R2 R3 R4 Hc Hp]
  · isplitr; · iexact HC
    isplitl [HN]; · iexact HN
    isplitl [R1]; · iexact R1
    isplitl [R2]; · iexact R2
    isplitl [R3]; · iexact R3
    isplitl [R4]; · iexact R4
    isplitl [Hc]; · iexact Hc
    iexact Hp
  iapply (Scf.wp_for_bind frame (wpE (defs₀ (F := F)) Variants.none (c : Thread nD τ) none) Set.univ _ _ _ _ _ _
    (fun n _ => (rsSt I κ c (2 * l + 1) (2 * n) : sProp 𝕄)) ?_) $$ H
  · intro n acc
    have hn : n.val < 7 := n.isLt
    unfold rsPair
    iintro H
    iapply (rs_step hP hP2 (h := 2 * n.val) (by omega) (s := false) (s' := true) (by simp [odd]) rfl
      (off23 c n) (off25 c n)) $$ H
    iintro H
    iapply (rs_step hP hP2 (h := 2 * n.val + 1) (by omega) (s := true) (s' := false) (by simp [odd]) rfl
      (o := k0_off27 (pw c) n) (by rw [show 15 - (2 * n.val + 1) = 14 - 2 * n.val by omega]; exact off27 c n)
      (o' := k0_off29 (pw c) n) (by rw [show 18 + (2 * n.val + 1) = 19 + 2 * n.val by omega]; exact off29 c n)) $$ H
    iintro H
    rw [Prog.pure_eq_ret, wp_ret]
    imodintro
    iexact H
  iintro %acc H
  have H14 : (rsSt I κ c (2 * l + 1) (2 * k0_t2_loop.trips) : sProp 𝕄) = rsSt I κ c (2 * l + 1) 14 := by rw [trips2]
  ihave H := (show (rsSt I κ c (2 * l + 1) (2 * k0_t2_loop.trips) : sProp 𝕄) ⊢ rsSt I κ c (2 * l + 1) 14 from H14 ▸ BIBase.Entails.rfl) $$ H
  iapply (rs_last hP hP2 (off31 c)) $$ H
  unfold rsEnd
  rw [hl2]
  iintro ⟨-, HN, R1, R2, R3, R4, Hc, Hp⟩
  iapply ld_slot $$ R1
  iintro R1
  iapply ld_slot $$ R4
  iintro R4
  iapply (ld_blk_pacc (off33 c)) $$ Hp
  iintro Hp
  iapply st_xg_own $$ Hx
  iintro %f1 %h1 Hx
  iapply st_ag $$ A1
  iintro A1
  iapply st_ag $$ A3
  iintro A3
  iapply Hk
  ihave HN := (net_next c (2 * l + 1)) $$ [HN HT]
  · isplitl [HN]; · iexact HN
    iexact HT
  ihave R1 := (slot_any _ _ _ _) $$ R1
  ihave R4 := (slot_any _ _ _ _) $$ R4
  isplitl [HN A1 A2 A3 A4 Hc Hx]
  · iapply (ag_start (f := f1) (by rw [hl3]; exact h1))
    rw [hl3]
    isplitr; · iexact HC
    isplitl [HN]; · iexact HN
    isplitl [A1]; · iexact A1
    isplitl [A2]; · iexact A2
    isplitl [A3]; · iexact A3
    isplitl [A4]; · iexact A4
    isplitl [Hc]; · iexact Hc
    iexact Hx
  isplitr [Hp]
  · isplitl [R1]; · iexact R1
    isplitl [R2]; · iexact R2
    isplitl [R3]; · iexact R3
    iexact R4
  iexact Hp

/-! ## A layer's partial product -/

/-- A whole memref, read. -/
theorem ld_owns {s : Shape} {e : EltTy} {m : Memref sig .tc .vmem s e} {o : Fin s.rank → ℕ} (ho : ∀ a, o a = 0) {hb : ∀ a, o a + s.size a ≤ s.size a} {hl}
    {v : Vec F s e} {k : Vec F s e → PT F PUnit} :
    (owns (c : Thread nD τ) m fullShare v : sProp 𝕄) ⊢ iprop((owns (c : Thread nD τ) m fullShare v -∗ wp frame (wpE (defs₀ (F := F)) Variants.none (c : Thread nD τ) none) Set.univ (k v) Q)
      -∗ wp frame (wpE (defs₀ (F := F)) Variants.none (c : Thread nD τ) none) Set.univ ((Prog.lift (.load m (Rect.unit (s := s) o s.size hb).toLoadRect hl) : PT F (Vec F s e)) >>= k) Q) := by
  have he : ∀ i, (Rect.unit (s := s) o s.size hb).emb i = i := fun i => funext fun a => Fin.ext (by
    rw [Rect.emb_apply]; show o a + 1 * (i a).val = (i a).val; rw [ho]; omega)
  unfold owns
  iintro ⟨%f, %hf, H⟩ Hk
  iapply (wp_load_rect Variants.none (c : Thread nD τ) none Set.univ (m := m) (r := Rect.unit (s := s) o s.size hb) (k := k) (q := fullShare) (f := f)
    (S := m.view.set) (m.view.set_slice_subset _)) $$ H
  iintro H
  rw [show (m.access (Rect.unit (s := s) o s.size hb)).read (Elt F) f = v from by
    funext i
    rw [← hf]
    exact congrArg (m.view.read (Elt F) f) (he i)]
  iapply Hk
  iexists f
  isplitr
  · ipureintro; exact hf
  iexact H

/-- The partial product is there for the rows before a chunk. -/
def rowsTo (k : ℕ) (p g : Vec F S8192x256 .f32) : Prop := ∀ j, (chOf j).val < k → g j = p j

theorem st_chunk (n : Fin 8) (N : ℕ) (hN : n.val = N) {o : Fin 2 → Nat} (e : o = ![1024 * n.val, 0]) {ho : ∀ a, o a + S1024x256.size a ≤ S8192x256.size a}
    {w : Vec F S256x512 .bf16} {u : Vec F S512x256 .bf16} {x : Vec F S8192x256 .bf16} {k : PUnit → PT F PUnit} :
    iprop(xgPts c x ∗ (∃ g, ⌜rowsTo N (part w u x) g⌝ ∗ paccPts c g)) ⊢ iprop(((xgPts c x ∗ (∃ g, ⌜rowsTo (N + 1) (part w u x) g⌝ ∗ paccPts c g)) -∗ wp frame (wpE (defs₀ (F := F)) Variants.none (c : Thread nD τ) none) Set.univ (k ⟨⟩) Q)
      -∗ wp frame (wpE (defs₀ (F := F)) Variants.none (c : Thread nD τ) none) Set.univ ((chunk o ho w u : PT F PUnit) >>= k) Q) := by
  unfold chunk
  simp only [bind_assoc]
  iintro ⟨Hx, %g, %hg, Hp⟩ Hk
  iapply (ld_xg (r := Rect.unit (s := S8192x256) o S1024x256.size ho)) $$ Hx
  iintro Hx
  iapply (ld_pacc (r := Rect.unit (s := S8192x256) o S1024x256.size ho)) $$ Hp
  iintro Hp
  iapply (st_pacc (r := Rect.unit (s := S8192x256) o S1024x256.size ho)) $$ Hp
  iintro %g' %hg' Hp
  iapply Hk
  isplitl [Hx]; · iexact Hx
  iexists g'
  isplitr
  · ipureintro
    intro j hj
    by_cases hc : chOf j = n
    · have := hg'.1 (inCh j)
      rw [emb_ch n o e, ← hc, chIdx_inCh] at this
      rw [this]
      unfold part
      simp only [emb_ch n o e, hc]
      rfl
    · rw [hg'.2 j fun i h => hc (by rw [emb_ch n o e] at h; rw [← h, chOf_chIdx])]
      exact hg j (by have : (chOf j).val ≠ n.val := fun h => hc (Fin.ext h); omega)
  iexact Hp

theorem st_compute {winM : Memref sig .tc .vmem S256x512 .bf16} {woutM : Memref sig .tc .vmem S512x256 .bf16}
    {w : Vec F S256x512 .bf16} {u : Vec F S512x256 .bf16} {x : Vec F S8192x256 .bf16} {k : PUnit → PT F PUnit} :
    iprop(owns (c : Thread nD τ) winM fullShare w ∗ owns (c : Thread nD τ) woutM fullShare u ∗ xgPts c x ∗ ∃ g, paccPts c g)
      ⊢ iprop(((owns (c : Thread nD τ) winM fullShare w ∗ owns (c : Thread nD τ) woutM fullShare u ∗ xgPts c x ∗ paccPts c (part w u x)) -∗ wp frame (wpE (defs₀ (F := F)) Variants.none (c : Thread nD τ) none) Set.univ (k ⟨⟩) Q)
      -∗ wp frame (wpE (defs₀ (F := F)) Variants.none (c : Thread nD τ) none) Set.univ ((compute winM woutM : PT F PUnit) >>= k) Q) := by
  unfold compute
  simp only [bind_assoc]
  iintro ⟨Hw, Hu, Hx, %g, Hp⟩ Hk
  iapply (ld_owns (by decide)) $$ Hw
  iintro Hw
  iapply (ld_owns (by decide)) $$ Hu
  iintro Hu
  ihave H := (show iprop(xgPts c x ∗ paccPts c g) ⊢ (iprop(xgPts c x ∗ (∃ g, ⌜rowsTo 0 (part w u x) g⌝ ∗ paccPts c g)) : sProp 𝕄) from by
    iintro ⟨Hx, Hp⟩
    isplitl [Hx]; · iexact Hx
    iexists g
    isplitr
    · ipureintro; intro j hj; exact absurd hj (Nat.not_lt_zero _)
    iexact Hp) $$ [Hx Hp]
  · isplitl [Hx]; · iexact Hx
    iexact Hp
  iapply (st_chunk 0 0 rfl (by decide)) $$ H
  iintro H
  iapply (st_chunk 1 1 rfl (by decide)) $$ H
  iintro H
  iapply (st_chunk 2 2 rfl (by decide)) $$ H
  iintro H
  iapply (st_chunk 3 3 rfl (by decide)) $$ H
  iintro H
  iapply (st_chunk 4 4 rfl (by decide)) $$ H
  iintro H
  iapply (st_chunk 5 5 rfl (by decide)) $$ H
  iintro H
  iapply (st_chunk 6 6 rfl (by decide)) $$ H
  iintro H
  iapply (st_chunk 7 7 rfl (by decide)) $$ H
  iintro H
  icases H with ⟨Hx, %g', %hg, Hp⟩
  have e : g' = part w u x := funext fun j => hg j (chOf j).isLt
  subst e
  iapply Hk
  isplitl [Hw]; · iexact Hw
  isplitl [Hu]; · iexact Hu
  isplitl [Hx]; · iexact Hx
  iexact Hp

end Cert.KernelIdeal.Hand

end
-- ==== Proof.Ideal.Body.lean ====
/-
  The barrier, a layer, the result.
-/
module

public import proofs.«01_k».proof.Proof.Ideal.PhaseR

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ (UU nD τ) ℕ

variable {I : Inp F} {κ : GSem nD τ sig → ℕ}
variable {c : Dev nD} {Q : PUnit.{1} → sProp (MT nD τ sig ℕ (Elt F) ℕ (UU nD τ) ℕ)}

/-! ## The barrier -/

/-- What a device brings to the barrier. -/
def barPre (c : Dev nD) : sProp 𝕄 :=
  iprop(dutyTok ER (cell (prv c) .bar) 0 false ∗ dutyTok ER (cell (nxt c) .bar) 0 true ∗ cred (tallyAt (cell c .bar) 1 2)
    ∗ atPos ER (cell c .bar) 0 ∅ 0 ∗ reached ER (cell (prv c) .bar) 0 ∗ reached ER (cell (nxt c) .bar) 0)

theorem barrier_signal (c' : Dev nD) (b : Bool) {k : PUnit → PT F PUnit} (O : CellTallies nD τ sig ℕ) :
    iprop(ctx I κ ∗ owesX c (O + tallyAt (cell c' .bar) 1 1) ∗ dutyTok ER (cell c' .bar) 0 b ∗ kPay I .bar c' 0 b ∗ reached ER (cell c' .bar) 0)
      ⊢ iprop((owesX c O -∗ wp frame (wpE (defs₀ (F := F)) Variants.none (c : Thread nD τ) none) Set.univ (k ⟨⟩) Q) -∗ wp frame (wpE (defs₀ (F := F)) Variants.none (c : Thread nD τ) none) Set.univ ((semSignalWord c' barS 1#32 : PT F PUnit) >>= k) Q) := by
  iintro ⟨#HC, HO, Htok, Hs, #Hr⟩ Hk
  unfold owesX
  icases HO with ⟨%W, HO⟩
  have e : semOf .bar = .reg barS := rfl
  iapply (Rounds.wp_signal Variants.none ER (sched I) (c : Thread nD τ) none (dst := (c' : Thread nD τ)) (sem := barS) (κ := κ (cell c' .bar))
      (r := 0) (d := b) (k' := 1) (k := k) (by rw [← e]; exact mem_bar I c' b)
      (by rw [← e]; exact (amount_eq I _ _ _ _).trans rfl) 1 O (by rw [← e])) $$ [HO Htok Hs]
  · rw [← e, payload_eq I c' .bar]
    isplitr; · iapply (ctx_cell I κ c' .bar); iexact HC
    isplitl [HO]; · iexact HO
    isplitl [Htok]; · iexact Htok
    isplitl [Hs]; · iexact Hs
    iexact Hr
  iintro HO
  iapply Hk
  iexists W; iexact HO

theorem barrier_wait {k : PUnit → PT F PUnit} {O : CellTallies nD τ sig ℕ} (hO : Above 2 O) :
    iprop(ctx I κ ∗ cred (tallyAt (cell c .bar) 1 2) ∗ owesX c O ∗ atPos ER (cell c .bar) 0 ∅ 0)
      ⊢ iprop(((owesX c O ∗ atPos ER (cell c .bar) 1 ∅ 0 ∗ reached ER (cell (nxt c) .fccw) 0 ∗ reached ER (cell (prv c) .fcw) 0) -∗ wp frame (wpE (defs₀ (F := F)) Variants.none (c : Thread nD τ) none) Set.univ (k ⟨⟩) Q)
        -∗ wp frame (wpE (defs₀ (F := F)) Variants.none (c : Thread nD τ) none) Set.univ ((semWaitWord barS 2#32 : PT F PUnit) >>= k) Q) := by
  iintro ⟨#HC, Hc, HO, Hat⟩ Hk
  unfold owesX
  icases HO with ⟨%W, HO⟩
  have e : semOf .bar = .reg barS := rfl
  have hx := expect_bar I c
  have hrest := rest_bar I c
  unfold cell at hx hrest ⊢
  rw [e] at hx hrest ⊢
  iapply (Rounds.wp_wait_rest_token Variants.none ER (sched I) (c : Thread nD τ) none (κ := κ (cell c .bar)) (k := k) (sm := .reg barS)
      (wpE_semWait_eq Variants.none (c : Thread nD τ) none Set.univ) (Set.mem_univ _) 1 (O := O) (W := W) (R := 0) (m := 0) (T := ∅)
      (by rw [hx]; decide)) $$ [Hc HO Hat]
  · isplitr; · iapply (ctx_cell I κ c .bar); iexact HC
    isplitl [Hc]; · iexact Hc
    isplitl [HO]; · iexact HO
    isplitr; · iapply (ctx_wait I κ c _ hO (by decide)); iexact HC
    iexact Hat
  iintro ⟨HO, Hat, Hr, Hpay⟩
  ihave Hp := (Entails.of_eq hrest) $$ Hpay
  iapply Hk
  isplitl [HO]; · iexists _; iexact HO
  isplitl [Hat]; · iexact Hat
  iexact Hp

theorem barrier_wp {k : PUnit → PT F PUnit} :
    iprop(ctx I κ ∗ owesX c (O₀ c) ∗ barPre c ∗ reached ER (cell c .fcw) 0 ∗ reached ER (cell c .fccw) 0)
      ⊢ iprop(((owesX c (Owe c 0) ∗ atPos ER (cell c .bar) 1 ∅ 0 ∗ reached ER (cell (nxt c) .fccw) 0 ∗ reached ER (cell (prv c) .fcw) 0) -∗ wp frame (wpE (defs₀ (F := F)) Variants.none (c : Thread nD τ) none) Set.univ (k ⟨⟩) Q)
        -∗ wp frame (wpE (defs₀ (F := F)) Variants.none (c : Thread nD τ) none) Set.univ ((barrier (prv c) (nxt c) : PT F PUnit) >>= k) Q) := by
  unfold barrier barPre O₀
  simp only [bind_assoc]
  iintro ⟨#HC, HO, ⟨T1, T2, Hc, Hat, #R1, #R2⟩, #F1, #F2⟩ Hk
  iapply (barrier_signal (I := I) (κ := κ) (prv c) false) $$ [HO T1]
  · isplitr; · iexact HC
    isplitl [HO]; · iexact HO
    isplitl [T1]; · iexact T1
    isplitr
    · rw [show (kPay I .bar (prv c) 0 false : sProp 𝕄) = reached ER (cell (nxt (prv c)) .fccw) 0 from rfl, nxt_prv]
      iexact F2
    iexact R1
  iintro HO
  iapply (barrier_signal (I := I) (κ := κ) (nxt c) true) $$ [HO T2]
  · isplitr; · iexact HC
    isplitl [HO]; · iexact HO
    isplitl [T2]; · iexact T2
    isplitr
    · rw [show (kPay I .bar (nxt c) 0 true : sProp 𝕄) = reached ER (cell (prv (nxt c)) .fcw) 0 from rfl, prv_nxt]
      iexact F1
    iexact R2
  iintro HO
  iapply (barrier_wait (I := I) (κ := κ) (O := Owe c 0) (above_owe c (by decide))) $$ [HO Hc Hat]
  · isplitr; · iexact HC
    isplitl [Hc]; · iexact Hc
    isplitl [HO]; · iexact HO
    iexact Hat
  iexact Hk

/-! ## The positions at the start and at the end -/

def pos0 (c : Dev nD) (k : K) : sProp 𝕄 := iprop(atPos ER (cell c k) 0 ∅ 0 ∗ reached ER (cell c k) 0)
def pos9 (c : Dev nD) (k : K) : sProp 𝕄 := atPos ER (cell c k) (nRounds k) ∅ 0
/-- A direction's five cells. -/
def five (P : K → sProp (MT nD τ sig ℕ (Elt F) ℕ (UU nD τ) ℕ)) (d : Bool) : sProp 𝕄 :=
  iprop(P (Kf d) ∗ P (Kr d true) ∗ P (Ks d false) ∗ P (Kr d false) ∗ P (Ks d true))

theorem side_start (d : Bool) : iprop(five (pos0 c) d ∗ reached ER (cell (dn d c) (Kf d)) 0) ⊢ (side d c 0 0 : sProp 𝕄) := by
  unfold side ps five pos0
  simp only [show odd 0 = false from rfl, Bool.not_false]
  rw [show rnd (Kf d) 0 0 = 0 by cases d <;> rfl, show rnd (Kr d true) 0 0 = 0 by cases d <;> rfl, show rnd (Ks d false) 0 0 = 0 by cases d <;> rfl,
    show rnd (Kr d false) 0 0 = 0 by cases d <;> rfl, show rnd (Ks d true) 0 0 = 0 by cases d <;> rfl]
  iintro ⟨⟨H1, H2, H3, H4, H5⟩, H6⟩
  isplitl [H1]; · iexact H1
  isplitl [H2]; · iexact H2
  isplitl [H3]; · iexact H3
  isplitl [H4]; · iexact H4
  isplitl [H5]; · iexact H5
  iexact H6

theorem ps_end (k : K) (P h : ℕ) (e : rnd k P h = nRounds k) : (ps c k P h : sProp 𝕄) ⊢ pos9 c k := by
  unfold ps pos9
  rw [e]
  iintro ⟨H, -⟩
  iexact H
theorem side_end_t : (side true c 6 16 : sProp 𝕄) ⊢ five (pos9 c) true := by
  unfold side five
  simp only [show odd 16 = false from rfl, Bool.not_false]
  iintro ⟨H1, H2, H3, H4, H5, -⟩
  isplitl [H1]; · iapply (ps_end _ 6 16 (by rfl)) $$ H1
  isplitl [H2]; · iapply (ps_end _ 6 16 (by rfl)) $$ H2
  isplitl [H3]; · iapply (ps_end _ 6 16 (by rfl)) $$ H3
  isplitl [H4]; · iapply (ps_end _ 6 16 (by rfl)) $$ H4
  iapply (ps_end _ 6 16 (by rfl)) $$ H5
theorem side_end_f : (side false c 6 15 : sProp 𝕄) ⊢ five (pos9 c) false := by
  unfold side five
  simp only [show odd 15 = true from rfl, Bool.not_true]
  iintro ⟨H1, H2, H3, H4, H5, -⟩
  isplitl [H1]; · iapply (ps_end _ 6 15 (by rfl)) $$ H1
  isplitl [H4]; · iapply (ps_end _ 6 15 (by rfl)) $$ H4
  isplitl [H5]; · iapply (ps_end _ 6 15 (by rfl)) $$ H5
  isplitl [H2]; · iapply (ps_end _ 6 15 (by rfl)) $$ H2
  iapply (ps_end _ 6 15 (by rfl)) $$ H3

/-! ## The input, the layers, the result -/

theorem fill_wp {v : Vec F S256x256 .bf16} {f : Vec F S8192x256 .bf16} {k : PUnit → PT F PUnit} :
    iprop(owns (c : Thread nD τ) xM fullShare v ∗ xgPts c f ∗ slotAny agCw c false ∗ slotAny agCcw c false)
      ⊢ iprop((∀ f' : Vec F S8192x256 .bf16, ⌜blk f' c = k0_pay24 v⌝ -∗ (owns (c : Thread nD τ) xM fullShare v ∗ xgPts c f'
          ∗ slotPts agCw c false (k0_pay24 v) ∗ slotPts agCcw c false (k0_pay24 v)) -∗ wp frame (wpE (defs₀ (F := F)) Variants.none (c : Thread nD τ) none) Set.univ (k ⟨⟩) Q)
        -∗ wp frame (wpE (defs₀ (F := F)) Variants.none (c : Thread nD τ) none) Set.univ ((fill c : PT F PUnit) >>= k) Q) := by
  unfold fill
  simp only [bind_assoc]
  iintro ⟨Hv, Hx, A1, A2⟩ Hk
  iapply (ld_owns (by decide)) $$ Hv
  iintro Hv
  iapply st_xg_own $$ Hx
  iintro %f' %hf Hx
  iapply st_ag $$ A1
  iintro A1
  iapply st_ag $$ A2
  iintro A2
  iapply Hk $$ %f' %hf
  isplitl [Hv]; · iexact Hv
  isplitl [Hx]; · iexact Hx
  isplitl [A1]; · iexact A1
  iexact A2

/-- What a device holds between the phases besides the protocol. -/
def rest (c : Dev nD) : sProp 𝕄 := iprop(rsAny c ∗ ∃ g, paccPts c g)

theorem layer_wp {l : ℕ} (hl : l < 3) (h1 : k0_chk1 (pw c)) {winM : Memref sig .tc .vmem S256x512 .bf16} {woutM : Memref sig .tc .vmem S512x256 .bf16} {k : PUnit → PT F PUnit} :
    iprop(agEnd I κ c (2 * l) ∗ ticks c (2 * l + 1) 0 ∗ ticks c (2 * l + 2) 0 ∗ rest c
        ∗ owns (c : Thread nD τ) winM fullShare (I.win l c) ∗ owns (c : Thread nD τ) woutM fullShare (I.wout l c))
      ⊢ iprop(((agEnd I κ c (2 * l + 2) ∗ rest c ∗ owns (c : Thread nD τ) winM fullShare (I.win l c) ∗ owns (c : Thread nD τ) woutM fullShare (I.wout l c)) -∗ wp frame (wpE (defs₀ (F := F)) Variants.none (c : Thread nD τ) none) Set.univ (k ⟨⟩) Q)
        -∗ wp frame (wpE (defs₀ (F := F)) Variants.none (c : Thread nD τ) none) Set.univ ((layer c (pw c) h1 (prv c) (nxt c) winM woutM : PT F PUnit) >>= k) Q) := by
  unfold layer rest
  simp only [bind_assoc]
  iintro ⟨HA, T1, T2, ⟨HR, %g, Hp⟩, Hw, Hu⟩ Hk
  have ea : (agEnd I κ c (2 * l) : sProp 𝕄) ⊢ iprop(ctx I κ ∗ netEnd c (2 * l) ∗ agAny c ∗ cycPts c ∗ xgPts c (asm (I.X l))) := by
    unfold agEnd agAny
    rw [show 2 * l / 2 = l by omega]
    iintro ⟨H1, H2, H3, H4, H5, H6, H7, H8⟩
    isplitl [H1]; · iexact H1
    isplitl [H2]; · iexact H2
    isplitl [H3 H4 H5 H6]
    · isplitl [H3]; · iexact H3
      isplitl [H4]; · iexact H4
      isplitl [H5]; · iexact H5
      iexact H6
    isplitl [H7]; · iexact H7
    iexact H8
  ihave HA := ea $$ HA
  icases HA with ⟨#HC, HN, HG, Hc, Hx⟩
  iapply (st_compute (w := I.win l c) (u := I.wout l c) (x := asm (I.X l))) $$ [Hw Hu Hx Hp]
  · isplitl [Hw]; · iexact Hw
    isplitl [Hu]; · iexact Hu
    isplitl [Hx]; · iexact Hx
    iexists g; iexact Hp
  iintro ⟨Hw, Hu, Hx, Hp⟩
  ihave HN := (net_next c (2 * l)) $$ [HN T1]
  · isplitl [HN]; · iexact HN
    iexact T1
  iapply (rs_phase (I := I) (κ := κ) hl h1 (f := asm (I.X l))) $$ [HN T2 HR HG Hc Hp Hx]
  · isplitr; · iexact HC
    isplitl [HN]; · iexact HN
    isplitl [T2]; · iexact T2
    isplitl [HR]; · iexact HR
    isplitl [HG]; · iexact HG
    isplitl [Hc]; · iexact Hc
    isplitl [Hp]; · iexact Hp
    iexact Hx
  iintro ⟨HA, HR, Hp⟩
  iapply (ag_phase (P := 2 * l + 2) (by omega) (by omega) h1) $$ HA
  iintro HA
  iapply Hk
  isplitl [HA]; · iexact HA
  isplitl [HR Hp]
  · isplitl [HR]; · iexact HR
    iexists _; iexact Hp
  isplitl [Hw]; · iexact Hw
  iexact Hu

theorem st_owns {s : Shape} {e : EltTy} {m : Memref sig .tc .vmem s e} {o : Fin s.rank → ℕ} (ho : ∀ a, o a = 0) {hb : ∀ a, o a + s.size a ≤ s.size a}
    {w v : Vec F s e} {hx} {hm} {k : PUnit → PT F PUnit} :
    (owns (c : Thread nD τ) m fullShare v : sProp 𝕄) ⊢ iprop((owns (c : Thread nD τ) m fullShare w -∗ wp frame (wpE (defs₀ (F := F)) Variants.none (c : Thread nD τ) none) Set.univ (k ⟨⟩) Q)
      -∗ wp frame (wpE (defs₀ (F := F)) Variants.none (c : Thread nD τ) none) Set.univ ((Prog.lift (.store m (Rect.unit (s := s) o s.size hb) w Finset.univ hx hm) : PT F PUnit) >>= k) Q) := by
  have he : ∀ i, (Rect.unit (s := s) o s.size hb).emb i = i := fun i => funext fun a => Fin.ext (by
    rw [Rect.emb_apply]; show o a + 1 * (i a).val = (i a).val; rw [ho]; omega)
  unfold owns
  iintro ⟨%f, %hf, H⟩ Hk
  iapply (wp_store Variants.none (c : Thread nD τ) none Set.univ (m := m) (r := Rect.unit (s := s) o s.size hb) (w := w) (Mk := Finset.univ) (k := k) (f := f)
    (S := m.view.set) (m.view.set_slice_subset _)) $$ H
  iintro H
  iapply Hk
  iexists _
  isplitr; rotate_left
  · iexact H
  ipureintro
  funext i
  have := congrFun (View.read_write_univ (v := m.access (Rect.unit (s := s) o s.size hb)) f w) i
  rw [← this]
  exact congrArg (m.view.read (Elt F) _) (he i).symm

theorem output_wp {f : Vec F S8192x256 .bf16} {v : Vec F S8192x256 .f32} {k : PUnit → PT F PUnit} :
    iprop(xgPts c f ∗ owns (c : Thread nD τ) outM fullShare v)
      ⊢ iprop(((xgPts c f ∗ owns (c : Thread nD τ) outM fullShare (k0_pay1 f)) -∗ wp frame (wpE (defs₀ (F := F)) Variants.none (c : Thread nD τ) none) Set.univ (k ⟨⟩) Q) -∗ wp frame (wpE (defs₀ (F := F)) Variants.none (c : Thread nD τ) none) Set.univ ((output : PT F PUnit) >>= k) Q) := by
  have he : ∀ (hb : ∀ a, (![0, 0] : Fin 2 → ℕ) a + S8192x256.size a ≤ S8192x256.size a) i, (Rect.unit (s := S8192x256) ![0, 0] S8192x256.size hb).emb i = i := fun hb i => funext fun a => Fin.ext (by
    rw [Rect.emb_apply]; show (![0, 0] : Fin 2 → ℕ) a + 1 * (i a).val = (i a).val; rw [show (![0, 0] : Fin 2 → ℕ) a = 0 by revert a; decide]; omega)
  unfold output
  simp only [bind_assoc]
  iintro ⟨Hx, Hv⟩ Hk
  iapply (ld_xg (r := Rect.unit (s := S8192x256) ![0, 0] S8192x256.size inb_S8192x256_S8192x256_0_0)) $$ Hx
  iintro Hx
  simp only [he]
  iapply (ld_owns (by decide)) $$ Hv
  iintro Hv
  iapply (st_owns (by decide)) $$ Hv
  iintro Hv
  iapply Hk
  isplitl [Hx]; · iexact Hx
  iexact Hv

end Cert.KernelIdeal.Hand

end
-- ==== Proof.Ideal.Core.lean ====
/-
  The whole body.
-/
module

public import proofs.«01_k».proof.Proof.Ideal.Body

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ (UU nD τ) ℕ

variable {I : Inp F} {κ : GSem nD τ sig → ℕ}
variable {c : Dev nD} {Q : PUnit.{1} → sProp (MT nD τ sig ℕ (Elt F) ℕ (UU nD τ) ℕ)}

/-- All the tickets of a device. -/
def allTicks (c : Dev nD) : sProp 𝕄 :=
  iprop(ticks c 0 0 ∗ ticks c 1 0 ∗ ticks c 2 0 ∗ ticks c 3 0 ∗ ticks c 4 0 ∗ ticks c 5 0 ∗ ticks c 6 0)
/-- The device's slices of the weights. -/
def weights (I : Inp F) (c : Dev nD) : sProp 𝕄 :=
  iprop(owns (c : Thread nD τ) (Memref.whole cc0_stg3_0 : Memref sig .tc .vmem S256x512 .bf16) fullShare (I.win 0 c)
    ∗ owns (c : Thread nD τ) (Memref.whole cc0_stg4_0 : Memref sig .tc .vmem S512x256 .bf16) fullShare (I.wout 0 c)
    ∗ owns (c : Thread nD τ) (Memref.whole cc0_stg5_0 : Memref sig .tc .vmem S256x512 .bf16) fullShare (I.win 1 c)
    ∗ owns (c : Thread nD τ) (Memref.whole cc0_stg6_0 : Memref sig .tc .vmem S512x256 .bf16) fullShare (I.wout 1 c)
    ∗ owns (c : Thread nD τ) (Memref.whole cc0_stg7_0 : Memref sig .tc .vmem S256x512 .bf16) fullShare (I.win 2 c)
    ∗ owns (c : Thread nD τ) (Memref.whole cc0_stg8_0 : Memref sig .tc .vmem S512x256 .bf16) fullShare (I.wout 2 c))
/-- The kernel's own arrays, holding anything. -/
def bufs (c : Dev nD) : sProp 𝕄 := iprop((∃ f, xgPts c f) ∗ (∃ g, paccPts c g) ∗ rsAny c ∗ agAny c)
/-- The protocol's part at the start, and at the end. -/
def start (c : Dev nD) : sProp 𝕄 := iprop(five (pos0 c) true ∗ five (pos0 c) false ∗ barPre c ∗ owesX c (O₀ c) ∗ allTicks c)
def finish (c : Dev nD) : sProp 𝕄 := iprop(five (pos9 c) true ∗ five (pos9 c) false ∗ pos9 c .bar ∗ owesX c (Owe c 112))

theorem five_reached (d : Bool) : (five (pos0 c) d : sProp 𝕄) ⊢ reached ER (cell c (Kf d)) 0 := by
  unfold five pos0
  iintro ⟨⟨-, H⟩, -⟩
  iexact H

theorem core_wp (h1 : k0_chk1 (pw c)) {v : Vec F S8192x256 .f32} {k : PUnit → PT F PUnit} :
    iprop(ctx I κ ∗ start c ∗ bufs c ∗ cycPts c ∗ owns (c : Thread nD τ) xM fullShare (I.x c) ∗ weights I c ∗ owns (c : Thread nD τ) outM fullShare v)
      ⊢ iprop(((finish c ∗ bufs c ∗ cycPts c ∗ owns (c : Thread nD τ) xM fullShare (I.x c) ∗ weights I c
            ∗ owns (c : Thread nD τ) outM fullShare (k0_pay1 (asm (I.X 3)))) -∗ wp frame (wpE (defs₀ (F := F)) Variants.none (c : Thread nD τ) none) Set.univ (k ⟨⟩) Q)
        -∗ wp frame (wpE (defs₀ (F := F)) Variants.none (c : Thread nD τ) none) Set.univ ((core c (pw c) h1 (prv c) (nxt c) : PT F PUnit) >>= k) Q) := by
  unfold core start bufs weights allTicks agAny
  simp only [bind_assoc]
  iintro ⟨#HC, ⟨F1, F2, HB, HO, T0, T1, T2, T3, T4, T5, T6⟩, ⟨⟨%f, Hx⟩, HP, HR, A1, A2, A3, A4⟩, Hc, Hv, ⟨W0, W1, W2, W3, W4, W5⟩, Ho⟩ Hk
  ihave #R1 := (five_reached true) $$ F1
  ihave #R2 := (five_reached false) $$ F2
  iapply (barrier_wp (I := I) (κ := κ)) $$ [HO HB]
  · isplitr; · iexact HC
    isplitl [HO]; · iexact HO
    isplitl [HB]; · iexact HB
    isplitr; · iexact R1
    iexact R2
  iintro ⟨HO, HQ, #R3, #R4⟩
  ihave F1 := (side_start (c := c) true) $$ [F1]
  · isplitl [F1]; · iexact F1
    iexact R4
  ihave F2 := (side_start (c := c) false) $$ [F2]
  · isplitl [F2]; · iexact F2
    iexact R3
  iapply (fill_wp (v := I.x c)) $$ [Hv Hx A1 A3]
  · isplitl [Hv]; · iexact Hv
    isplitl [Hx]; · iexact Hx
    isplitl [A1]; · iexact A1
    iexact A3
  iintro %f1 %hf ⟨Hv, Hx, A1, A3⟩
  iapply (ag_phase (I := I) (κ := κ) (P := 0) (by omega) (by omega) h1) $$ [F1 F2 HO T0 A1 A2 A3 A4 Hc Hx]
  · iapply (ag_start (f := f1) (by exact hf))
    isplitr; · iexact HC
    isplitl [F1 F2 HO T0]
    · unfold net
      isplitl [F1]; · iexact F1
      isplitl [F2]; · iexact F2
      isplitl [HO]; · iexact HO
      iexact T0
    isplitl [A1]; · iexact A1
    isplitl [A2]; · iexact A2
    isplitl [A3]; · iexact A3
    isplitl [A4]; · iexact A4
    isplitl [Hc]; · iexact Hc
    iexact Hx
  iintro HA
  ihave HR := (show iprop(rsAny c ∗ ∃ g, paccPts c g) ⊢ (rest c : sProp 𝕄) from by unfold rest; exact BIBase.Entails.rfl) $$ [HR HP]
  · isplitl [HR]; · iexact HR
    iexact HP
  iapply (layer_wp (l := 0) (by omega) h1) $$ [HA T1 T2 HR W0 W1]
  · isplitl [HA]; · iexact HA
    isplitl [T1]; · iexact T1
    isplitl [T2]; · iexact T2
    isplitl [HR]; · iexact HR
    isplitl [W0]; · iexact W0
    iexact W1
  iintro ⟨HA, HR, W0, W1⟩
  iapply (layer_wp (l := 1) (by omega) h1) $$ [HA T3 T4 HR W2 W3]
  · isplitl [HA]; · iexact HA
    isplitl [T3]; · iexact T3
    isplitl [T4]; · iexact T4
    isplitl [HR]; · iexact HR
    isplitl [W2]; · iexact W2
    iexact W3
  iintro ⟨HA, HR, W2, W3⟩
  iapply (layer_wp (l := 2) (by omega) h1) $$ [HA T5 T6 HR W4 W5]
  · isplitl [HA]; · iexact HA
    isplitl [T5]; · iexact T5
    isplitl [T6]; · iexact T6
    isplitl [HR]; · iexact HR
    isplitl [W4]; · iexact W4
    iexact W5
  iintro ⟨HA, HR, W4, W5⟩
  have ea : (agEnd I κ c (2 * 2 + 2) : sProp 𝕄) ⊢ iprop(netEnd c 6 ∗ agAny c ∗ cycPts c ∗ xgPts c (asm (I.X 3))) := by
    unfold agEnd agAny
    iintro ⟨-, H2, H3, H4, H5, H6, H7, H8⟩
    isplitl [H2]; · iexact H2
    isplitl [H3 H4 H5 H6]
    · isplitl [H3]; · iexact H3
      isplitl [H4]; · iexact H4
      isplitl [H5]; · iexact H5
      iexact H6
    isplitl [H7]; · iexact H7
    iexact H8
  ihave HA := ea $$ HA
  unfold netEnd
  icases HA with ⟨⟨F1, F2, HO⟩, HG, Hc, Hx⟩
  iapply output_wp $$ [Hx Ho]
  · isplitl [Hx]; · iexact Hx
    iexact Ho
  iintro ⟨Hx, Ho⟩
  iapply Hk
  unfold finish rest
  icases HR with ⟨HR, HP⟩
  isplitl [F1 F2 HQ HO]
  · isplitl [F1]; · iapply side_end_t $$ F1
    isplitl [F2]; · iapply side_end_f $$ F2
    isplitl [HQ]; · unfold pos9; iexact HQ
    iexact HO
  isplitl [Hx HP HR HG]
  · isplitl [Hx]; · iexists _; iexact Hx
    isplitl [HP]; · iexact HP
    isplitl [HR]; · iexact HR
    unfold agAny
    iexact HG
  isplitl [Hc]; · iexact Hc
  isplitl [Hv]; · iexact Hv
  isplitl [W0 W1 W2 W3 W4 W5]
  · isplitl [W0]; · iexact W0
    isplitl [W1]; · iexact W1
    isplitl [W2]; · iexact W2
    isplitl [W3]; · iexact W3
    isplitl [W4]; · iexact W4
    iexact W5
  iexact Ho

theorem hand_wp {v : Vec F S8192x256 .f32} :
    iprop(ctx I κ ∗ start c ∗ bufs c ∗ cycPts c ∗ posPts c ∗ owns (c : Thread nD τ) xM fullShare (I.x c) ∗ weights I c ∗ owns (c : Thread nD τ) outM fullShare v)
      ⊢ iprop(((finish c ∗ bufs c ∗ cycPts c ∗ posPts c ∗ owns (c : Thread nD τ) xM fullShare (I.x c) ∗ weights I c
            ∗ owns (c : Thread nD τ) outM fullShare (k0_pay1 (asm (I.X 3)))) -∗ Q ⟨⟩)
        -∗ wp frame (wpE (defs₀ (F := F)) Variants.none (c : Thread nD τ) none) Set.univ ((handBody : PT F PUnit)) Q) := by
  rw [← bind_pure (handBody : PT F PUnit)]
  unfold handBody
  simp only [bind_assoc]
  iintro ⟨#HC, HS, HB, Hc, Hp, Hv, HW, Ho⟩ Hk
  iapply (Entails.of_eq (wp_deviceId Variants.none (c : Thread nD τ) none Set.univ).symm)
  iapply rd_pos $$ Hp
  iintro Hp
  iapply (wp_assume Variants.none (c : Thread nD τ) none Set.univ (chk1 c))
  iapply (rd_cyc (off2 c)) $$ Hc
  iintro Hc
  iapply (wp_assume Variants.none (c : Thread nD τ) none Set.univ (chk3 (sh c 1)))
  iapply (rd_cyc (off3 c)) $$ Hc
  iintro Hc
  iapply (wp_assume Variants.none (c : Thread nD τ) none Set.univ (chk2 (sh c 31)))
  have e1 : (⟨k0_dev1 (BitVec.ofNat 32 (sh c 31).val), k0_dev1_lt _ (chk2 (sh c 31))⟩ : Dev nD) = prv c := Fin.ext (dev1 (sh c 31))
  have e2 : (⟨k0_dev2 (BitVec.ofNat 32 (sh c 1).val), k0_dev2_lt _ (chk3 (sh c 1))⟩ : Dev nD) = nxt c := Fin.ext (dev2 (sh c 1))
  simp only [e1, e2]
  iapply (core_wp (I := I) (κ := κ) (chk1 c)) $$ [HS HB Hc Hv HW Ho]
  · isplitr; · iexact HC
    isplitl [HS]; · iexact HS
    isplitl [HB]; · iexact HB
    isplitl [Hc]; · iexact Hc
    isplitl [Hv]; · iexact Hv
    isplitl [HW]; · iexact HW
    iexact Ho
  iintro ⟨HF, HB, Hc, Hv, HW, Ho⟩
  rw [Prog.pure_eq_ret, wp_ret]
  imodintro
  iapply Hk
  isplitl [HF]; · iexact HF
  isplitl [HB]; · iexact HB
  isplitl [Hc]; · iexact Hc
  isplitl [Hp]; · iexact Hp
  isplitl [Hv]; · iexact Hv
  isplitl [HW]; · iexact HW
  iexact Ho

end Cert.KernelIdeal.Hand

end
-- ==== Proof.Ideal.Tokens.lean ====
/-
  What the launch deals: the duties' tokens to the devices that pay them, the credits to the devices that wait.
-/
module

public import proofs.«01_k».proof.Proof.Ideal.Core
public import Mathlib.Algebra.BigOperators.Intervals

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ (UU nD τ) ℕ

/-! ## The credits -/

/-- What a device of a direction is owed at a step. -/
def crs (d : Bool) (c : Dev nD) (P h : ℕ) : sProp 𝕄 :=
  iprop(cred (tallyAt (cell c (Kf d)) (fIx P h) 1) ∗ cred (tallyAt (cell c (Kr d (!odd h))) (cIx P h) (amt P)))
/-- What a device of a direction owes at a step. -/
def dbt (d : Bool) (c : Dev nD) (P h : ℕ) : CellTallies nD τ sig ℕ :=
  tallyAt (cell (up d c) (Kr d (!odd h))) (cIx P h) (amt P) + tallyAt (cell (dn d c) (Kf d)) (fIx P h) 1

theorem cell_inj {a b : Dev nD} {k k' : K} (h : cell a k = cell b k') : a = b ∧ k = k' :=
  ⟨Fin.ext (congrArg (fun g : GSem nD τ sig => g.1.1.val) h), semOf_inj (congrArg Prod.snd h)⟩

/-- One unit owed around the ring is one unit waited for. -/
theorem lc_one (e : Dev nD ≃ Dev nD) (k : K) (i n : ℕ) (c : Dev nD) :
    (Pipeline.launchCred (fun d => tallyAt (cell (e d) k) i n) c : sProp 𝕄) ⊢ cred (tallyAt (cell c k) i n) := by
  refine (Pipeline.launchCred_elim _ c (semOf k)).trans (Entails.of_eq (congrArg _ ?_))
  show _ = tallyOn (cell c k) (Finsupp.single i n)
  refine congrArg _ (Finsupp.ext fun u => ?_)
  rw [Pipeline.launchCredit_owing, Finset.sum_eq_single (e.symm c)]
  · rw [Equiv.apply_symm_apply, tallyAt_apply, Finsupp.single_apply]
    by_cases h : i = u
    · subst h; rw [if_pos ⟨rfl, rfl⟩, if_pos rfl]
    · rw [if_neg (fun h' => h h'.2.symm), if_neg h]
  · intro b _ hb
    rw [tallyAt_apply, if_neg]
    rintro ⟨h, -⟩
    refine hb ?_
    rw [(cell_inj h).1, Equiv.symm_apply_apply]
  · intro h; exact absurd (Finset.mem_univ _) h

theorem lc_sum (s : Finset ℕ) (f : ℕ → Dev nD → CellTallies nD τ sig ℕ) (c : Dev nD) :
    (Pipeline.launchCred (fun d => ∑ i ∈ s, f i d) c : sProp 𝕄) ⊢ bigSep s fun i => Pipeline.launchCred (f i) c := by
  induction s using Finset.induction_on with
  | empty => rw [bigSep_empty]; iintro -; iempintro
  | insert a s ha ih =>
    simp only [Finset.sum_insert ha]
    rw [Pipeline.launchCred_add (f a) (fun d => ∑ i ∈ s, f i d), sep_insert ha]
    exact sep_mono_right ih

def upE (d : Bool) : Dev nD ≃ Dev nD := if d then ring else ring.symm
theorem upE_up (d : Bool) (c : Dev nD) : upE d c = up d c := by cases d <;> rfl
theorem upE_dn (d : Bool) (c : Dev nD) : (upE d).symm c = dn d c := by cases d <;> rfl

theorem lc_dbt (d : Bool) (P h : ℕ) (c : Dev nD) :
    (Pipeline.launchCred (fun e => dbt d e P h) c : sProp 𝕄) ⊢ crs d c P h := by
  unfold dbt crs
  rw [Pipeline.launchCred_add (fun e => tallyAt (cell (up d e) (Kr d (!odd h))) (cIx P h) (amt P)) (fun e => tallyAt (cell (dn d e) (Kf d)) (fIx P h) 1)]
  simp only [← upE_up, ← upE_dn]
  iintro ⟨H1, H2⟩
  isplitl [H2]
  · iapply (lc_one (upE d).symm (Kf d) (fIx P h) 1 c) $$ H2
  · iapply (lc_one (upE d) (Kr d (!odd h)) (cIx P h) (amt P) c) $$ H1

/-- A phase's debts. -/
def phaseDebt (c : Dev nD) (P : ℕ) : CellTallies nD τ sig ℕ :=
  ∑ h ∈ Finset.Ico 0 16, dbt true c P h + ∑ h ∈ Finset.Ico 0 15, dbt false c P h

theorem hop_debt (c : Dev nD) {P h : ℕ} (hh : h < 16) :
    hopDebt c (16 * P + h) = dbt true c P h + if h < 15 then dbt false c P h else 0 := by
  unfold hopDebt
  rw [show (16 * P + h) / 16 = P by omega, show (16 * P + h) % 16 = h by omega]
  rfl

theorem owe_phase (c : Dev nD) {P : ℕ} (hP : P < 7) : Owe c (16 * P) = phaseDebt c P + Owe c (16 * (P + 1)) := by
  unfold Owe phaseDebt
  rw [← Finset.sum_Ico_consecutive _ (show 16 * P ≤ 16 * (P + 1) by omega) (show 16 * (P + 1) ≤ 112 by omega)]
  congr 1
  have e := Finset.sum_Ico_add' (fun i => hopDebt c i) 0 16 (16 * P)
  rw [show 0 + 16 * P = 16 * P by omega, show 16 + 16 * P = 16 * (P + 1) by omega] at e
  rw [← e, Finset.sum_congr rfl (fun h hh => by rw [Nat.add_comm h, hop_debt c (Finset.mem_Ico.mp hh).2]), Finset.sum_add_distrib]
  congr 1
  rw [Finset.sum_Ico_succ_top (by omega : 0 ≤ 15), if_neg (by omega), add_zero]
  exact Finset.sum_congr rfl fun h hh => if_pos (Finset.mem_Ico.mp hh).2

/-- A phase's credits. -/
def phaseCreds (c : Dev nD) (P : ℕ) : sProp 𝕄 :=
  iprop(bigSep (Finset.Ico 0 16) (crs true c P) ∗ bigSep (Finset.Ico 0 15) (crs false c P))

theorem lc_phase (c : Dev nD) {P : ℕ} (hP : P < 7) :
    (Pipeline.launchCred (fun d => Owe d (16 * P)) c : sProp 𝕄) ⊢ iprop(phaseCreds c P ∗ Pipeline.launchCred (fun d => Owe d (16 * (P + 1))) c) := by
  rw [show (fun d => Owe d (16 * P)) = (fun d => phaseDebt d P + Owe d (16 * (P + 1))) from funext fun d => owe_phase d hP,
    Pipeline.launchCred_add (fun d => phaseDebt d P)]
  refine sep_mono_left ?_
  unfold phaseDebt phaseCreds
  rw [Pipeline.launchCred_add (fun d => ∑ h ∈ Finset.Ico 0 16, dbt true d P h)]
  exact BIClass.sep_mono ((lc_sum _ (fun h d => dbt true d P h) c).trans (bigSep_mono fun h _ => lc_dbt true P h c))
    ((lc_sum _ (fun h d => dbt false d P h) c).trans (bigSep_mono fun h _ => lc_dbt false P h c))

/-- Seven of a thing. -/
def seven (Φ : ℕ → sProp (MT nD τ sig ℕ (Elt F) ℕ (UU nD τ) ℕ)) : sProp 𝕄 :=
  iprop(Φ 0 ∗ Φ 1 ∗ Φ 2 ∗ Φ 3 ∗ Φ 4 ∗ Φ 5 ∗ Φ 6)

theorem lc_all (c : Dev nD) :
    (Pipeline.launchCred O₀ c : sProp 𝕄) ⊢ iprop(seven (phaseCreds c) ∗ cred (tallyAt (cell c .bar) 1 2)) := by
  have e : (O₀ : Dev nD → CellTallies nD τ sig ℕ) = (fun d => (fun d => (fun d => Owe d (16 * 0)) d + (fun d => tallyAt (cell (ring d) .bar) 1 1) d) d
      + (fun d => tallyAt (cell (ring.symm d) .bar) 1 1) d) := rfl
  rw [e, Pipeline.launchCred_add, Pipeline.launchCred_add]
  unfold seven
  iintro ⟨⟨H, B1⟩, B2⟩
  ihave B1 := (lc_one ring .bar 1 1 c) $$ B1
  ihave B2 := (lc_one ring.symm .bar 1 1 c) $$ B2
  ihave H := (lc_phase c (P := 0) (by omega)) $$ H
  icases H with ⟨H0, H⟩
  ihave H := (lc_phase c (P := 1) (by omega)) $$ H
  icases H with ⟨H1, H⟩
  ihave H := (lc_phase c (P := 2) (by omega)) $$ H
  icases H with ⟨H2, H⟩
  ihave H := (lc_phase c (P := 3) (by omega)) $$ H
  icases H with ⟨H3, H⟩
  ihave H := (lc_phase c (P := 4) (by omega)) $$ H
  icases H with ⟨H4, H⟩
  ihave H := (lc_phase c (P := 5) (by omega)) $$ H
  icases H with ⟨H5, H⟩
  ihave H := (lc_phase c (P := 6) (by omega)) $$ H
  icases H with ⟨H6, -⟩
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  · rw [show (tallyAt (cell c .bar) 1 2 : CellTallies nD τ sig ℕ) = tallyAt (cell c .bar) 1 1 + tallyAt (cell c .bar) 1 1 from (tallyAt_add (cell c .bar) 1 1 1).symm]
    iapply (cred_add _ _).2
    isplitl [B1]; · iexact B1
    iexact B2

/-! ## The tokens -/

/-- The duties a device of a direction pays at a step, by kind. -/
def tokOf (d : Bool) (x : Dev nD × ℕ × ℕ × Fin 3) : GSem nD τ sig × ℕ × Bool :=
  match x.2.2.2 with
  | 0 => (cell (dn d x.1) (Kf d), rnd (Kf d) x.2.1 x.2.2.1, false)
  | 1 => (cell (up d x.1) (Kr d (!odd x.2.2.1)), rnd (Kr d (!odd x.2.2.1)) x.2.1 x.2.2.1, false)
  | 2 => (cell x.1 (Ks d (odd x.2.2.1)), rnd (Ks d (odd x.2.2.1)) x.2.1 x.2.2.1, false)
/-- All the steps of a direction. -/
def steps (d : Bool) : Finset (Dev nD × ℕ × ℕ × Fin 3) := Finset.univ ×ˢ Finset.range 7 ×ˢ Finset.Ico 0 (lim d) ×ˢ Finset.univ
def barTok (x : Dev nD × Bool) : GSem nD τ sig × ℕ × Bool := (cell (if x.2 then nxt x.1 else prv x.1) .bar, 0, x.2)
def toks : Finset (GSem nD τ sig × ℕ × Bool) := (Finset.univ.image barTok ∪ (steps true).image (tokOf true)) ∪ (steps false).image (tokOf false)

/-- Which kind of cell, whose token. -/
def kOf (d : Bool) (h : ℕ) (w : Fin 3) : K := match w with | 0 => Kf d | 1 => Kr d (!odd h) | 2 => Ks d (odd h)
def devOf (d : Bool) (c : Dev nD) (w : Fin 3) : Dev nD := match w with | 0 => dn d c | 1 => up d c | 2 => c
theorem tokOf_eq (d : Bool) (c : Dev nD) (P h : ℕ) (w : Fin 3) :
    tokOf d (c, P, h, w) = (cell (devOf d c w) (kOf d h w), rnd (kOf d h w) P h, false) := by
  match w with | 0 => rfl | 1 => rfl | 2 => rfl
theorem kOf_inj {d d' : Bool} {h h' : ℕ} {w w' : Fin 3} (e : kOf d h w = kOf d' h' w') : d = d' ∧ w = w' := by
  match w, w' with
  | 0, 0 => cases d <;> cases d' <;> simp [kOf, Kf] at e ⊢
  | 1, 1 => cases d <;> cases d' <;> simp [kOf, Kr] at e ⊢
  | 2, 2 => cases d <;> cases d' <;> simp [kOf, Ks] at e ⊢
  | 0, 1 => cases d <;> cases d' <;> simp [kOf, Kf, Kr] at e
  | 0, 2 => cases d <;> cases d' <;> simp [kOf, Kf, Ks] at e
  | 1, 0 => cases d <;> cases d' <;> simp [kOf, Kf, Kr] at e
  | 1, 2 => cases d <;> cases d' <;> simp [kOf, Ks, Kr] at e
  | 2, 0 => cases d <;> cases d' <;> simp [kOf, Kf, Ks] at e
  | 2, 1 => cases d <;> cases d' <;> simp [kOf, Ks, Kr] at e
theorem kOf_ne (d : Bool) (h : ℕ) (w : Fin 3) : kOf d h w ≠ .bar := by
  match w with | 0 => exact Kf_ne d | 1 => exact Kr_ne _ _ | 2 => exact Ks_ne _ _
theorem dec_kOf {d : Bool} {P h : ℕ} (hh : h < lim d) (w : Fin 3) : dec (kOf d h w) (rnd (kOf d h w) P h) = (P, h) := by
  match w with
  | 0 => cases d; exact dec_fccw hh; exact dec_fcw hh
  | 1 => cases d; exact dec_rccw hh; exact dec_rcw hh
  | 2 => cases d; exact dec_sccw hh; exact dec_scw hh
theorem devOf_inj {d : Bool} {c c' : Dev nD} {w : Fin 3} (h : devOf d c w = devOf d c' w) : c = c' := by
  match w with
  | 0 => have := congrArg (up d) h; simpa only [devOf, up_dn] using this
  | 1 => have := congrArg (dn d) h; simpa only [devOf, dn_up] using this
  | 2 => exact h

theorem steps_lt {d : Bool} {x : Dev nD × ℕ × ℕ × Fin 3} (hx : x ∈ steps d) : x.2.2.1 < lim d := by
  unfold steps at hx
  simp only [Finset.mem_product, Finset.mem_Ico] at hx
  exact hx.2.2.1.2

theorem tok_inj {d d' : Bool} {x x' : Dev nD × ℕ × ℕ × Fin 3} (hx : x ∈ steps d) (hx' : x' ∈ steps d')
    (e : tokOf d x = tokOf d' x') : d = d' ∧ x = x' := by
  have hl := steps_lt hx
  have hl' := steps_lt hx'
  obtain ⟨c, P, h, w⟩ := x
  obtain ⟨c', P', h', w'⟩ := x'
  rw [tokOf_eq, tokOf_eq] at e
  obtain ⟨e1, e2⟩ := cell_inj (congrArg Prod.fst e)
  have e3 : rnd (kOf d h w) P h = rnd (kOf d' h' w') P' h' := congrArg (fun y => y.2.1) e
  obtain ⟨rfl, rfl⟩ := kOf_inj e2
  have e4 := dec_kOf (P := P) hl w
  rw [e3, e2, dec_kOf hl' w] at e4
  obtain ⟨rfl, rfl⟩ := Prod.mk.inj e4
  obtain rfl := devOf_inj e1
  exact ⟨rfl, rfl⟩

theorem barTok_inj : Function.Injective barTok := by
  rintro ⟨c, b⟩ ⟨c', b'⟩ e
  obtain rfl : b = b' := congrArg (fun y => y.2.2) e
  have e1 := (cell_inj (congrArg Prod.fst e)).1
  cases b
  · have := congrArg nxt e1; simp only [Bool.false_eq_true, if_false, nxt_prv] at this; rw [this]
  · have := congrArg prv e1; simp only [if_true, prv_nxt] at this; rw [this]

theorem union_sep {I : Type} [DecidableEq I] {s t : Finset I} (h : Disjoint s t) (Φ : I → sProp (MT nD τ sig ℕ (Elt F) ℕ (UU nD τ) ℕ)) :
    bigSep (s ∪ t) Φ = iprop(bigSep s Φ ∗ bigSep t Φ) := bigSep_union h
/-- A separating conjunction over pairs, one coordinate after the other. -/
theorem pair_sep {A B : Type} [DecidableEq A] [DecidableEq B] (s : Finset A) (t : Finset B) (Φ : A × B → sProp (MT nD τ sig ℕ (Elt F) ℕ (UU nD τ) ℕ)) :
    bigSep (s ×ˢ t) Φ = bigSep s fun a => bigSep t fun b => Φ (a, b) := by
  induction s using Finset.induction_on with
  | empty => rw [Finset.empty_product, bigSep_empty, bigSep_empty]
  | insert a s ha ih =>
    rw [show insert a s ×ˢ t = t.image (Prod.mk a) ∪ s ×ˢ t from by
        ext ⟨x, y⟩; simp only [Finset.mem_product, Finset.mem_insert, Finset.mem_union, Finset.mem_image, Prod.mk.injEq]
        constructor
        · rintro ⟨rfl | h, h'⟩
          · exact Or.inl ⟨y, h', rfl, rfl⟩
          · exact Or.inr ⟨h, h'⟩
        · rintro (⟨z, h, rfl, rfl⟩ | ⟨h, h'⟩)
          · exact ⟨Or.inl rfl, h⟩
          · exact ⟨Or.inr h, h'⟩, union_sep, sep_insert ha, ih,
      bigSep_image_of_injOn (fun x _ y _ e => (Prod.mk.inj e).2)]
    rw [Finset.disjoint_left]
    intro x h1 h2
    obtain ⟨y, -, rfl⟩ := Finset.mem_image.mp h1
    exact ha (Finset.mem_product.mp h2).1

/-- A step's tokens of a device. -/
def tks (d : Bool) (c : Dev nD) (P h : ℕ) : sProp 𝕄 :=
  iprop(dutyTok ER (cell (dn d c) (Kf d)) (rnd (Kf d) P h) false ∗ dutyTok ER (cell (up d c) (Kr d (!odd h))) (rnd (Kr d (!odd h)) P h) false
    ∗ dutyTok ER (cell c (Ks d (odd h))) (rnd (Ks d (odd h)) P h) false)

theorem fin3_sep (Φ : Fin 3 → sProp (MT nD τ sig ℕ (Elt F) ℕ (UU nD τ) ℕ)) : bigSep Finset.univ Φ = iprop(Φ 0 ∗ Φ 1 ∗ Φ 2) :=
  bigSep_univ_eq_bigSepL [0, 1, 2] (by decide) (by decide) Φ
theorem bool_sep (Φ : Bool → sProp (MT nD τ sig ℕ (Elt F) ℕ (UU nD τ) ℕ)) : bigSep Finset.univ Φ = iprop(Φ false ∗ Φ true) :=
  bigSep_univ_eq_bigSepL [false, true] (by decide) (by decide) Φ
theorem seven_sep (Φ : ℕ → sProp (MT nD τ sig ℕ (Elt F) ℕ (UU nD τ) ℕ)) : bigSep (Finset.range 7) Φ = seven Φ :=
  bigSep_eq_bigSepL_of_eq [0, 1, 2, 3, 4, 5, 6] (by decide) (by decide) Φ

theorem steps_sep (d : Bool) :
    bigSep ((steps d).image (tokOf d)) (fun x => (dutyTok ER x.1 x.2.1 x.2.2 : sProp 𝕄))
      = bigSep Finset.univ fun c : Dev nD => seven fun P => bigSep (Finset.Ico 0 (lim d)) (tks d c P) := by
  rw [bigSep_image_of_injOn (fun x hx x' hx' e => (tok_inj (Finset.mem_coe.mp hx) (Finset.mem_coe.mp hx') e).2)]
  unfold steps
  rw [pair_sep]
  refine bigSep_congr fun c _ => ?_
  rw [pair_sep, ← seven_sep]
  refine bigSep_congr fun P _ => ?_
  rw [pair_sep]
  refine bigSep_congr fun h _ => ?_
  rw [fin3_sep]
  rfl

theorem bar_sep :
    bigSep (Finset.univ.image barTok) (fun x => (dutyTok ER x.1 x.2.1 x.2.2 : sProp 𝕄))
      = bigSep Finset.univ fun c : Dev nD => iprop(dutyTok ER (cell (prv c) .bar) 0 false ∗ dutyTok ER (cell (nxt c) .bar) 0 true) := by
  rw [bigSep_image_of_injOn (fun x _ x' _ e => barTok_inj e), bigSep_univ_prod]
  exact bigSep_congr fun c _ => bool_sep _

/-- A device's tokens. -/
def allToks (c : Dev nD) : sProp 𝕄 :=
  iprop((dutyTok ER (cell (prv c) .bar) 0 false ∗ dutyTok ER (cell (nxt c) .bar) 0 true)
    ∗ (seven fun P => bigSep (Finset.Ico 0 16) (tks true c P)) ∗ (seven fun P => bigSep (Finset.Ico 0 15) (tks false c P)))

theorem toks_sep : bigSep toks (fun x => (dutyTok ER x.1 x.2.1 x.2.2 : sProp 𝕄)) ⊢ bigSep Finset.univ fun c : Dev nD => allToks c := by
  have d1 : Disjoint (Finset.univ.image barTok ∪ (steps true).image (tokOf true)) ((steps false).image (tokOf false)) := by
    rw [Finset.disjoint_left]
    intro a h1 h2
    obtain ⟨y, hy, rfl⟩ := Finset.mem_image.mp h2
    rcases Finset.mem_union.mp h1 with h | h
    · obtain ⟨x, -, e⟩ := Finset.mem_image.mp h
      obtain ⟨c', P', h', w'⟩ := y
      rw [tokOf_eq] at e
      exact kOf_ne _ _ _ (cell_inj (congrArg Prod.fst e)).2.symm
    · obtain ⟨x, hx, e⟩ := Finset.mem_image.mp h
      exact absurd (tok_inj hx hy e).1 (by decide)
  have d2 : Disjoint (Finset.univ.image barTok) ((steps true).image (tokOf true)) := by
    rw [Finset.disjoint_left]
    intro a h1 h2
    obtain ⟨y, hy, rfl⟩ := Finset.mem_image.mp h2
    obtain ⟨x, -, e⟩ := Finset.mem_image.mp h1
    obtain ⟨c', P', h', w'⟩ := y
    rw [tokOf_eq] at e
    exact kOf_ne _ _ _ (cell_inj (congrArg Prod.fst e)).2.symm
  unfold toks
  rw [union_sep d1, union_sep d2, bar_sep, steps_sep, steps_sep, ← bigSep_sep', ← bigSep_sep']
  exact bigSep_mono fun c _ => show iprop(((dutyTok ER (cell (prv c) .bar) 0 false ∗ dutyTok ER (cell (nxt c) .bar) 0 true)
      ∗ (seven fun P => bigSep (Finset.Ico 0 16) (tks true c P))) ∗ (seven fun P => bigSep (Finset.Ico 0 15) (tks false c P))) ⊢ allToks c from by
    unfold allToks
    iintro ⟨⟨H1, H2⟩, H3⟩
    isplitl [H1]; · iexact H1
    isplitl [H2]; · iexact H2
    iexact H3

theorem tick_make (d : Bool) (c : Dev nD) (P h : ℕ) : iprop(tks d c P h ∗ crs d c P h) ⊢ (tick d c P h : sProp 𝕄) := by
  unfold tks crs tick
  iintro ⟨⟨H1, H2, H3⟩, H4, H5⟩
  isplitl [H1]; · iexact H1
  isplitl [H2]; · iexact H2
  isplitl [H3]; · iexact H3
  isplitl [H4]; · iexact H4
  iexact H5

theorem ticks_make (c : Dev nD) (P : ℕ) :
    iprop(bigSep (Finset.Ico 0 16) (tks true c P) ∗ bigSep (Finset.Ico 0 15) (tks false c P) ∗ phaseCreds c P) ⊢ (ticks c P 0 : sProp 𝕄) := by
  unfold phaseCreds ticks
  iintro ⟨H1, H2, H3, H4⟩
  isplitl [H1 H3]
  · iapply (show iprop(bigSep (Finset.Ico 0 16) (tks true c P) ∗ bigSep (Finset.Ico 0 16) (crs true c P)) ⊢ (bigSep (Finset.Ico 0 16) (tick true c P) : sProp 𝕄) from by
      rw [← bigSep_sep']; exact bigSep_mono fun h _ => tick_make true c P h)
    isplitl [H1]; · iexact H1
    iexact H3
  · iapply (show iprop(bigSep (Finset.Ico 0 15) (tks false c P) ∗ bigSep (Finset.Ico 0 15) (crs false c P)) ⊢ (bigSep (Finset.Ico 0 15) (tick false c P) : sProp 𝕄) from by
      rw [← bigSep_sep']; exact bigSep_mono fun h _ => tick_make false c P h)
    isplitl [H2]; · iexact H2
    iexact H4

theorem all_ticks (c : Dev nD) : iprop((seven fun P => bigSep (Finset.Ico 0 16) (tks true c P)) ∗ (seven fun P => bigSep (Finset.Ico 0 15) (tks false c P)) ∗ seven (phaseCreds c))
    ⊢ (allTicks c : sProp 𝕄) := by
  have e : (allTicks c : sProp 𝕄) = bigSep (Finset.range 7) fun P => ticks c P 0 := by rw [seven_sep]; rfl
  rw [e, ← seven_sep, ← seven_sep, ← seven_sep, ← bigSep_sep', ← bigSep_sep']
  exact bigSep_mono fun P _ => ticks_make c P

end Cert.KernelIdeal.Hand

end
-- ==== Proof.Ideal.Blocks.lean ====
/-
  The kernel's two-slot buffers and the blocks its windows fetch.
-/
module

public import proofs.«01_k».proof.Proof.Ideal.Tokens
public import proofs.«01_k».proof.Proof.Gen.KernelIdeal.Frame
public import proofs.«01_k».proof.Proof.Gen.KernelIdeal.Launch
public import Idealize.ShloMosaic.Lib.Pipeline.Regions
public import Idealize.ShloMosaic.Lib.Pipeline.Kit
public import Idealize.ShloMosaic.Lib.Tactic

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ (UU nD τ) ℕ

/-! ## The two-slot buffers -/

omit [FloatOps F] in
theorem two_parts {ℓ : Loc nD τ sig} {A B : Finset (Idx ℓ)} (hd : Disjoint A B) (hu : A ∪ B = Finset.univ) :
    (iprop(∃ f : Buf (Elt F) ℓ, ℓ ↦{fullShare} f) : sProp 𝕄) ⊣⊢ iprop((∃ f : Buf (Elt F) ℓ, ℓ ↦[A]{fullShare} f) ∗ (∃ f : Buf (Elt F) ℓ, ℓ ↦[B]{fullShare} f)) := by
  constructor
  · iintro ⟨%f, H⟩
    rw [← hu]
    ihave H := (pointsTo_union hd).1 $$ H
    icases H with ⟨H1, H2⟩
    isplitl [H1]
    · iexists f; iexact H1
    · iexists f; iexact H2
  · iintro ⟨⟨%f, H1⟩, ⟨%g, H2⟩⟩
    ihave H := (pointsTo_join hd) $$ [H1 H2]
    · isplitl [H1]; · iexact H1
      iexact H2
    rw [hu]
    iexists _; iexact H

theorem slots_disj : Disjoint (slotR false).set (slotR true).set := Rect.unit_disjoint 0 (Or.inl (by decide))
theorem slots_univ : (slotR false).set ∪ (slotR true).set = Finset.univ := by
  refine Finset.eq_univ_of_forall fun i => Finset.mem_union.mpr ?_
  have h0 : (i 0 : ℕ) < 512 := (i 0).isLt
  have h1 : (i 1 : ℕ) < 256 := (i 1).isLt
  rw [Rect.mem_set_unit, Rect.mem_set_unit, Fin.forall_fin_two, Fin.forall_fin_two]
  show (0 ≤ (i 0 : ℕ) ∧ (i 0 : ℕ) < 0 + 256) ∧ (0 ≤ (i 1 : ℕ) ∧ (i 1 : ℕ) < 0 + 256) ∨ (256 ≤ (i 0 : ℕ) ∧ (i 0 : ℕ) < 256 + 256) ∧ (0 ≤ (i 1 : ℕ) ∧ (i 1 : ℕ) < 0 + 256)
  omega

theorem set_rsCw (b : Bool) : (slot rsCw b).view.set = (slotR b).set := View.set_slice_whole _ _
theorem two_rsCw (c : Dev nD) : (iprop(∃ f : Buf (Elt F) ((c : Thread nD τ).loc cc0_scratch2), ((c : Thread nD τ).loc cc0_scratch2) ↦{fullShare} f) : sProp 𝕄)
    ⊣⊢ iprop(slotAny rsCw c false ∗ slotAny rsCw c true) := by
  unfold slotAny
  exact two_parts (by rw [set_rsCw, set_rsCw]; exact slots_disj) (by rw [set_rsCw, set_rsCw]; exact slots_univ)

theorem set_rsCcw (b : Bool) : (slot rsCcw b).view.set = (slotR b).set := View.set_slice_whole _ _
theorem two_rsCcw (c : Dev nD) : (iprop(∃ f : Buf (Elt F) ((c : Thread nD τ).loc cc0_scratch3), ((c : Thread nD τ).loc cc0_scratch3) ↦{fullShare} f) : sProp 𝕄)
    ⊣⊢ iprop(slotAny rsCcw c false ∗ slotAny rsCcw c true) := by
  unfold slotAny
  exact two_parts (by rw [set_rsCcw, set_rsCcw]; exact slots_disj) (by rw [set_rsCcw, set_rsCcw]; exact slots_univ)

theorem set_agCw (b : Bool) : (slot agCw b).view.set = (slotR b).set := View.set_slice_whole _ _
theorem two_agCw (c : Dev nD) : (iprop(∃ f : Buf (Elt F) ((c : Thread nD τ).loc cc0_scratch4), ((c : Thread nD τ).loc cc0_scratch4) ↦{fullShare} f) : sProp 𝕄)
    ⊣⊢ iprop(slotAny agCw c false ∗ slotAny agCw c true) := by
  unfold slotAny
  exact two_parts (by rw [set_agCw, set_agCw]; exact slots_disj) (by rw [set_agCw, set_agCw]; exact slots_univ)

theorem set_agCcw (b : Bool) : (slot agCcw b).view.set = (slotR b).set := View.set_slice_whole _ _
theorem two_agCcw (c : Dev nD) : (iprop(∃ f : Buf (Elt F) ((c : Thread nD τ).loc cc0_scratch5), ((c : Thread nD τ).loc cc0_scratch5) ↦{fullShare} f) : sProp 𝕄)
    ⊣⊢ iprop(slotAny agCcw c false ∗ slotAny agCcw c true) := by
  unfold slotAny
  exact two_parts (by rw [set_agCcw, set_agCcw]; exact slots_disj) (by rw [set_agCcw, set_agCcw]; exact slots_univ)

/-- The kernel's own arrays are the scoped buffers no window stages. -/
theorem bufs_of_scoped (c : Dev nD) : (Pipeline.scopedRest (Ix := ℕ) (Name := ℕ) (U := UU nD τ) (Lvl := ℕ) (Val := Elt F) spec0 c : sProp 𝕄) ⊢ bufs c := by
  rw [scopedRest0_eq]
  unfold bufs rsAny agAny xgPts paccPts
  iintro ⟨H0, H1, H2, H3, H4, H5⟩
  ihave H2 := (two_rsCw c).1 $$ H2
  icases H2 with ⟨A, B⟩
  ihave H3 := (two_rsCcw c).1 $$ H3
  icases H3 with ⟨C, D⟩
  ihave H4 := (two_agCw c).1 $$ H4
  icases H4 with ⟨A', B'⟩
  ihave H5 := (two_agCcw c).1 $$ H5
  icases H5 with ⟨C', D'⟩
  isplitl [H0]; · iexact H0
  isplitl [H1]; · iexact H1
  isplitl [A B C D]
  · isplitl [A]; · iexact A
    isplitl [B]; · iexact B
    isplitl [C]; · iexact C
    iexact D
  isplitl [A']; · iexact A'
  isplitl [B']; · iexact B'
  isplitl [C']; · iexact C'
  iexact D'
theorem scoped_of_bufs (c : Dev nD) : (bufs c : sProp 𝕄) ⊢ Pipeline.scopedRest (Ix := ℕ) (Name := ℕ) (U := UU nD τ) (Lvl := ℕ) (Val := Elt F) spec0 c := by
  rw [scopedRest0_eq]
  unfold bufs rsAny agAny xgPts paccPts
  iintro ⟨H0, H1, ⟨A, B, C, D⟩, A', B', C', D'⟩
  isplitl [H0]; · iexact H0
  isplitl [H1]; · iexact H1
  isplitl [A B]
  · iapply (two_rsCw c).2
    isplitl [A]; · iexact A
    iexact B
  isplitl [C D]
  · iapply (two_rsCcw c).2
    isplitl [C]; · iexact C
    iexact D
  isplitl [A' B']
  · iapply (two_agCw c).2
    isplitl [A']; · iexact A'
    iexact B'
  iapply (two_agCcw c).2
  isplitl [C']; · iexact C'
  iexact D'

/-! ## The windows' blocks -/

variable (m : (ℓ : Loc nD τ sig) → Buf (Elt F) ℓ)

/-- The inputs, of the launch's memory. -/
def inp : Inp F where
  x c := m ((c : Thread nD τ).loc main_arg0)
  win l c := match l with
    | 0 => m ((c : Thread nD τ).loc main_arg1)
    | 1 => m ((c : Thread nD τ).loc main_arg3)
    | _ => m ((c : Thread nD τ).loc main_arg5)
  wout l c := match l with
    | 0 => m ((c : Thread nD τ).loc main_arg2)
    | 1 => m ((c : Thread nD τ).loc main_arg4)
    | _ => m ((c : Thread nD τ).loc main_arg6)

theorem V_main_c (c : Dev nD) : V m c main_c = (cycT : Vec F S32 .i32) := by
  show StableHlo.after hostOps0 _ (Proc.devRef .tc main_c) = _
  after_results
  rfl
theorem V_main_c_0 (c : Dev nD) : V m c main_c_0 = (posT : Vec F S32 .i32) := by
  show StableHlo.after hostOps0 _ (Proc.devRef .tc main_c_0) = _
  after_results
  rfl

theorem blk_0 (c : Dev nD) : iblk m c 0 t0_0 = cycT := by
  unfold iblk
  funext i
  show V m c main_c ((win0_0.rect t0_0).emb i) = _
  rw [V_main_c]
  refine congrArg _ (funext fun a => Fin.ext ?_)
  rw [Rect.emb_apply]
  match a with
  | 0 => show 0 + 1 * (i 0).val = (i 0).val; omega

theorem blk_1 (c : Dev nD) : iblk m c 1 t0_0 = posT := by
  unfold iblk
  funext i
  show V m c main_c_0 ((win0_1.rect t0_0).emb i) = _
  rw [V_main_c_0]
  refine congrArg _ (funext fun a => Fin.ext ?_)
  rw [Rect.emb_apply]
  match a with
  | 0 => show 0 + 1 * (i 0).val = (i 0).val; omega

theorem blk_2 (c : Dev nD) : iblk m c 2 t0_0 = m ((c : Thread nD τ).loc main_arg0) := by
  unfold iblk
  funext i
  show V m c main_arg0 ((win0_2.rect t0_0).emb i) = _
  rw [V_main_arg0]
  refine congrArg _ (funext fun a => Fin.ext ?_)
  rw [Rect.emb_apply]
  match a with
  | 0 => show 0 + 1 * (i 0).val = (i 0).val; omega
  | 1 => show 0 + 1 * (i 1).val = (i 1).val; omega

theorem blk_3 (c : Dev nD) : iblk m c 3 t0_0 = m ((c : Thread nD τ).loc main_arg1) := by
  unfold iblk
  funext i
  show V m c main_arg1 ((win0_3.rect t0_0).emb i) = _
  rw [V_main_arg1]
  refine congrArg _ (funext fun a => Fin.ext ?_)
  rw [Rect.emb_apply]
  match a with
  | 0 => show 0 + 1 * (i 0).val = (i 0).val; omega
  | 1 => show 0 + 1 * (i 1).val = (i 1).val; omega

theorem blk_4 (c : Dev nD) : iblk m c 4 t0_0 = m ((c : Thread nD τ).loc main_arg2) := by
  unfold iblk
  funext i
  show V m c main_arg2 ((win0_4.rect t0_0).emb i) = _
  rw [V_main_arg2]
  refine congrArg _ (funext fun a => Fin.ext ?_)
  rw [Rect.emb_apply]
  match a with
  | 0 => show 0 + 1 * (i 0).val = (i 0).val; omega
  | 1 => show 0 + 1 * (i 1).val = (i 1).val; omega

theorem blk_5 (c : Dev nD) : iblk m c 5 t0_0 = m ((c : Thread nD τ).loc main_arg3) := by
  unfold iblk
  funext i
  show V m c main_arg3 ((win0_5.rect t0_0).emb i) = _
  rw [V_main_arg3]
  refine congrArg _ (funext fun a => Fin.ext ?_)
  rw [Rect.emb_apply]
  match a with
  | 0 => show 0 + 1 * (i 0).val = (i 0).val; omega
  | 1 => show 0 + 1 * (i 1).val = (i 1).val; omega

theorem blk_6 (c : Dev nD) : iblk m c 6 t0_0 = m ((c : Thread nD τ).loc main_arg4) := by
  unfold iblk
  funext i
  show V m c main_arg4 ((win0_6.rect t0_0).emb i) = _
  rw [V_main_arg4]
  refine congrArg _ (funext fun a => Fin.ext ?_)
  rw [Rect.emb_apply]
  match a with
  | 0 => show 0 + 1 * (i 0).val = (i 0).val; omega
  | 1 => show 0 + 1 * (i 1).val = (i 1).val; omega

theorem blk_7 (c : Dev nD) : iblk m c 7 t0_0 = m ((c : Thread nD τ).loc main_arg5) := by
  unfold iblk
  funext i
  show V m c main_arg5 ((win0_7.rect t0_0).emb i) = _
  rw [V_main_arg5]
  refine congrArg _ (funext fun a => Fin.ext ?_)
  rw [Rect.emb_apply]
  match a with
  | 0 => show 0 + 1 * (i 0).val = (i 0).val; omega
  | 1 => show 0 + 1 * (i 1).val = (i 1).val; omega

theorem blk_8 (c : Dev nD) : iblk m c 8 t0_0 = m ((c : Thread nD τ).loc main_arg6) := by
  unfold iblk
  funext i
  show V m c main_arg6 ((win0_8.rect t0_0).emb i) = _
  rw [V_main_arg6]
  refine congrArg _ (funext fun a => Fin.ext ?_)
  rw [Rect.emb_apply]
  match a with
  | 0 => show 0 + 1 * (i 0).val = (i 0).val; omega
  | 1 => show 0 + 1 * (i 1).val = (i 1).val; omega

end Cert.KernelIdeal.Hand

end
-- ==== Proof.Ideal.Launch.lean ====
/-
  The launch's proof data: the kernel's own cells opened and closed, the body's obligation.
-/
module

public import proofs.«01_k».proof.Proof.Ideal.Blocks
public import Idealize.ShloMosaic.Lib.Rounds.Family

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ (UU nD τ) ℕ

open Idealize.ShloMosaic.Pipeline (Dat Cfg BodyObligation cellOf)

variable (m : (ℓ : Loc nD τ sig) → Buf (Elt F) ℓ)

/-! ## The kernel's own cells -/

/-- The cells that are the kernel's own: all but the barrier's. -/
abbrev K10 : Type := {k : K // k ≠ .bar}
def osem (k : K10) : SemLoc sig := semOf k.1

def ten : List K10 := [⟨.fcw, nofun⟩, ⟨.rcw true, nofun⟩, ⟨.scw false, nofun⟩, ⟨.rcw false, nofun⟩, ⟨.scw true, nofun⟩,
    ⟨.fccw, nofun⟩, ⟨.rccw true, nofun⟩, ⟨.sccw false, nofun⟩, ⟨.rccw false, nofun⟩, ⟨.sccw true, nofun⟩]
theorem ten_sep (P : K → sProp (MT nD τ sig ℕ (Elt F) ℕ (UU nD τ) ℕ)) :
    bigSep Finset.univ (fun k : K10 => P k.1) ⊣⊢ iprop(five P true ∗ five P false) := by
  rw [bigSep_univ_eq_bigSepL ten (by decide) (by decide)]
  unfold five
  show iprop(P .fcw ∗ P (.rcw true) ∗ P (.scw false) ∗ P (.rcw false) ∗ P (.scw true) ∗ P .fccw ∗ P (.rccw true) ∗ P (.sccw false) ∗ P (.rccw false) ∗ P (.sccw true))
    ⊣⊢ iprop((P .fcw ∗ P (.rcw true) ∗ P (.scw false) ∗ P (.rcw false) ∗ P (.scw true)) ∗ P .fccw ∗ P (.rccw true) ∗ P (.sccw false) ∗ P (.rccw false) ∗ P (.sccw true))
  constructor
  · iintro ⟨H1, H2, H3, H4, H5, H⟩
    isplitr [H]
    · isplitl [H1]; · iexact H1
      isplitl [H2]; · iexact H2
      isplitl [H3]; · iexact H3
      isplitl [H4]; · iexact H4
      iexact H5
    iexact H
  · iintro ⟨⟨H1, H2, H3, H4, H5⟩, H⟩
    isplitl [H1]; · iexact H1
    isplitl [H2]; · iexact H2
    isplitl [H3]; · iexact H3
    isplitl [H4]; · iexact H4
    isplitl [H5]; · iexact H5
    iexact H

/-- The right to open a device's cells. -/
def openToks (c : Dev nD) : sProp 𝕄 := bigSep Finset.univ fun k : K10 => openTok ER (cell c k.1)

theorem ctx_all (I : Inp F) (κ : GSem nD τ sig → ℕ) (c : Dev nD) :
    ctx I κ ⊢ (bigSep Finset.univ fun k : K10 => cellInv ER (sched I) (κ (cell c k.1)) (cell c k.1) : sProp 𝕄) :=
  BI.bigSep_intro_persistent fun k _ => ctx_cell I κ c k.1

/-- A device opens its cells, -/
theorem open_cells (I : Inp F) (κ : GSem nD τ sig → ℕ) (c : Dev nD) :
    iprop(ctx I κ ∗ openToks c ∗ Pipeline.ownSems0 osem c) ⊢ (|={Set.univ}=> iprop(five (pos0 c) true ∗ five (pos0 c) false) : sProp 𝕄) := by
  unfold openToks Pipeline.ownSems0
  iintro ⟨#HC, HT, HS⟩
  imod (Rounds.cells_open ER (sched I) Finset.univ (fun k : K10 => cell c k.1) (fun k => κ (cell c k.1)) (Es := Set.univ) (fun _ _ => Set.mem_univ _)) $$ [HT HS] with H
  · isplitl [HT]
    · iapply (show iprop(bigSep Finset.univ (fun k : K10 => cellInv ER (sched I) (κ (cell c k.1)) (cell c k.1)) ∗ bigSep Finset.univ (fun k : K10 => openTok ER (cell c k.1)))
          ⊢ (bigSep Finset.univ fun k : K10 => iprop(cellInv ER (sched I) (κ (cell c k.1)) (cell c k.1) ∗ openTok ER (cell c k.1)) : sProp 𝕄) from by rw [← bigSep_sep'])
      isplitr; · iapply (ctx_all I κ c); iexact HC
      iexact HT
    · iexact HS
  imodintro
  iapply (ten_sep (pos0 c)).1
  iexact H
/-- and closes them at the end, the barrier's too. -/
theorem close_cells (I : Inp F) (κ : GSem nD τ sig → ℕ) (c : Dev nD) :
    iprop(ctx I κ ∗ five (pos9 c) true ∗ five (pos9 c) false ∗ pos9 c .bar) ⊢ (|={Set.univ}=> iprop(Pipeline.ownSems0 osem c ∗ semVal (cell c .bar) 0) : sProp 𝕄) := by
  unfold Pipeline.ownSems0
  iintro ⟨#HC, H1, H2, HB⟩
  ihave H := (ten_sep (pos9 c)).2 $$ [H1 H2]
  · isplitl [H1]; · iexact H1
    iexact H2
  imod (Rounds.cells_close ER (sched I) Finset.univ (fun k : K10 => cell c k.1) (fun k => κ (cell c k.1)) (Es := Set.univ) (fun _ _ => Set.mem_univ _)
    (fun _ _ h => h) (fun k => nRounds k.1) (fun k _ r h => duties_late I c k.1 h)) $$ [H] with H
  · iapply (show iprop(bigSep Finset.univ (fun k : K10 => cellInv ER (sched I) (κ (cell c k.1)) (cell c k.1)) ∗ bigSep Finset.univ (fun k : K10 => pos9 c k.1))
        ⊢ (bigSep Finset.univ fun k : K10 => iprop(cellInv ER (sched I) (κ (cell c k.1)) (cell c k.1) ∗ atPos ER (cell c k.1) (nRounds k.1) ∅ 0) : sProp 𝕄) from by unfold pos9; rw [← bigSep_sep'])
    isplitr; · iapply (ctx_all I κ c); iexact HC
    iexact H
  imod (Rounds.cell_close ER (sched I) (g := cell c .bar) (κ := κ (cell c .bar)) (Es := Set.univ) (Set.mem_univ _) (fun h => h) (R := nRounds .bar) (fun r h => duties_late I c .bar h)) $$ [HB] with HB
  · isplitr; · iapply (ctx_cell I κ c .bar); iexact HC
    unfold pos9; iexact HB
  imodintro
  isplitl [H]; · iexact H
  iexact HB

/-! ## The region's proof data -/

/-- What the launch deals a device of the protocol. -/
def dealt (c : Dev nD) : sProp 𝕄 := iprop((∃ κ, ctx (inp m) κ) ∗ openToks c ∗ barPre c ∗ allTicks c)
/-- What the body finds: the device's cells opened, the kernel's own arrays. -/
def opened (c : Dev nD) : sProp 𝕄 := iprop((∃ κ, ctx (inp m) κ) ∗ five (pos0 c) true ∗ five (pos0 c) false ∗ barPre c ∗ allTicks c)
/-- What the body leaves: the cells closed. -/
def closed0 (c : Dev nD) : sProp 𝕄 := iprop(bufs c ∗ Pipeline.ownSems0 osem c ∗ semVal (cell c .bar) 0)
/-- The result. -/
def res : Vec F S8192x256 .f32 := k0_pay1 (asm ((inp m).X 3))

def dat0 (c : Dev nD) : Dat τ (Elt F) ℕ ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => res m
    | ⟨_ + 10, h⟩ => absurd h (Nat.not_lt.2 (Nat.le_add_left _ _))
  Φ t := if t.val = 0 then iprop(opened m c ∗ bufs c) else closed0 c
  q _ := fullShare
  owed t := if t.val = 0 then O₀ c else 0

abbrev adm : (p : Fin 1) → (pcfgs (F := F) p).Adm := fun p => (cfgs p).toPCfg_adm
def pdats : (p : Fin 1) → (c : Dev nD) → Dat τ (Elt F) ℕ ℕ (UU nD τ) ℕ (Pipeline.pin (pcfgs (F := F)) adm p) c
  | 0 => dat0 m

theorem owed_zero (c : Dev nD) : (pdats m 0 c).owed 0 = O₀ c := by
  show (if ((0 : Fin (cfg0.N + 1)).val = 0) then O₀ c else 0) = O₀ c; exact if_pos rfl
theorem owed_first (c : Dev nD) : (dat0 m c).owed t0_0.castSucc = O₀ c := by
  show (if (t0_0.castSucc : Fin (cfg0.N + 1)).val = 0 then O₀ c else 0) = O₀ c; exact if_pos rfl
theorem owed_last (c : Dev nD) : (pdats m 0 c).owed (Fin.last _) = 0 := by
  show (if (Fin.last cfg0.N).val = 0 then O₀ c else 0) = 0
  rw [Fin.val_last, if_neg (by rw [show cfg0.N = 1 from N_0]; decide)]

theorem owesAt_intro {cfg : Cfg sig Λ₀} {c : Dev nD} (dat : Dat τ (Elt F) ℕ ℕ (UU nD τ) ℕ cfg c) (t : Fin (cfg.N + 1))
    (O : CellTallies nD τ sig ℕ) (h0 : dat.owed t = O) (hr : dat.recorded t = Set.univ := by first | rfl | skip) :
    (owesX c O : sProp 𝕄) ⊢ (dat.owesAt 0 t : sProp 𝕄) := by
  unfold owesX Dat.owesAt Pipeline.owesWithin Dat.bound; rw [h0, hr]
  iintro ⟨%W, HO⟩; iexists W; isplitr; · ipureintro; exact fun _ _ => Or.inl trivial
  iexact HO
theorem owesAt_elim {cfg : Cfg sig Λ₀} {c : Dev nD} (dat : Dat τ (Elt F) ℕ ℕ (UU nD τ) ℕ cfg c) (t : Fin (cfg.N + 1))
    (O : CellTallies nD τ sig ℕ) (h0 : dat.owed t = O) :
    (dat.owesAt 0 t : sProp 𝕄) ⊢ owesX c O := by
  unfold owesX Dat.owesAt Pipeline.owesWithin; rw [h0]
  iintro ⟨%W, -, HO⟩; iexists W; iexact HO

theorem before_0 (c : Dev nD) (d) : (dat0 m c).before 0 t0_0 d = cycT := by
  refine Eq.trans ?_ (blk_0 m c)
  unfold Dat.before; rw [if_pos (fetch0_0 t0_0)]; rfl
theorem after_0 (c : Dev nD) : (dat0 m c).after 0 t0_0 = cycT := blk_0 m c

theorem before_1 (c : Dev nD) (d) : (dat0 m c).before 1 t0_0 d = posT := by
  refine Eq.trans ?_ (blk_1 m c)
  unfold Dat.before; rw [if_pos (fetch0_1 t0_0)]; rfl
theorem after_1 (c : Dev nD) : (dat0 m c).after 1 t0_0 = posT := blk_1 m c

theorem before_2 (c : Dev nD) (d) : (dat0 m c).before 2 t0_0 d = m ((c : Thread nD τ).loc main_arg0) := by
  refine Eq.trans ?_ (blk_2 m c)
  unfold Dat.before; rw [if_pos (fetch0_2 t0_0)]; rfl
theorem after_2 (c : Dev nD) : (dat0 m c).after 2 t0_0 = m ((c : Thread nD τ).loc main_arg0) := blk_2 m c

theorem before_3 (c : Dev nD) (d) : (dat0 m c).before 3 t0_0 d = m ((c : Thread nD τ).loc main_arg1) := by
  refine Eq.trans ?_ (blk_3 m c)
  unfold Dat.before; rw [if_pos (fetch0_3 t0_0)]; rfl
theorem after_3 (c : Dev nD) : (dat0 m c).after 3 t0_0 = m ((c : Thread nD τ).loc main_arg1) := blk_3 m c

theorem before_4 (c : Dev nD) (d) : (dat0 m c).before 4 t0_0 d = m ((c : Thread nD τ).loc main_arg2) := by
  refine Eq.trans ?_ (blk_4 m c)
  unfold Dat.before; rw [if_pos (fetch0_4 t0_0)]; rfl
theorem after_4 (c : Dev nD) : (dat0 m c).after 4 t0_0 = m ((c : Thread nD τ).loc main_arg2) := blk_4 m c

theorem before_5 (c : Dev nD) (d) : (dat0 m c).before 5 t0_0 d = m ((c : Thread nD τ).loc main_arg3) := by
  refine Eq.trans ?_ (blk_5 m c)
  unfold Dat.before; rw [if_pos (fetch0_5 t0_0)]; rfl
theorem after_5 (c : Dev nD) : (dat0 m c).after 5 t0_0 = m ((c : Thread nD τ).loc main_arg3) := blk_5 m c

theorem before_6 (c : Dev nD) (d) : (dat0 m c).before 6 t0_0 d = m ((c : Thread nD τ).loc main_arg4) := by
  refine Eq.trans ?_ (blk_6 m c)
  unfold Dat.before; rw [if_pos (fetch0_6 t0_0)]; rfl
theorem after_6 (c : Dev nD) : (dat0 m c).after 6 t0_0 = m ((c : Thread nD τ).loc main_arg4) := blk_6 m c

theorem before_7 (c : Dev nD) (d) : (dat0 m c).before 7 t0_0 d = m ((c : Thread nD τ).loc main_arg5) := by
  refine Eq.trans ?_ (blk_7 m c)
  unfold Dat.before; rw [if_pos (fetch0_7 t0_0)]; rfl
theorem after_7 (c : Dev nD) : (dat0 m c).after 7 t0_0 = m ((c : Thread nD τ).loc main_arg5) := blk_7 m c

theorem before_8 (c : Dev nD) (d) : (dat0 m c).before 8 t0_0 d = m ((c : Thread nD τ).loc main_arg6) := by
  refine Eq.trans ?_ (blk_8 m c)
  unfold Dat.before; rw [if_pos (fetch0_8 t0_0)]; rfl
theorem after_8 (c : Dev nD) : (dat0 m c).after 8 t0_0 = m ((c : Thread nD τ).loc main_arg6) := blk_8 m c

theorem own_whole (c : Dev nD) (b : Ref sig .tc) (X : b.ty.Contents (Elt F)) :
    (owns (c : Thread nD τ) (Memref.whole b) fullShare X : sProp 𝕄) = iprop(((c : Thread nD τ).loc b) ↦{fullShare} X) :=
  owns_whole (c : Thread nD τ) b fullShare X

/-- The body obligation. -/
theorem body_ob (c : Dev nD) : BodyObligation (dat0 m c) defs₀ Variants.none 0 Set.univ := fun t => by
  obtain rfl := fin_N0 t
  rw [bigSep_W0, bigSep_W0]
  rw [show (dat0 m c).Φ t0_0.castSucc = iprop(opened m c ∗ bufs c) from rfl, show (dat0 m c).Φ t0_0.succ = closed0 c from rfl]
  rw [show defs₀ (F := F) .tc cfg0.body (cfg0.bodyArgs t0_0 (cfg0.slots t0_0)) = handBody from body_eq t0_0]
  unfold opened
  iintro ⟨⟨⟨⟨%κ, #HC⟩, F1, F2, HB, HT⟩, Hbufs⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  ihave HO := (owesAt_elim (dat0 m c) _ (O₀ c) (owed_first m c)) $$ HO
  iapply (wp_fupd _ _ _ _ _)
  iapply (hand_wp (I := inp m) (κ := κ)) $$ [F1 F2 HB HT Hbufs HO H0 H1 H2 H3 H4 H5 H6 H7 H8 H9]
  · unfold start weights cycPts posPts
    isplitr; · iexact HC
    isplitl [F1 F2 HB HO HT]
    · isplitl [F1]; · iexact F1
      isplitl [F2]; · iexact F2
      isplitl [HB]; · iexact HB
      isplitl [HO]; · iexact HO
      iexact HT
    isplitl [Hbufs]; · iexact Hbufs
    isplitl [H0]
    · iapply (Entails.of_eq ((congrArg (fun X => (owns (c : Thread nD τ) (Memref.whole cc0_stg0_0 : Memref sig .tc .smem S32 .i32) fullShare X : sProp 𝕄)) (before_0 m c d0)).trans (own_whole c cc0_stg0_0 _)))
      iexact H0
    isplitl [H1]
    · iapply (Entails.of_eq ((congrArg (fun X => (owns (c : Thread nD τ) (Memref.whole cc0_stg1_0 : Memref sig .tc .smem S32 .i32) fullShare X : sProp 𝕄)) (before_1 m c d1)).trans (own_whole c cc0_stg1_0 _)))
      iexact H1
    isplitl [H2]
    · iapply (Entails.of_eq (congrArg (fun X => (owns (c : Thread nD τ) xM fullShare X : sProp 𝕄)) (before_2 m c d2)))
      iexact H2
    isplitl [H3 H4 H5 H6 H7 H8]
    · isplitl [H3]
      · iapply (Entails.of_eq (congrArg (fun X => (owns (c : Thread nD τ) (Memref.whole cc0_stg3_0 : Memref sig .tc .vmem S256x512 .bf16) fullShare X : sProp 𝕄)) (before_3 m c d3)))
        iexact H3
      isplitl [H4]
      · iapply (Entails.of_eq (congrArg (fun X => (owns (c : Thread nD τ) (Memref.whole cc0_stg4_0 : Memref sig .tc .vmem S512x256 .bf16) fullShare X : sProp 𝕄)) (before_4 m c d4)))
        iexact H4
      isplitl [H5]
      · iapply (Entails.of_eq (congrArg (fun X => (owns (c : Thread nD τ) (Memref.whole cc0_stg5_0 : Memref sig .tc .vmem S256x512 .bf16) fullShare X : sProp 𝕄)) (before_5 m c d5)))
        iexact H5
      isplitl [H6]
      · iapply (Entails.of_eq (congrArg (fun X => (owns (c : Thread nD τ) (Memref.whole cc0_stg6_0 : Memref sig .tc .vmem S512x256 .bf16) fullShare X : sProp 𝕄)) (before_6 m c d6)))
        iexact H6
      isplitl [H7]
      · iapply (Entails.of_eq (congrArg (fun X => (owns (c : Thread nD τ) (Memref.whole cc0_stg7_0 : Memref sig .tc .vmem S256x512 .bf16) fullShare X : sProp 𝕄)) (before_7 m c d7)))
        iexact H7
      iapply (Entails.of_eq (congrArg (fun X => (owns (c : Thread nD τ) (Memref.whole cc0_stg8_0 : Memref sig .tc .vmem S512x256 .bf16) fullShare X : sProp 𝕄)) (before_8 m c d8)))
      iexact H8
    iexact H9
  iintro ⟨Hfin, Hbufs, H0, H1, H2, HW, H9⟩
  unfold finish weights cycPts posPts
  icases Hfin with ⟨F1, F2, FB, HO⟩
  icases HW with ⟨H3, H4, H5, H6, H7, H8⟩
  imod (close_cells (inp m) κ c) $$ [F1 F2 FB] with ⟨HS, HB⟩
  · isplitr; · iexact HC
    isplitl [F1]; · iexact F1
    isplitl [F2]; · iexact F2
    iexact FB
  imodintro
  isplitl [Hbufs HS HB]
  · unfold closed0
    isplitl [Hbufs]; · iexact Hbufs
    isplitl [HS]; · iexact HS
    iexact HB
  isplitl [HO]
  · iapply (owesAt_intro (dat0 m c) t0_0.succ 0 (owed_last m c)); rw [← Owe_last c]; iexact HO
  isplitl [H0]
  · iapply (Entails.of_eq ((congrArg (fun X => (owns (c : Thread nD τ) (Memref.whole cc0_stg0_0 : Memref sig .tc .smem S32 .i32) fullShare X : sProp 𝕄)) (after_0 m c)).trans (own_whole c cc0_stg0_0 _)).symm)
    iexact H0
  isplitl [H1]
  · iapply (Entails.of_eq ((congrArg (fun X => (owns (c : Thread nD τ) (Memref.whole cc0_stg1_0 : Memref sig .tc .smem S32 .i32) fullShare X : sProp 𝕄)) (after_1 m c)).trans (own_whole c cc0_stg1_0 _)).symm)
    iexact H1
  isplitl [H2]
  · iapply (Entails.of_eq (congrArg (fun X => (owns (c : Thread nD τ) xM fullShare X : sProp 𝕄)) (after_2 m c)).symm)
    iexact H2
  isplitl [H3]
  · iapply (Entails.of_eq (congrArg (fun X => (owns (c : Thread nD τ) (Memref.whole cc0_stg3_0 : Memref sig .tc .vmem S256x512 .bf16) fullShare X : sProp 𝕄)) (after_3 m c)).symm)
    iexact H3
  isplitl [H4]
  · iapply (Entails.of_eq (congrArg (fun X => (owns (c : Thread nD τ) (Memref.whole cc0_stg4_0 : Memref sig .tc .vmem S512x256 .bf16) fullShare X : sProp 𝕄)) (after_4 m c)).symm)
    iexact H4
  isplitl [H5]
  · iapply (Entails.of_eq (congrArg (fun X => (owns (c : Thread nD τ) (Memref.whole cc0_stg5_0 : Memref sig .tc .vmem S256x512 .bf16) fullShare X : sProp 𝕄)) (after_5 m c)).symm)
    iexact H5
  isplitl [H6]
  · iapply (Entails.of_eq (congrArg (fun X => (owns (c : Thread nD τ) (Memref.whole cc0_stg6_0 : Memref sig .tc .vmem S512x256 .bf16) fullShare X : sProp 𝕄)) (after_6 m c)).symm)
    iexact H6
  isplitl [H7]
  · iapply (Entails.of_eq (congrArg (fun X => (owns (c : Thread nD τ) (Memref.whole cc0_stg7_0 : Memref sig .tc .vmem S256x512 .bf16) fullShare X : sProp 𝕄)) (after_7 m c)).symm)
    iexact H7
  isplitl [H8]
  · iapply (Entails.of_eq (congrArg (fun X => (owns (c : Thread nD τ) (Memref.whole cc0_stg8_0 : Memref sig .tc .vmem S512x256 .bf16) fullShare X : sProp 𝕄)) (after_8 m c)).symm)
    iexact H8
  iexact H9

end Cert.KernelIdeal.Hand

end
-- ==== Proof.Ideal.Region.lean ====
/-
  The region, the host segment before it, the program as the two.
-/
module

public import proofs.«01_k».proof.Proof.Ideal.Launch
public import Idealize.ShloMosaic.Lib.Pipeline.Frame
public import Idealize.ShloMosaic.Lib.Pipeline.Value

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ (UU nD τ) ℕ

open Idealize.ShloMosaic.Pipeline (Dat Cfg BodyObligation cellOf)

variable (m : (ℓ : Loc nD τ sig) → Buf (Elt F) ℓ)

omit [FloatOps F] in
theorem above_start (c : Dev nD) : Above 1 (O₀ c) := by
  unfold O₀
  first
    | exact above_add (above_add (above_owe c (by omega)) (above_tally _ _ le_rfl (by omega))) (above_tally _ _ le_rfl (by omega))
    | exact above_add (above_owe c (by omega)) (above_add (above_tally _ _ le_rfl (by omega)) (above_tally _ _ le_rfl (by omega)))

theorem above_owed (c : Dev nD) (t : Fin (cfg0.N + 1)) : Above 1 ((dat0 m c).owed t) := by
  show Above 1 (if t.val = 0 then O₀ c else 0)
  split
  · exact above_start c
  · exact above_zero 1

/-- A buffer held whole. -/
abbrev pl (c : Dev nD) (b : Ref sig .tc) (X : Buf (Elt F) ((c : Thread nD τ).loc b)) : sProp 𝕄 := (((c : Thread nD τ).loc b) ↦{fullShare} X)

/-- The last thread state: the operands as launched, the result, the barrier's count at zero. -/
def Tₙ (c : Dev nD) : sProp 𝕄 :=
  iprop(pl c main_arg0 (m ((c : Thread nD τ).loc main_arg0)) ∗ pl c main_arg1 (m ((c : Thread nD τ).loc main_arg1)) ∗ pl c main_arg2 (m ((c : Thread nD τ).loc main_arg2))
    ∗ pl c main_arg3 (m ((c : Thread nD τ).loc main_arg3)) ∗ pl c main_arg4 (m ((c : Thread nD τ).loc main_arg4)) ∗ pl c main_arg5 (m ((c : Thread nD τ).loc main_arg5))
    ∗ pl c main_arg6 (m ((c : Thread nD τ).loc main_arg6)) ∗ pl c main_v1 (res m) ∗ semVal (cell c .bar) 0)

theorem arrays_dat (c : Dev nD) (Fa) : ((pdats (F := F) m 0 c).arrays Fa : sProp 𝕄) = iprop(pl c main_c (Fa 0) ∗ pl c main_c_0 (Fa 1) ∗ pl c main_arg0 (Fa 2) ∗ pl c main_arg1 (Fa 3)
    ∗ pl c main_arg2 (Fa 4) ∗ pl c main_arg3 (Fa 5) ∗ pl c main_arg4 (Fa 6) ∗ pl c main_arg5 (Fa 7) ∗ pl c main_arg6 (Fa 8) ∗ pl c main_v1 (Fa 9)) := by
  rw [Pipeline.arrays_eq (Pipeline.pin (pcfgs (F := F)) adm) (pdats m) 0 c launch0.arr_whole ((pdats m 0 c).share_full fun _ => rfl) Fa, bigSep_W0]

theorem exit_0 (c : Dev nD) : (pdats (F := F) m 0 c).arrAt 2 (Pipeline.pin (pcfgs (F := F)) adm 0).N = m ((c : Thread nD τ).loc main_arg0) :=
  ((dat0 (F := F) m c).arrAt_in 2 rfl _).trans (V_main_arg0 m c)
theorem exit_1 (c : Dev nD) : (pdats (F := F) m 0 c).arrAt 3 (Pipeline.pin (pcfgs (F := F)) adm 0).N = m ((c : Thread nD τ).loc main_arg1) :=
  ((dat0 (F := F) m c).arrAt_in 3 rfl _).trans (V_main_arg1 m c)
theorem exit_2 (c : Dev nD) : (pdats (F := F) m 0 c).arrAt 4 (Pipeline.pin (pcfgs (F := F)) adm 0).N = m ((c : Thread nD τ).loc main_arg2) :=
  ((dat0 (F := F) m c).arrAt_in 4 rfl _).trans (V_main_arg2 m c)
theorem exit_3 (c : Dev nD) : (pdats (F := F) m 0 c).arrAt 5 (Pipeline.pin (pcfgs (F := F)) adm 0).N = m ((c : Thread nD τ).loc main_arg3) :=
  ((dat0 (F := F) m c).arrAt_in 5 rfl _).trans (V_main_arg3 m c)
theorem exit_4 (c : Dev nD) : (pdats (F := F) m 0 c).arrAt 6 (Pipeline.pin (pcfgs (F := F)) adm 0).N = m ((c : Thread nD τ).loc main_arg4) :=
  ((dat0 (F := F) m c).arrAt_in 6 rfl _).trans (V_main_arg4 m c)
theorem exit_5 (c : Dev nD) : (pdats (F := F) m 0 c).arrAt 7 (Pipeline.pin (pcfgs (F := F)) adm 0).N = m ((c : Thread nD τ).loc main_arg5) :=
  ((dat0 (F := F) m c).arrAt_in 7 rfl _).trans (V_main_arg5 m c)
theorem exit_6 (c : Dev nD) : (pdats (F := F) m 0 c).arrAt 8 (Pipeline.pin (pcfgs (F := F)) adm 0).N = m ((c : Thread nD τ).loc main_arg6) :=
  ((dat0 (F := F) m c).arrAt_in 8 rfl _).trans (V_main_arg6 m c)

theorem after_9 (c : Dev nD) : (dat0 m c).after 9 t0_0 = res m := by dsimp only [dat0]
theorem out_flushed (c : Dev nD) (t : Fin cfg0.N) : (dat0 m c).flushed 9 t = ((cfg0.win 9).blk t).view.read (Elt F) (res m) := by
  obtain rfl := fin_N0 t
  have ha : (dat0 m c).after 9 t0_0 = res m := after_9 m c
  unfold Dat.flushed
  rw [ha]
  generalize res m = X
  funext j
  change X _ = X ((win0_9.rect t0_0).emb j)
  refine congrArg _ (funext fun a => Fin.ext ?_)
  rw [Rect.emb_apply]
  match a with
  | 0 => show (j 0).val = 0 + 1 * (j 0).val; omega
  | 1 => show (j 1).val = 0 + 1 * (j 1).val; omega
theorem out_mem (t : Fin cfg0.N) (i : S8192x256.Idx) : i ∈ ((cfg0.win 9).blk t).view.set := by
  show i ∈ ((View.whole main_v1).slice (win0_9.rect t)).set
  rw [View.set_slice_whole, Rect.mem_set_unit]
  have h0 : (i 0 : Nat) < 8192 := (i 0).isLt
  have h1 : (i 1 : Nat) < 256 := (i 1).isLt
  have e : win0_9.index t 0 * win0_9.size 0 = 0 ∧ win0_9.xsize (grid0.coords t) 0 = 8192
      ∧ win0_9.index t 1 * win0_9.size 1 = 0 ∧ win0_9.xsize (grid0.coords t) 1 = 256 := by
    rcases fin_N0 t with rfl; decide +kernel
  intro a
  match a with
  | ⟨0, _⟩ => show win0_9.index t 0 * win0_9.size 0 ≤ (i 0 : Nat) ∧ (i 0 : Nat) < win0_9.index t 0 * win0_9.size 0 + win0_9.xsize (grid0.coords t) 0
              rw [e.1, e.2.1]; omega
  | ⟨1, _⟩ => show win0_9.index t 1 * win0_9.size 1 ≤ (i 1 : Nat) ∧ (i 1 : Nat) < win0_9.index t 1 * win0_9.size 1 + win0_9.xsize (grid0.coords t) 1
              rw [e.2.2.1, e.2.2.2]; omega
theorem exit_out (c : Dev nD) : (pdats (F := F) m 0 c).arrAt 9 (Pipeline.pin (pcfgs (F := F)) adm 0).N = res m :=
  (dat0 m c).arrAt_eq_of_cover 9 (res m) (fun t _ => out_flushed m c t) fun i => ⟨t0_0, flush0_9 _, out_mem t0_0 i⟩

theorem own_facts : Pipeline.OwnSemFacts spec0 osem := by decide

theorem inv_last (c : Dev nD) : (dat0 m c).Φ (Fin.last _) = closed0 c := by
  show (if (Fin.last cfg0.N).val = 0 then iprop(opened m c ∗ bufs c) else closed0 c) = closed0 c
  rw [Fin.val_last, if_neg (by rw [show cfg0.N = 1 from N_0]; decide)]

/-- The region. -/
def reg0 : Pipeline.RegionSeg (pcfgs (F := F)) adm (pdats m) 0 defs₀ Variants.none L lv 0 where
  win := winFacts0.to₀
  block_pos := block_pos0
  stage_whole := stage_whole0
  K := K10
  osem := osem
  ho := own_facts
  hbody c := (body_ob m c).loose
  hwaits c := Pipeline.cellsWaits_intro _ (pdats m) 0 0 c fun w s t => mayWait c _ (above_owed m c t) (by omega)
  pre c := iprop(StableHlo.held (c : Thread nD τ) (Pipeline.ucRefs τ sig) (StableHlo.after hostOps0 (fun b => m (c, b))) ∗ dealt m c ∗ owes (c : Thread nD τ) (O₀ c) ∅)
  post c := iprop(Tₙ m c ∗ ∃ W, owes (c : Thread nD τ) (0 : CellTallies nD τ sig ℕ) W)
  X c := opened m c
  Y c := semVal (cell c .bar) 0
  Z _ := iprop(emp)
  hentry c := by
    have hsplit := Pipeline.arrays_of_unscopedBufs (pcfgs (F := F)) adm (pdats m) launch0.win launch0.arr_whole c
      ((pdats m 0 c).share_full fun _ => rfl) (V m c) fun _ => rfl
    rw [← Pipeline.unscopedBufs_held c (StableHlo.after hostOps0 (fun b => m (c, b)))]
    unfold dealt opened
    iintro ⟨⟨Hub, ⟨⟨%κ, #HC⟩, HT, HB, HA⟩, HO⟩, HS, -⟩
    ihave H := hsplit $$ Hub
    icases H with ⟨Ha, -⟩
    imod (open_cells (inp m) κ c) $$ [HT HS] with ⟨F1, F2⟩
    · isplitr; · iexact HC
      isplitl [HT]; · iexact HT
      iexact HS
    imodintro
    isplitl [Ha]; · iexact Ha
    isplitr; · unfold Pipeline.prefHeld; rw [show (Finset.univ : Finset (Fin 0)) = ∅ from rfl, BI.bigSep_empty]; iempintro
    isplitl [HO]
    · iapply (owesAt_intro (pdats m 0 c) 0 (O₀ c) (owed_zero m c) rfl); unfold owesX; iexists ∅; iexact HO
    isplitl
    · isplitr; · iexists κ; iexact HC
      isplitl [F1]; · iexact F1
      isplitl [F2]; · iexact F2
      isplitl [HB]; · iexact HB
      iexact HA
    iempintro
  hin c := by
    show _ ⊢ iprop(opened m c ∗ bufs c)
    iintro ⟨HX, -, HR⟩
    isplitl [HX]; · iexact HX
    iapply (bufs_of_scoped c); iexact HR
  hout c := by
    refine (Entails.of_eq (inv_last m c)).trans ?_
    unfold closed0
    iintro ⟨HR, HS, HB⟩
    isplitl [HB]; · iexact HB
    isplitl [HS]; · iexact HS
    iapply (scoped_of_bufs c); iexact HR
  hexit c := by
    unfold Tₙ; rw [arrays_dat, exit_0, exit_1, exit_2, exit_3, exit_4, exit_5, exit_6, exit_out]
    iintro ⟨⟨-, -, H0, H1, H2, H3, H4, H5, H6, H7⟩, HO, HY, -⟩
    ihave HO := (owesAt_elim (pdats m 0 c) _ 0 (owed_last m c)) $$ HO
    unfold owesX
    imodintro
    isplitr [HO]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact HY
    iexact HO

theorem ops0_sub : ∀ op ∈ (hostOps0 : List (HloOp τ sig (Elt F))), op.bufs ⊆ Pipeline.ucRefs τ sig := fun op h =>
  Pipeline.sub_ucRefs op (List.forall_iff_forall_mem.mp hostOps0_sub op h)
theorem ops0_fresh : ∀ op ∈ (hostOps0 : List (HloOp τ sig (Elt F))), op.fresh = ∅ := fun op h =>
  List.forall_iff_forall_mem.mp hostOps0_fresh op h

/-- The host's two tables. -/
def seg0 : Pipeline.HostSeg (Name := ℕ) (U := UU nD τ) (pcfgs (F := F)) defs₀ Variants.none L lv :=
  Pipeline.HostSeg.ofOps _ _ _ _ _ (Pipeline.ucRefs τ sig) hostOps0 ops0_sub ops0_fresh (fun c b => m (c, b))
    (fun c => iprop(dealt m c ∗ owes (c : Thread nD τ) (O₀ c) ∅))

/-- The two segments of the program. -/
def segs : List (Pipeline.Seg (pcfgs (F := F)) adm (pdats m) 0 defs₀ Variants.none L lv) := [.host (seg0 m), .region (reg0 m)]
theorem main_eq (c : Dev nD) : main (F := F) c = Pipeline.Seg.run (segs m) :=
  main_segs adm (pdats m) 0 Variants.none L lv (seg0 m) (reg0 m) rfl c

end Cert.KernelIdeal.Hand

end
-- ==== Proof.Ideal.Run.lean ====
/-
  The launch: the protocol dealt, and the run of the whole program.
-/
module

public import proofs.«01_k».proof.Proof.Ideal.Region
public import Idealize.ShloMosaic.Lib.Quiescent

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ (UU nD τ) ℕ

open Idealize.ShloMosaic.Pipeline (Dat Cfg BodyObligation cellOf)

variable (m : (ℓ : Loc nD τ sig) → Buf (Elt F) ℓ)

/-! ## The cells, live and dormant -/

def barCells : Finset (GSem nD τ sig) := Finset.univ.image fun c : Dev nD => cell c .bar
def ownCells : Finset (GSem nD τ sig) := Finset.univ.image fun x : Dev nD × K10 => cell x.1 x.2.1

theorem cells_split : barCells ∪ ownCells = cells := by
  unfold barCells ownCells cells
  ext g
  simp only [Finset.mem_union, Finset.mem_image, Finset.mem_univ, true_and]
  constructor
  · rintro (⟨c, rfl⟩ | ⟨⟨c, k⟩, rfl⟩)
    · exact ⟨(c, .bar), rfl⟩
    · exact ⟨(c, k.1), rfl⟩
  · rintro ⟨⟨c, k⟩, rfl⟩
    by_cases h : k = .bar
    · subst h; exact Or.inl ⟨c, rfl⟩
    · exact Or.inr ⟨(c, ⟨k, h⟩), rfl⟩
theorem cells_disj : Disjoint barCells ownCells := by
  rw [Finset.disjoint_left]
  intro g h1 h2
  obtain ⟨c, -, rfl⟩ := Finset.mem_image.mp h1
  obtain ⟨⟨d, k⟩, -, e⟩ := Finset.mem_image.mp h2
  exact k.2 (cell_inj e).2

theorem live_sep (Φ : GSem nD τ sig → sProp (MT nD τ sig ℕ (Elt F) ℕ (UU nD τ) ℕ)) :
    bigSep barCells Φ = bigSep Finset.univ fun c : Dev nD => Φ (cell c .bar) := by
  unfold barCells
  exact bigSep_image_of_injOn (fun a _ b _ e => (cell_inj e).1) ..
theorem dorm_sep (Φ : GSem nD τ sig → sProp (MT nD τ sig ℕ (Elt F) ℕ (UU nD τ) ℕ)) :
    bigSep ownCells Φ = bigSep Finset.univ fun c : Dev nD => bigSep Finset.univ fun k : K10 => Φ (cell c k.1) := by
  unfold ownCells
  rw [← bigSep_univ_prod (fun x : Dev nD × K10 => Φ (cell x.1 x.2.1))]
  exact bigSep_image_of_injOn (fun a _ b _ e => Prod.ext (cell_inj e).1 (Subtype.ext (cell_inj e).2)) ..

/-! ## The launch element -/

def u₀ : UU nD τ :=
  (initOf (Pipeline.cells (Pipeline.pin (pcfgs (F := F)) adm) cellOf_inj) (Pipeline.launchToks (Pipeline.pin (pcfgs (F := F)) adm) cellOf_inj),
    launchOf barCells ownCells toks)

/-- The whole protocol's ghost state goes with device zero. -/
def G (c : Dev nD) : sProp 𝕄 := if c = 0 then BI.own (ER (launchOf barCells ownCells toks)) else iprop(emp)

theorem all_emp {A : Type} [DecidableEq A] (s : Finset A) : (iprop(emp) : sProp 𝕄) ⊢ bigSep s fun _ => iprop(emp) :=
  BI.bigSep_intro_persistent (R := (iprop(emp) : sProp 𝕄)) fun _ _ => Entails.rfl

theorem give_G : (BI.own (ER (launchOf barCells ownCells toks)) : sProp 𝕄) ⊢ bigSep Finset.univ (G (F := F)) := by
  have hr : bigSep (Finset.univ.erase (0 : Dev nD)) (G (F := F)) = bigSep (Finset.univ.erase (0 : Dev nD)) fun _ => (iprop(emp) : sProp 𝕄) :=
    bigSep_congr fun c hc => if_neg (Finset.ne_of_mem_erase hc)
  rw [bigSep_univ_at _ (0 : Dev nD), hr, show G (F := F) 0 = BI.own (ER (launchOf barCells ownCells toks)) from if_pos rfl]
  iintro H
  isplitl [H]; · iexact H
  iapply (all_emp (F := F)); iempintro
theorem take_G : (bigSep Finset.univ (G (F := F))) ⊢ (BI.own (ER (launchOf barCells ownCells toks)) : sProp 𝕄) := by
  rw [bigSep_univ_at _ (0 : Dev nD), show G (F := F) 0 = BI.own (ER (launchOf barCells ownCells toks)) from if_pos rfl]
  iintro ⟨H, -⟩; iexact H

theorem unscoped_bar (c : Dev nD) : (unscopedSems0 c : sProp 𝕄) = semVal (cell c .bar) 0 := by
  unfold unscopedSems0
  rw [bigSep_eq_bigSepL_of_eq [SemLoc.reg barS] (by decide) (by decide)]
  rfl

/-! ## The launch -/

/-- The first thread state. -/
def T₀ (c : Dev nD) : sProp 𝕄 :=
  iprop(StableHlo.held (c : Thread nD τ) (Pipeline.ucRefs τ sig) (fun b => m (c, b)) ∗ dealt m c ∗ owes (c : Thread nD τ) (O₀ c) ∅)

theorem with_persistent {A : Type} [DecidableEq A] {S : Finset A} {R : sProp (MT nD τ sig ℕ (Elt F) ℕ (UU nD τ) ℕ)} [BI.Persistent R] {Φ Ψ : A → sProp (MT nD τ sig ℕ (Elt F) ℕ (UU nD τ) ℕ)}
    (h : ∀ i ∈ S, iprop(R ∗ Φ i) ⊢ Ψ i) : iprop(R ∗ bigSep S Φ) ⊢ bigSep S Ψ :=
  (BIClass.sep_mono (BI.bigSep_of_persistent S R) Entails.rfl).trans (by rw [← bigSep_sep']; exact bigSep_mono h)

/-- What a device is dealt beside what all share. -/
def lin (c : Dev nD) : sProp 𝕄 :=
  iprop((StableHlo.held (c : Thread nD τ) (Pipeline.ucRefs τ sig) (fun b => m (c, b)) ∗ owes (c : Thread nD τ) (O₀ c) ∅ ∗ Pipeline.launchCred O₀ c)
    ∗ atPos ER (cell c .bar) 0 ∅ 0 ∗ openToks c ∗ allToks c)

theorem deal (κ : GSem nD τ sig → ℕ) (c : Dev nD) :
    iprop((ctx (inp m) κ ∗ bigSep Finset.univ fun d : Dev nD => reached ER (cell d .bar) 0) ∗ lin m c) ⊢ (T₀ m c : sProp 𝕄) := by
  unfold lin T₀ dealt barPre allToks
  iintro ⟨⟨#HC, #HR⟩, ⟨Hh, HO, Hcr⟩, Hat, HT, ⟨B1, B2⟩, K1, K2⟩
  ihave Hc := (lc_all (F := F) c) $$ Hcr
  icases Hc with ⟨HP, HB⟩
  isplitl [Hh]; · iexact Hh
  isplitr [HO]
  · isplitr; · iexists κ; iexact HC
    isplitl [HT]; · iexact HT
    isplitr [HP K1 K2]
    · isplitl [B1]; · iexact B1
      isplitl [B2]; · iexact B2
      isplitl [HB]; · iexact HB
      isplitl [Hat]; · iexact Hat
      isplitl
      · iapply (show (bigSep Finset.univ fun d : Dev nD => (reached ER (cell d .bar) 0 : sProp 𝕄)) ⊢ reached ER (cell (prv c) .bar) 0 from BI.bigSep_elim (Finset.mem_univ _)); iexact HR
      · iapply (show (bigSep Finset.univ fun d : Dev nD => (reached ER (cell d .bar) 0 : sProp 𝕄)) ⊢ reached ER (cell (nxt c) .bar) 0 from BI.bigSep_elim (Finset.mem_univ _)); iexact HR
    · iapply (all_ticks (F := F) c)
      isplitl [K1]; · iexact K1
      isplitl [K2]; · iexact K2
      iexact HP
  · iexact HO

variable (ρ : Dev nD → PrngReg)

theorem split_launch :
    (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (iprop((bigSep Finset.univ fun c : Dev nD => iprop(StableHlo.held (c : Thread nD τ) (Pipeline.ucRefs τ sig) (fun b => m (c, b)) ∗ owes (c : Thread nD τ) (O₀ c) ∅ ∗ Pipeline.launchCred O₀ c))
          ∗ (bigSep barCells fun g => semVal g 0) ∗ bigSep Finset.univ (G (F := F))) : sProp 𝕄) := by
  rw [live_sep, ← bigSep_sep', ← bigSep_sep']
  refine bigSep_mono fun c _ => show iprop(unscopedBufs c (fun b => m ((c : Thread nD τ).loc b)) ∗ unscopedSems0 c
          ∗ owes (c : Thread nD τ) (O₀ c) ∅ ∗ Pipeline.launchCred O₀ c ∗ prngReg c (ρ c) ∗ G c)
      ⊢ (iprop((StableHlo.held (c : Thread nD τ) (Pipeline.ucRefs τ sig) (fun b => m (c, b)) ∗ owes (c : Thread nD τ) (O₀ c) ∅ ∗ Pipeline.launchCred O₀ c)
          ∗ semVal (cell c .bar) 0 ∗ G c) : sProp 𝕄) from ?_
  rw [show unscopedBufs c (fun b => m ((c : Thread nD τ).loc b)) = StableHlo.held (c : Thread nD τ) (Pipeline.ucRefs τ sig) (fun b => m (c, b)) from
    Pipeline.unscopedBufs_held c (fun b => m (c, b)), unscoped_bar]
  iintro ⟨H1, H2, H3, H4, -, H5⟩
  isplitl [H1 H3 H4]
  · isplitl [H1]; · iexact H1
    isplitl [H3]; · iexact H3
    iexact H4
  isplitl [H2]; · iexact H2
  iexact H5

theorem join_lin :
    iprop((bigSep Finset.univ fun c : Dev nD => iprop(StableHlo.held (c : Thread nD τ) (Pipeline.ucRefs τ sig) (fun b => m (c, b)) ∗ owes (c : Thread nD τ) (O₀ c) ∅ ∗ Pipeline.launchCred O₀ c))
      ∗ (bigSep Finset.univ fun c : Dev nD => atPos ER (cell c .bar) 0 ∅ 0) ∗ (bigSep Finset.univ fun c : Dev nD => openToks c) ∗ bigSep Finset.univ fun c : Dev nD => allToks c)
      ⊢ (bigSep Finset.univ (lin m) : sProp 𝕄) := by
  rw [← bigSep_sep', ← bigSep_sep', ← bigSep_sep']
  exact Entails.rfl

theorem fund_all :
    iprop((bigSep barCells fun g => semVal g 0) ∗ BI.own (ER (launchOf barCells ownCells toks)))
      ⊢ (|={Set.univ}=> iprop(∃ κ : GSem nD τ sig → ℕ, bigSep cells (fun g => cellInv ER (sched (inp m)) (κ g) g)
        ∗ (bigSep Finset.univ fun d : Dev nD => reached ER (cell d .bar) 0)
        ∗ (bigSep Finset.univ fun c : Dev nD => atPos ER (cell c .bar) 0 ∅ 0) ∗ (bigSep Finset.univ fun c : Dev nD => openToks c)
        ∗ bigSep Finset.univ fun c : Dev nD => allToks c) : sProp 𝕄) := by
  unfold openToks
  rw [← live_sep (fun g => (reached ER g 0 : sProp 𝕄)), ← live_sep (fun g => (atPos ER g 0 ∅ 0 : sProp 𝕄)), ← dorm_sep (fun g => (openTok ER g : sProp 𝕄)), ← cells_split]
  iintro H
  imod (Rounds.fund_launch ER (sched (inp m)) cells_disj (fun _ _ h => h) toks ∅ (Es := Set.univ)) $$ H with ⟨%κ, -, HI, HR, Hat, HT, HK⟩
  ihave HK := (toks_sep (F := F)) $$ HK
  imodintro
  iexists κ
  isplitl [HI]; · iexact HI
  isplitl [HR]; · iexact HR
  isplitl [Hat]; · iexact Hat
  isplitl [HT]; · iexact HT
  iexact HK

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  iintro ⟨H, #Hla⟩
  ihave H := (split_launch m ρ) $$ H
  icases H with ⟨HA, HS, HG⟩
  ihave HG := (take_G (F := F)) $$ HG
  imod (fund_all m) $$ [HS HG] with ⟨%κ, HI, HR, Hat, HT, HK⟩
  · isplitl [HS]; · iexact HS
    iexact HG
  imodintro
  iapply (with_persistent (R := iprop(ctx (inp m) κ ∗ bigSep Finset.univ fun d : Dev nD => reached ER (cell d .bar) 0)) (Φ := lin m) (Ψ := T₀ m) (fun c _ => deal m κ c))
  isplitl [HI HR]
  · isplitl [HI]
    · unfold ctx
      isplitl [HI]; · iexact HI
      iexact Hla
    iexact HR
  · iapply (join_lin m)
    isplitl [HA]; · iexact HA
    isplitl [Hat]; · iexact Hat
    isplitl [HT]; · iexact HT
    iexact HK

set_option backward.isDefEq.respectTransparency.types false in
/-- The run: at any float values, from any memory, every device ends with its operands as launched, the result whole,
    and every count of the machine back at zero. -/
theorem run_main : θ_run defs (onTc (τ := τ) (main (F := F))) ⟨m, fun _ => 0, ρ⟩
    (fun r => (∀ c : Dev nD, (r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) ∧ r.2.mem ((c : Thread nD τ).loc main_arg3) = m ((c : Thread nD τ).loc main_arg3) ∧ r.2.mem ((c : Thread nD τ).loc main_arg4) = m ((c : Thread nD τ).loc main_arg4) ∧ r.2.mem ((c : Thread nD τ).loc main_arg5) = m ((c : Thread nD τ).loc main_arg5) ∧ r.2.mem ((c : Thread nD τ).loc main_arg6) = m ((c : Thread nD τ).loc main_arg6))
        ∧ r.2.mem ((c : Thread nD τ).loc main_v1) = res m) ∧ r.2.sem = fun _ => 0) :=
  Pipeline.θ_run_regions_kit_sems (pcfgs (F := F)) adm (pdats m) 0 cellOf_inj EP defs₀ Variants.none L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀ (F := F))
    (hu₀ := by
      unfold u₀
      iintro Hu
      ihave H := (ownU_pair _ _) $$ Hu
      icases H with ⟨HP, HX⟩
      imodintro
      isplitl [HP]; · iexact HP
      iapply (give_G (F := F)); iexact HX)
    (T₀ := T₀ m) (Tₙ := Tₙ m)
    (hch := ⟨fun c => .rfl, fun c => .rfl, fun c => .rfl⟩)
    (hinit := init m ρ)
    (QY := fun c s => ((s.mem ((c : Thread nD τ).loc main_arg0) = m ((c : Thread nD τ).loc main_arg0) ∧ s.mem ((c : Thread nD τ).loc main_arg1) = m ((c : Thread nD τ).loc main_arg1) ∧ s.mem ((c : Thread nD τ).loc main_arg2) = m ((c : Thread nD τ).loc main_arg2) ∧ s.mem ((c : Thread nD τ).loc main_arg3) = m ((c : Thread nD τ).loc main_arg3) ∧ s.mem ((c : Thread nD τ).loc main_arg4) = m ((c : Thread nD τ).loc main_arg4) ∧ s.mem ((c : Thread nD τ).loc main_arg5) = m ((c : Thread nD τ).loc main_arg5) ∧ s.mem ((c : Thread nD τ).loc main_arg6) = m ((c : Thread nD τ).loc main_arg6))
      ∧ s.mem ((c : Thread nD τ).loc main_v1) = res m) ∧ s.sem (cell c .bar) = 0)
    (hfin := fun c s' => by
      unfold Tₙ
      iintro ⟨⟨H0, H1, H2, H3, H4, H5, H6, H7, HB⟩, HSI⟩
      icombine HSI H0 gives %h0
      icombine HSI H1 gives %h1
      icombine HSI H2 gives %h2
      icombine HSI H3 gives %h3
      icombine HSI H4 gives %h4
      icombine HSI H5 gives %h5
      icombine HSI H6 gives %h6
      icombine HSI H7 gives %h7
      icombine HSI HB gives %hb
      imodintro
      isplitr
      · ipureintro
        exact ⟨⟨⟨Buf.eq_of_forall_mem_univ h0, Buf.eq_of_forall_mem_univ h1, Buf.eq_of_forall_mem_univ h2, Buf.eq_of_forall_mem_univ h3, Buf.eq_of_forall_mem_univ h4, Buf.eq_of_forall_mem_univ h5, Buf.eq_of_forall_mem_univ h6⟩, Buf.eq_of_forall_mem_univ h7⟩, hb⟩
      iexact HSI)
    (hQ := fun s h hs => ⟨fun c => (h c).1, sem_eq_zero hs fun c sm hsm => by
      obtain rfl : sm = SemLoc.reg barS := by revert sm; decide
      exact (h c).2⟩)

end Cert.KernelIdeal.Hand

end
-- ==== Proof.Ideal.Sum.lean ====
/-
  The values at the extended reals: what the rings add up, and a layer as a layer of the whole arrays.
-/
module

public import proofs.«01_k».proof.Proof.Ideal.Common
public import Idealize.ShloMosaic.Lib.MatmulPlain
public import Idealize.ShloMosaic.Lib.Pointwise.Reshape
public import Mathlib.Algebra.BigOperators.Fin

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## The rings' sums -/

section Rings

variable (p : Dev nD → Vec Ideal S8192x256 .f32)

theorem pay42_at (v : Vec Ideal S256x256 .f32) (i : S256x256.Idx) : k0_pay42 v i = v i := by
  unfold k0_pay42; exact congrFun (shapeCast_id _ _) i
theorem pay5_at (v w : Vec Ideal S256x256 .f32) (i : S256x256.Idx) : k0_pay5 v w i = v i + w i := by
  unfold k0_pay5; exact congrFun (shapeCast_id _ _) i
theorem pay47_at (u v w : Vec Ideal S256x256 .f32) (i : S256x256.Idx) : k0_pay47 u v w i = u i + v i + w i := by
  unfold k0_pay47; exact congrFun (shapeCast_id _ _) i

/-- What has been added up clockwise: the parts of the devices behind. -/
theorem cwV_at (i : S256x256.Idx) : ∀ (h : ℕ) (c : Dev nD), h ≤ 15 →
    cwV p h c i = ∑ j ∈ Finset.range (h + 1), p (sh c (32 - j)) (blkIdx (sh c (48 - h)) i)
  | 0, c, _ => by
    rw [Finset.sum_range_one, sh_mod c (j := 32 - 0) (k := 0) (by decide), sh_zero, sh_mod c (j := 48 - 0) (k := 16) (by decide)]
    exact pay42_at _ i
  | h + 1, c, hh => by
    rw [show cwV p (h + 1) c i = cwV p h (prv c) i + p c (blkIdx (sh c (47 - h)) i) from pay5_at _ _ i, cwV_at i h (prv c) (by omega),
      Finset.sum_range_succ' (fun j => p (sh c (32 - j)) (blkIdx (sh c (48 - (h + 1))) i)) (h + 1), sh_mod c (j := 32 - 0) (k := 0) (by decide), sh_zero, show 48 - (h + 1) = 47 - h from by omega]
    congr 1
    refine Finset.sum_congr rfl fun j hj => ?_
    have := Finset.mem_range.mp hj
    rw [sh_prv, sh_prv, sh_mod c (j := 32 - j + 31) (k := 32 - (j + 1)) (by omega), sh_mod c (j := 48 - h + 31) (k := 47 - h) (by omega)]

/-- What has been added up the other way: the parts of the devices ahead. -/
theorem ccwV_at (i : S256x256.Idx) : ∀ (h : ℕ) (c : Dev nD),
    ccwV p h c i = ∑ j ∈ Finset.range (h + 1), p (sh c j) (blkIdx (sh c (17 + h)) i)
  | 0, c => by
    rw [Finset.sum_range_one, sh_zero]
    exact pay42_at _ i
  | h + 1, c => by
    rw [show ccwV p (h + 1) c i = ccwV p h (nxt c) i + p c (blkIdx (sh c (18 + h)) i) from pay5_at _ _ i, ccwV_at i h (nxt c),
      Finset.sum_range_succ' (fun j => p (sh c j) (blkIdx (sh c (17 + (h + 1))) i)) (h + 1), sh_zero, show 17 + (h + 1) = 18 + h from by omega]
    congr 1
    refine Finset.sum_congr rfl fun j hj => ?_
    rw [sh_nxt, sh_nxt, show 17 + h + 1 = 18 + h from by omega]

/-- A sum over the places ahead of a device is a sum over the devices. -/
theorem sum_ring (c : Dev nD) (f : Dev nD → EReal) : ∑ n ∈ Finset.range 32, f (sh c n) = ∑ d, f d := by
  refine Finset.sum_nbij (fun n => sh c n) (fun _ _ => Finset.mem_univ _) ?_ ?_ (fun _ _ => rfl)
  · intro a ha b hb h
    have h1 := Finset.mem_range.mp (Finset.mem_coe.mp ha)
    have h2 := Finset.mem_range.mp (Finset.mem_coe.mp hb)
    have := sh_inj c h
    omega
  · intro d _
    obtain ⟨k, hk, e⟩ := sh_surj c d
    exact ⟨k, Finset.mem_coe.mpr (Finset.mem_range.mpr hk), e⟩

/-- A device's block of the next layer's input is the sum of all the devices' parts. -/
theorem sumV_at (c : Dev nD) (i : S256x256.Idx) : sumV p c i = ∑ d, p d (blkIdx c i) := by
  rw [← sum_ring c (fun d => p d (blkIdx c i))]
  rw [show sumV p c i = cwV p 15 (prv c) i + ccwV p 14 (nxt c) i + p c (blkIdx c i) from pay47_at _ _ _ i,
    cwV_at p i 15 _ (le_refl _), ccwV_at p i 14, show ∑ n ∈ Finset.range 32, p (sh c n) (blkIdx c i) = ∑ n ∈ Finset.range (15 + 1), p (sh c n) (blkIdx c i)
      + ∑ n ∈ Finset.range (15 + 1), p (sh c (16 + n)) (blkIdx c i) from Finset.sum_range_add (fun n => p (sh c n) (blkIdx c i)) 16 16, Finset.sum_range_succ' (fun n => p (sh c n) (blkIdx c i)) 15, sh_zero]
  have e1 : ∀ j ∈ Finset.range (15 + 1), p (sh (prv c) (32 - j)) (blkIdx (sh (prv c) (48 - 15)) i)
      = (fun n => p (sh c (16 + n)) (blkIdx c i)) (15 + 1 - 1 - j) := fun j hj => by
    have := Finset.mem_range.mp hj
    show _ = p (sh c (16 + (15 + 1 - 1 - j))) (blkIdx c i)
    rw [sh_prv, sh_prv, sh_mod c (j := 32 - j + 31) (k := 16 + (15 + 1 - 1 - j)) (by omega), sh_mod c (j := 48 - 15 + 31) (k := 0) (by decide), sh_zero]
  have e2 : ∀ j ∈ Finset.range (14 + 1), p (sh (nxt c) j) (blkIdx (sh (nxt c) (17 + 14)) i) = p (sh c (j + 1)) (blkIdx c i) := fun j _ => by
    rw [sh_nxt, sh_nxt, sh_mod c (j := 17 + 14 + 1) (k := 0) (by decide), sh_zero]
  rw [Finset.sum_congr rfl e1, Finset.sum_congr rfl e2, Finset.sum_range_reflect (fun n => p (sh c (16 + n)) (blkIdx c i)) (15 + 1)]
  rw [add_assoc, add_comm]

end Rings

/-! ## A layer -/

theorem zero_f32 : Ideal.ofBits .f32 0x00000000#32 = 0 := Ideal.ofBits_zero_f32

/-- The column of a device's part of the hidden features, in the whole. -/
def col (d : Dev nD) (k : Fin 512) : Fin 16384 := ⟨512 * d.val + k.val, by have : d.val < 32 := d.isLt; omega⟩

/-- A sum over the devices and their hidden features is a sum over all the hidden features. -/
theorem sum_cols (f : Fin 16384 → EReal) : ∑ d : Dev nD, ∑ k : Fin 512, f (col d k) = ∑ K, f K := by
  rw [← Fintype.sum_prod_type' (f := fun (d : Dev nD) (k : Fin 512) => f (col d k))]
  refine Fintype.sum_equiv (finProdFinEquiv (m := 32) (n := 512)) _ _ fun x => ?_
  refine congrArg f (Fin.ext ?_)
  show 512 * x.1.val + x.2.val = x.2.val + 512 * x.1.val
  omega

theorem chIdx_row (j : S8192x256.Idx) (q : Fin 256) : chIdx (chOf j) (ValueIdx.ix2 (inCh j 0) q) = ValueIdx.ix2 (j 0) q := by
  funext a; refine Fin.ext ?_
  match a with
  | 0 => exact Nat.div_add_mod (j 0).val 1024
  | 1 => rfl

/-- A device's partial product at an index. -/
theorem part_at (w : Vec Ideal S256x512 .bf16) (u : Vec Ideal S512x256 .bf16) (x : Vec Ideal S8192x256 .bf16) (j : S8192x256.Idx) :
    part w u x j = ∑ k : Fin 512, max (∑ q : Fin 256, x (ValueIdx.ix2 (j 0) q) * w (ValueIdx.ix2 q k)) 0 * u (ValueIdx.ix2 k (j 1)) := by
  unfold part k0_pay33 k0_pay31 k0_pay32
  simp only [shapeCast_id]
  rw [ValueIdx.eq_ix2 (inCh j)]
  refine (Ideal.matmul_plain_apply (M := 1024) (K := 512) (N := 256) none _ u _ _ _).trans ?_
  rw [show constant (F := Ideal) S1024x256 .f32 0x00000000#32 (ValueIdx.ix2 (inCh j 0) (inCh j 1)) = 0 from zero_f32, zero_add]
  refine Finset.sum_congr rfl fun k _ => ?_
  congr 1
  show max (FloatOps.matmul (DotDims.plain 1024 256 512) none _ _ _ (ValueIdx.ix2 (inCh j 0) k)) (Ideal.ofBits .f32 0x00000000#32) = _
  rw [zero_f32]
  refine congrArg (max · 0) ((Ideal.matmul_plain_apply (M := 1024) (K := 256) (N := 512) none _ w _ _ _).trans ?_)
  rw [show constant (F := Ideal) S1024x512 .f32 0x00000000#32 (ValueIdx.ix2 (inCh j 0) k) = 0 from zero_f32, zero_add]
  exact Finset.sum_congr rfl fun q _ => congrArg (fun v => x v * w (ValueIdx.ix2 q k)) (chIdx_row j q)

/-- A layer of the network, of whole arrays: the product, its negative entries cut off, the second product. -/
def lay (W : Vec Ideal ⟨2, ![256, 16384]⟩ .bf16) (U : Vec Ideal ⟨2, ![16384, 256]⟩ .bf16) (x : Vec Ideal S8192x256 .bf16) :
    Vec Ideal S8192x256 .bf16 :=
  fun j => ∑ K : Fin 16384, max (∑ q : Fin 256, x (ValueIdx.ix2 (j 0) q) * W (ValueIdx.ix2 q K)) 0 * U (ValueIdx.ix2 K (j 1))

/-- The devices' layer is the layer of the whole arrays. -/
theorem layer_eq (W : Vec Ideal ⟨2, ![256, 16384]⟩ .bf16) (U : Vec Ideal ⟨2, ![16384, 256]⟩ .bf16)
    {w : Dev nD → Vec Ideal S256x512 .bf16} {u : Dev nD → Vec Ideal S512x256 .bf16}
    (hw : ∀ d q k, w d (ValueIdx.ix2 q k) = W (ValueIdx.ix2 q (col d k))) (hu : ∀ d k r, u d (ValueIdx.ix2 k r) = U (ValueIdx.ix2 (col d k) r)) (x : Vec Ideal S8192x256 .bf16) :
    asm (sumV fun c => part (w c) (u c) x) = lay W U x := by
  funext j
  show sumV _ (ownerOf j) (inBlk j) = _
  rw [sumV_at, blkIdx_inBlk]
  unfold lay
  rw [← sum_cols fun K => max (∑ q : Fin 256, x (ValueIdx.ix2 (j 0) q) * W (ValueIdx.ix2 q K)) 0 * U (ValueIdx.ix2 K (j 1))]
  refine Finset.sum_congr rfl fun d _ => ?_
  rw [part_at]
  simp only [hw]
  exact Finset.sum_congr rfl fun k _ => congrArg (_ * ·) (hu d k (j 1))

end Cert.KernelIdeal.Hand

end
-- ==== Proof.Ref.Host.lean ====
/-
  The reference: its three layers as layers of whole arrays, and its run.
-/
module

public import proofs.«01_k».proof.Proof.Gen.ReferenceIdeal
public import proofs.«01_k».proof.Proof.Ideal.Sum
public import Idealize.ShloMosaic.Lib.Claim
public import Idealize.ShloMosaic.Lib.StackMember
public import Idealize.ShloMosaic.Lib.Quiescent

@[expose] public section

noncomputable section

namespace Cert.ReferenceIdeal.Hand

open Cert.ReferenceIdeal Cert.ReferenceIdeal.Gen
open Idealize.ShloMosaic Idealize.ShloMosaic.TcCoe Idealize.SL.Sem
open Cert.KernelIdeal.Hand (lay)

/-- A layer as the reference computes it. -/
def hostLay (hb : S_.BroadcastsInDim S8192x16384 ![]) (W : FVec Ideal S256x16384 .bf16) (U : FVec Ideal S16384x256 .bf16)
    (x : FVec Ideal S8192x256 .bf16) : FVec Ideal S8192x256 .bf16 :=
  truncf (F := Ideal) .bf16 (Host.dotGeneral dot_S8192x16384_S16384x256_S8192x256_1_0_0_1_n_n none
    (maximumf (truncf .bf16 (Host.dotGeneral dot_S8192x256_S256x16384_S8192x16384_1_0_0_1_n_n none x W) bitsLt_bf16_f32)
      (broadcastInDim S8192x16384 ![] hb (constant S_ .bf16 0x0000#16))) U) bitsLt_bf16_f32

theorem zero_bf16 : Ideal.ofBits .bf16 0x0000#16 = 0 := by simp [Ideal.ofBits, Ideal.ieee]

/-- It is the layer of whole arrays. -/
theorem hostLay_eq (hb : S_.BroadcastsInDim S8192x16384 ![]) (W : Vec Ideal S256x16384 .bf16) (U : Vec Ideal S16384x256 .bf16)
    (x : Vec Ideal S8192x256 .bf16) : hostLay hb W U x = lay W U x := by
  funext j
  rw [ValueIdx.eq_ix2 j]
  refine (StackMember.dotGeneral_plain_apply (m := 8192) (k := 16384) (n := 256) (φ₁ := .bf16) (φ₂ := .bf16) none _ U _ _).trans ?_
  refine Finset.sum_congr rfl fun K _ => congrArg (· * U (ValueIdx.ix2 K (j 1))) ?_
  exact congrArg₂ (max (α := EReal))
    (StackMember.dotGeneral_plain_apply (m := 8192) (k := 256) (n := 16384) (φ₁ := .bf16) (φ₂ := .bf16) none x W (j 0) K) zero_bf16

variable (m : (ℓ : Loc nD τ sig) → Buf (Elt Ideal) ℓ) (ρ : Dev nD → PrngReg)

/-- What the reference ends holding. -/
def out (c : Dev nD) : Vec Ideal S8192x256 .f32 :=
  lay (m ((c : Thread nD τ).loc main_arg5)) (m ((c : Thread nD τ).loc main_arg6))
    (lay (m ((c : Thread nD τ).loc main_arg3)) (m ((c : Thread nD τ).loc main_arg4))
      (lay (m ((c : Thread nD τ).loc main_arg1)) (m ((c : Thread nD τ).loc main_arg2)) (m ((c : Thread nD τ).loc main_arg0))))

theorem run_main : θ_run (defs (F := Ideal)) (onTc (τ := τ) (main (F := Ideal))) ⟨m, fun _ => 0, ρ⟩ (fun r => ∀ c : Dev nD,
    r.2.mem ((c : Thread nD τ).loc main_v18) = out m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)) := by
  hlo_run
  unfold out
  rw [← hostLay_eq bcast_S_S8192x16384, ← hostLay_eq bcast_S_S8192x16384, ← hostLay_eq bcast_S_S8192x16384]
  rfl

theorem sems_zero (s : MemSt nD τ sig (Elt Ideal)) : s.sem = fun _ => 0 := sem_eq_zero_of_no_sems (by decide) s

end Cert.ReferenceIdeal.Hand

end
-- ==== Proof.Ref.Value.lean ====
/-
  What the kernel's devices end holding is what the reference ends holding, when their arrays are blocks of its arrays.
-/
module

public import proofs.«01_k».proof.Proof.Ideal.Launch
public import proofs.«01_k».proof.Proof.Ref.Host
public import Idealize.ShloMosaic.Lib.Layout

@[expose] public section

noncomputable section

namespace Cert.KernelIdeal.Hand

open Cert.KernelIdeal Cert.KernelIdeal.Gen
open Idealize.ShloMosaic Idealize.ShloMosaic.TcCoe Idealize.SL.Sem

/-- A device's block of columns at an index. -/
theorem cols_at (W : Vec Ideal ⟨2, ![256, 16384]⟩ .bf16) (d : Dev nD) (h : Layout.Tiles ⟨2, ![256, 512]⟩ ⟨2, ![256, 16384]⟩ 1 32)
    (q : Fin 256) (k : Fin 512) : Layout.block ⟨2, ![256, 512]⟩ ⟨2, ![256, 16384]⟩ 1 32 d W h (ValueIdx.ix2 q k) = W (ValueIdx.ix2 q (col d k)) := by
  rw [Layout.block_apply]
  refine congrArg W (funext fun a => Fin.ext ?_)
  match a with
  | 0 => rfl
  | 1 => show d.val * 512 + k.val = 512 * d.val + k.val; omega

/-- A device's block of rows at an index. -/
theorem rows_at (U : Vec Ideal ⟨2, ![16384, 256]⟩ .bf16) (d : Dev nD) (h : Layout.Tiles ⟨2, ![512, 256]⟩ ⟨2, ![16384, 256]⟩ 0 32)
    (k : Fin 512) (r : Fin 256) : Layout.block ⟨2, ![512, 256]⟩ ⟨2, ![16384, 256]⟩ 0 32 d U h (ValueIdx.ix2 k r) = U (ValueIdx.ix2 (col d k) r) := by
  rw [Layout.block_apply]
  refine congrArg U (funext fun a => Fin.ext ?_)
  match a with
  | 0 => show d.val * 512 + k.val = 512 * d.val + k.val; omega
  | 1 => rfl

/-- The devices' blocks of the first input make up the whole. -/
theorem asm_blocks (X : Vec Ideal S8192x256 .bf16) (x : Dev nD → Vec Ideal S256x256 .bf16) (h : Layout.Tiles ⟨2, ![256, 256]⟩ ⟨2, ![8192, 256]⟩ 0 32)
    (hx : ∀ d, x d = Layout.block ⟨2, ![256, 256]⟩ ⟨2, ![8192, 256]⟩ 0 32 d X h) : asm (fun d => k0_pay24 (x d)) = X := by
  refine (eq_asm fun d => ?_).symm
  unfold k0_pay24 k0_pay23
  rw [shapeCast_id, shapeCast_id, hx]
  funext i
  rw [Layout.block_apply]
  refine congrArg X (funext fun a => Fin.ext ?_)
  match a with
  | 0 => show 256 * d.val + (i 0).val = d.val * 256 + (i 0).val; omega
  | 1 => rfl

/-- Three layers over the devices are three layers of whole arrays. -/
theorem asm_X (I : Inp Ideal) (X : Vec Ideal S8192x256 .bf16) (W : ℕ → Vec Ideal ⟨2, ![256, 16384]⟩ .bf16) (U : ℕ → Vec Ideal ⟨2, ![16384, 256]⟩ .bf16)
    (hx : asm (fun d => k0_pay24 (I.x d)) = X)
    (hw : ∀ l, l < 3 → ∀ d q k, I.win l d (ValueIdx.ix2 q k) = W l (ValueIdx.ix2 q (col d k)))
    (hu : ∀ l, l < 3 → ∀ d k r, I.wout l d (ValueIdx.ix2 k r) = U l (ValueIdx.ix2 (col d k) r)) :
    asm (I.X 3) = lay (W 2) (U 2) (lay (W 1) (U 1) (lay (W 0) (U 0) X)) := by
  have e0 : asm (I.X 0) = X := hx
  have e : ∀ l, l < 3 → asm (I.X (l + 1)) = lay (W l) (U l) (asm (I.X l)) := fun l hl => layer_eq (W l) (U l) (hw l hl) (hu l hl) _
  rw [e 2 (by decide), e 1 (by decide), e 0 (by decide), e0]

end Cert.KernelIdeal.Hand

end
-- ==== Proof.lean ====
module

public import proofs.«01_k».proof.Defs
public import proofs.«01_k».proof.Proof.Bits.Run
public import proofs.«01_k».proof.Proof.Ideal.Run
public import proofs.«01_k».proof.Proof.Ref.Value

@[expose] public section

noncomputable section

namespace Cert.Proof

open Idealize.ShloMosaic Idealize.SL.Sem

/-- The kernel, at the bit patterns, ends with its arguments as they were and nothing outstanding. -/
theorem quiescent_kernel : Cert.quiescent_Kernel := fun m g _ =>
  θ_run_mono (Cert.Kernel.Hand.run_main m g) fun _ h => ⟨fun c => (h.1 c).1, h.2⟩

/-- The same at the extended reals. -/
theorem quiescent_kernelIdeal : Cert.quiescent_KernelIdeal := fun m g _ =>
  θ_run_mono (Cert.KernelIdeal.Hand.run_main m g) fun _ h => ⟨fun c => (h.1 c).1, h.2⟩

/-- The reference too. -/
theorem quiescent_referenceIdeal : Cert.quiescent_ReferenceIdeal := fun m g _ =>
  θ_run_mono (Cert.ReferenceIdeal.Hand.run_main m g) fun r h => ⟨fun c => (h c).2, Cert.ReferenceIdeal.Hand.sems_zero r.2⟩

/-- Every device of the kernel ends holding the reference's result. -/
theorem algebraic : Cert.algebraic_KernelIdeal_ReferenceIdeal := fun m g m' g' _ hag => by
  have e : Cert.KernelIdeal.Hand.res m = Cert.ReferenceIdeal.Hand.out m' 0 := by
    refine Eq.trans (b := Cert.KernelIdeal.Hand.asm ((Cert.KernelIdeal.Hand.inp m).X 3)) rfl ?_
    refine Cert.KernelIdeal.Hand.asm_X (Cert.KernelIdeal.Hand.inp m) _
      (fun l => match l with
        | 0 => m' (((0 : Dev Cert.ReferenceIdeal.nD).tc : Thread Cert.ReferenceIdeal.nD Cert.ReferenceIdeal.τ).loc Cert.ReferenceIdeal.main_arg1)
        | 1 => m' (((0 : Dev Cert.ReferenceIdeal.nD).tc : Thread Cert.ReferenceIdeal.nD Cert.ReferenceIdeal.τ).loc Cert.ReferenceIdeal.main_arg3)
        | _ => m' (((0 : Dev Cert.ReferenceIdeal.nD).tc : Thread Cert.ReferenceIdeal.nD Cert.ReferenceIdeal.τ).loc Cert.ReferenceIdeal.main_arg5))
      (fun l => match l with
        | 0 => m' (((0 : Dev Cert.ReferenceIdeal.nD).tc : Thread Cert.ReferenceIdeal.nD Cert.ReferenceIdeal.τ).loc Cert.ReferenceIdeal.main_arg2)
        | 1 => m' (((0 : Dev Cert.ReferenceIdeal.nD).tc : Thread Cert.ReferenceIdeal.nD Cert.ReferenceIdeal.τ).loc Cert.ReferenceIdeal.main_arg4)
        | _ => m' (((0 : Dev Cert.ReferenceIdeal.nD).tc : Thread Cert.ReferenceIdeal.nD Cert.ReferenceIdeal.τ).loc Cert.ReferenceIdeal.main_arg6))
      ?_ ?_ ?_
    · exact Cert.KernelIdeal.Hand.asm_blocks _ _ (by decide) fun d => (hag d).1
    · intro l hl d q k
      match l, hl with
      | 0, _ => exact (congrFun (hag d).2.1 _).trans (Cert.KernelIdeal.Hand.cols_at _ d _ q k)
      | 1, _ => exact (congrFun (hag d).2.2.2.1 _).trans (Cert.KernelIdeal.Hand.cols_at _ d _ q k)
      | 2, _ => exact (congrFun (hag d).2.2.2.2.2.1 _).trans (Cert.KernelIdeal.Hand.cols_at _ d _ q k)
    · intro l hl d k r
      match l, hl with
      | 0, _ => exact (congrFun (hag d).2.2.1 _).trans (Cert.KernelIdeal.Hand.rows_at _ d _ k r)
      | 1, _ => exact (congrFun (hag d).2.2.2.2.1 _).trans (Cert.KernelIdeal.Hand.rows_at _ d _ k r)
      | 2, _ => exact (congrFun (hag d).2.2.2.2.2.2 _).trans (Cert.KernelIdeal.Hand.rows_at _ d _ k r)
  refine ⟨Cert.ReferenceIdeal.Hand.out m' 0, ?_, ?_⟩
  · exact θ_run_mono (Cert.KernelIdeal.Hand.run_main m g) fun _ h c => ⟨(h.1 c).2.trans e, (h.1 c).1⟩
  · exact θ_run_mono (Cert.ReferenceIdeal.Hand.run_main m' g') fun _ h => h 0

theorem claim : Cert.Claim :=
  ⟨Cert.Kernel.Gen.facts, Cert.KernelIdeal.Gen.facts, Cert.ReferenceIdeal.Gen.facts,
    quiescent_kernel, quiescent_kernelIdeal, quiescent_referenceIdeal, trivial, algebraic⟩

end Cert.Proof

end
